-- ==== Defs.lean ====
def Pre_AttnKernel (m : (ℓ : Loc Cert.AttnKernel.nD Cert.AttnKernel.τ Cert.AttnKernel.sig) → Buf (Elt Bits) ℓ) : Prop :=
  True

def Pre_AttnKernelIdeal (m : (ℓ : Loc Cert.AttnKernelIdeal.nD Cert.AttnKernelIdeal.τ Cert.AttnKernelIdeal.sig) → Buf (Elt Ideal) ℓ) : Prop :=
  True

def Pre_AttnKernelIdeal_finite [hPre_finite : Cert.Pre_finite.Facts] (m : (ℓ : Loc Cert.AttnKernelIdeal.nD Cert.AttnKernelIdeal.τ Cert.AttnKernelIdeal.sig) → Buf (Elt Ideal) ℓ) : Prop :=
  ∀ c : Dev Cert.AttnKernelIdeal.nD,
    (Cert.Pre_finite.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1))).1 = (fun _ => 1#1)
    ∧ (Cert.Pre_finite.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1))).2 = (fun _ => 1#1)

def Pre_AttnReferenceIdeal (m : (ℓ : Loc Cert.AttnReferenceIdeal.nD Cert.AttnReferenceIdeal.τ Cert.AttnReferenceIdeal.sig) → Buf (Elt Ideal) ℓ) : Prop :=
  True

def Pre_AttnReferenceIdeal_finite [hPre_finite : Cert.Pre_finite.Facts] (m : (ℓ : Loc Cert.AttnReferenceIdeal.nD Cert.AttnReferenceIdeal.τ Cert.AttnReferenceIdeal.sig) → Buf (Elt Ideal) ℓ) : Prop :=
  ∀ c : Dev Cert.AttnReferenceIdeal.nD,
    (Cert.Pre_finite.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1))).1 = (fun _ => 1#1)
    ∧ (Cert.Pre_finite.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1))).2 = (fun _ => 1#1)

def Pre_MlpKernel (m : (ℓ : Loc Cert.MlpKernel.nD Cert.MlpKernel.τ Cert.MlpKernel.sig) → Buf (Elt Bits) ℓ) : Prop :=
  True

def Pre_MlpKernelIdeal (m : (ℓ : Loc Cert.MlpKernelIdeal.nD Cert.MlpKernelIdeal.τ Cert.MlpKernelIdeal.sig) → Buf (Elt Ideal) ℓ) : Prop :=
  True

def Pre_MlpReferenceIdeal (m : (ℓ : Loc Cert.MlpReferenceIdeal.nD Cert.MlpReferenceIdeal.τ Cert.MlpReferenceIdeal.sig) → Buf (Elt Ideal) ℓ) : Prop :=
  True

def Pre_GatesKernel (m : (ℓ : Loc Cert.GatesKernel.nD Cert.GatesKernel.τ Cert.GatesKernel.sig) → Buf (Elt Bits) ℓ) : Prop :=
  True

def Pre_GatesKernelIdeal (m : (ℓ : Loc Cert.GatesKernelIdeal.nD Cert.GatesKernelIdeal.τ Cert.GatesKernelIdeal.sig) → Buf (Elt Ideal) ℓ) : Prop :=
  True

def Pre_GatesReferenceIdeal (m : (ℓ : Loc Cert.GatesReferenceIdeal.nD Cert.GatesReferenceIdeal.τ Cert.GatesReferenceIdeal.sig) → Buf (Elt Ideal) ℓ) : Prop :=
  True

def Pre_QkvKernel (m : (ℓ : Loc Cert.QkvKernel.nD Cert.QkvKernel.τ Cert.QkvKernel.sig) → Buf (Elt Bits) ℓ) : Prop :=
  True

def Pre_QkvKernelIdeal (m : (ℓ : Loc Cert.QkvKernelIdeal.nD Cert.QkvKernelIdeal.τ Cert.QkvKernelIdeal.sig) → Buf (Elt Ideal) ℓ) : Prop :=
  True

def Pre_QkvReferenceIdeal (m : (ℓ : Loc Cert.QkvReferenceIdeal.nD Cert.QkvReferenceIdeal.τ Cert.QkvReferenceIdeal.sig) → Buf (Elt Ideal) ℓ) : Prop :=
  True

def Pre_MergeKernel (m : (ℓ : Loc Cert.MergeKernel.nD Cert.MergeKernel.τ Cert.MergeKernel.sig) → Buf (Elt Bits) ℓ) : Prop :=
  True

def Pre_MergeKernelIdeal (m : (ℓ : Loc Cert.MergeKernelIdeal.nD Cert.MergeKernelIdeal.τ Cert.MergeKernelIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_ResidKernel (m : (ℓ : Loc Cert.ResidKernel.nD Cert.ResidKernel.τ Cert.ResidKernel.sig) → Buf (Elt Bits) ℓ) : Prop :=
  True

def Pre_ResidKernelIdeal (m : (ℓ : Loc Cert.ResidKernelIdeal.nD Cert.ResidKernelIdeal.τ Cert.ResidKernelIdeal.sig) → Buf (Elt Ideal) ℓ) : Prop :=
  True

def Pre_ResidReferenceIdeal (m : (ℓ : Loc Cert.ResidReferenceIdeal.nD Cert.ResidReferenceIdeal.τ Cert.ResidReferenceIdeal.sig) → Buf (Elt Ideal) ℓ) : Prop :=
  True

def Pre_ResidNormKernel (m : (ℓ : Loc Cert.ResidNormKernel.nD Cert.ResidNormKernel.τ Cert.ResidNormKernel.sig) → Buf (Elt Bits) ℓ) : Prop :=
  True

def Pre_ResidNormKernelIdeal (m : (ℓ : Loc Cert.ResidNormKernelIdeal.nD Cert.ResidNormKernelIdeal.τ Cert.ResidNormKernelIdeal.sig) → Buf (Elt Ideal) ℓ) : Prop :=
  True

def Pre_ResidNormReferenceIdeal (m : (ℓ : Loc Cert.ResidNormReferenceIdeal.nD Cert.ResidNormReferenceIdeal.τ Cert.ResidNormReferenceIdeal.sig) → Buf (Elt Ideal) ℓ) : Prop :=
  True

def Pre_NormKernel (m : (ℓ : Loc Cert.NormKernel.nD Cert.NormKernel.τ Cert.NormKernel.sig) → Buf (Elt Bits) ℓ) : Prop :=
  True

def Pre_NormKernelIdeal (m : (ℓ : Loc Cert.NormKernelIdeal.nD Cert.NormKernelIdeal.τ Cert.NormKernelIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_PleKernel (m : (ℓ : Loc Cert.PleKernel.nD Cert.PleKernel.τ Cert.PleKernel.sig) → Buf (Elt Bits) ℓ) : Prop :=
  True

def Pre_PleKernelIdeal (m : (ℓ : Loc Cert.PleKernelIdeal.nD Cert.PleKernelIdeal.τ Cert.PleKernelIdeal.sig) → Buf (Elt Ideal) ℓ) : Prop :=
  True

def Pre_PleReferenceIdeal (m : (ℓ : Loc Cert.PleReferenceIdeal.nD Cert.PleReferenceIdeal.τ Cert.PleReferenceIdeal.sig) → Buf (Elt Ideal) ℓ) : Prop :=
  True

def quiescent_AttnKernel [hAttnKernel : Cert.AttnKernel.Facts] : Prop :=
  ∀ (m : (ℓ : Loc Cert.AttnKernel.nD Cert.AttnKernel.τ Cert.AttnKernel.sig) → Buf (Elt Bits) ℓ) (g : Dev Cert.AttnKernel.nD → PrngReg), Pre_AttnKernel m →
    θ_run (Cert.AttnKernel.defs (F := Bits)) (onTc (τ := Cert.AttnKernel.τ) (Cert.AttnKernel.main (F := Bits))) ⟨m, fun _ => 0, g⟩ (fun r => (∀ c : Dev Cert.AttnKernel.nD,
      r.2.mem ((c.tc : Thread Cert.AttnKernel.nD Cert.AttnKernel.τ).loc Cert.AttnKernel.main_arg0) = m ((c.tc : Thread Cert.AttnKernel.nD Cert.AttnKernel.τ).loc Cert.AttnKernel.main_arg0)
      ∧ r.2.mem ((c.tc : Thread Cert.AttnKernel.nD Cert.AttnKernel.τ).loc Cert.AttnKernel.main_arg1) = m ((c.tc : Thread Cert.AttnKernel.nD Cert.AttnKernel.τ).loc Cert.AttnKernel.main_arg1))
      ∧ r.2.sem = fun _ => 0)

def quiescent_AttnKernelIdeal [hAttnKernelIdeal : Cert.AttnKernelIdeal.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg), Pre_AttnKernelIdeal m →
    θ_run (Cert.AttnKernelIdeal.defs (F := Ideal)) (onTc (τ := Cert.AttnKernelIdeal.τ) (Cert.AttnKernelIdeal.main (F := Ideal))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1))
      ∧ r.2.sem = fun _ => 0)

def quiescent_AttnKernelIdeal_pre_finite [hAttnKernelIdeal : Cert.AttnKernelIdeal.Facts] [hPre_finite : Cert.Pre_finite.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg), Pre_AttnKernelIdeal_finite m →
    θ_run (Cert.AttnKernelIdeal.defs (F := Ideal)) (onTc (τ := Cert.AttnKernelIdeal.τ) (Cert.AttnKernelIdeal.main (F := Ideal))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1))
      ∧ r.2.sem = fun _ => 0)

def quiescent_AttnReferenceIdeal [hAttnReferenceIdeal : Cert.AttnReferenceIdeal.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1))
      ∧ r.2.sem = fun _ => 0)

def quiescent_AttnReferenceIdeal_pre_finite [hAttnReferenceIdeal : Cert.AttnReferenceIdeal.Facts] [hPre_finite : Cert.Pre_finite.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal_finite m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1))
      ∧ r.2.sem = fun _ => 0)

def quiescent_MlpKernel [hMlpKernel : Cert.MlpKernel.Facts] : Prop :=
  ∀ (m : (ℓ : Loc Cert.MlpKernel.nD Cert.MlpKernel.τ Cert.MlpKernel.sig) → Buf (Elt Bits) ℓ) (g : Dev Cert.MlpKernel.nD → PrngReg), Pre_MlpKernel m →
    θ_run (Cert.MlpKernel.defs (F := Bits)) (onTc (τ := Cert.MlpKernel.τ) (Cert.MlpKernel.main (F := Bits))) ⟨m, fun _ => 0, g⟩ (fun r => (∀ c : Dev Cert.MlpKernel.nD,
      r.2.mem ((c.tc : Thread Cert.MlpKernel.nD Cert.MlpKernel.τ).loc Cert.MlpKernel.main_arg0) = m ((c.tc : Thread Cert.MlpKernel.nD Cert.MlpKernel.τ).loc Cert.MlpKernel.main_arg0)
      ∧ r.2.mem ((c.tc : Thread Cert.MlpKernel.nD Cert.MlpKernel.τ).loc Cert.MlpKernel.main_arg1) = m ((c.tc : Thread Cert.MlpKernel.nD Cert.MlpKernel.τ).loc Cert.MlpKernel.main_arg1)
      ∧ r.2.mem ((c.tc : Thread Cert.MlpKernel.nD Cert.MlpKernel.τ).loc Cert.MlpKernel.main_arg2) = m ((c.tc : Thread Cert.MlpKernel.nD Cert.MlpKernel.τ).loc Cert.MlpKernel.main_arg2))
      ∧ r.2.sem = fun _ => 0)

def quiescent_MlpKernelIdeal [hMlpKernelIdeal : Cert.MlpKernelIdeal.Facts] : Prop :=
  ∀ (m : (ℓ : Loc Cert.MlpKernelIdeal.nD Cert.MlpKernelIdeal.τ Cert.MlpKernelIdeal.sig) → Buf (Elt Ideal) ℓ) (g : Dev Cert.MlpKernelIdeal.nD → PrngReg), Pre_MlpKernelIdeal m →
    θ_run (Cert.MlpKernelIdeal.defs (F := Ideal)) (onTc (τ := Cert.MlpKernelIdeal.τ) (Cert.MlpKernelIdeal.main (F := Ideal))) ⟨m, fun _ => 0, g⟩ (fun r => (∀ c : Dev Cert.MlpKernelIdeal.nD,
      r.2.mem ((c.tc : Thread Cert.MlpKernelIdeal.nD Cert.MlpKernelIdeal.τ).loc Cert.MlpKernelIdeal.main_arg0) = m ((c.tc : Thread Cert.MlpKernelIdeal.nD Cert.MlpKernelIdeal.τ).loc Cert.MlpKernelIdeal.main_arg0)
      ∧ r.2.mem ((c.tc : Thread Cert.MlpKernelIdeal.nD Cert.MlpKernelIdeal.τ).loc Cert.MlpKernelIdeal.main_arg1) = m ((c.tc : Thread Cert.MlpKernelIdeal.nD Cert.MlpKernelIdeal.τ).loc Cert.MlpKernelIdeal.main_arg1)
      ∧ r.2.mem ((c.tc : Thread Cert.MlpKernelIdeal.nD Cert.MlpKernelIdeal.τ).loc Cert.MlpKernelIdeal.main_arg2) = m ((c.tc : Thread Cert.MlpKernelIdeal.nD Cert.MlpKernelIdeal.τ).loc Cert.MlpKernelIdeal.main_arg2))
      ∧ r.2.sem = fun _ => 0)

def quiescent_MlpReferenceIdeal [hMlpReferenceIdeal : Cert.MlpReferenceIdeal.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2))
      ∧ r.2.sem = fun _ => 0)

def quiescent_GatesKernel [hGatesKernel : Cert.GatesKernel.Facts] : Prop :=
  ∀ (m : (ℓ : Loc Cert.GatesKernel.nD Cert.GatesKernel.τ Cert.GatesKernel.sig) → Buf (Elt Bits) ℓ) (g : Dev Cert.GatesKernel.nD → PrngReg), Pre_GatesKernel m →
    θ_run (Cert.GatesKernel.defs (F := Bits)) (onTc (τ := Cert.GatesKernel.τ) (Cert.GatesKernel.main (F := Bits))) ⟨m, fun _ => 0, g⟩ (fun r => (∀ c : Dev Cert.GatesKernel.nD,
      r.2.mem ((c.tc : Thread Cert.GatesKernel.nD Cert.GatesKernel.τ).loc Cert.GatesKernel.main_arg0) = m ((c.tc : Thread Cert.GatesKernel.nD Cert.GatesKernel.τ).loc Cert.GatesKernel.main_arg0)
      ∧ r.2.mem ((c.tc : Thread Cert.GatesKernel.nD Cert.GatesKernel.τ).loc Cert.GatesKernel.main_arg1) = m ((c.tc : Thread Cert.GatesKernel.nD Cert.GatesKernel.τ).loc Cert.GatesKernel.main_arg1)
      ∧ r.2.mem ((c.tc : Thread Cert.GatesKernel.nD Cert.GatesKernel.τ).loc Cert.GatesKernel.main_arg2) = m ((c.tc : Thread Cert.GatesKernel.nD Cert.GatesKernel.τ).loc Cert.GatesKernel.main_arg2)
      ∧ r.2.mem ((c.tc : Thread Cert.GatesKernel.nD Cert.GatesKernel.τ).loc Cert.GatesKernel.main_arg3) = m ((c.tc : Thread Cert.GatesKernel.nD Cert.GatesKernel.τ).loc Cert.GatesKernel.main_arg3)
      ∧ r.2.mem ((c.tc : Thread Cert.GatesKernel.nD Cert.GatesKernel.τ).loc Cert.GatesKernel.main_arg4) = m ((c.tc : Thread Cert.GatesKernel.nD Cert.GatesKernel.τ).loc Cert.GatesKernel.main_arg4)
      ∧ r.2.mem ((c.tc : Thread Cert.GatesKernel.nD Cert.GatesKernel.τ).loc Cert.GatesKernel.main_arg5) = m ((c.tc : Thread Cert.GatesKernel.nD Cert.GatesKernel.τ).loc Cert.GatesKernel.main_arg5)
      ∧ r.2.mem ((c.tc : Thread Cert.GatesKernel.nD Cert.GatesKernel.τ).loc Cert.GatesKernel.main_arg6) = m ((c.tc : Thread Cert.GatesKernel.nD Cert.GatesKernel.τ).loc Cert.GatesKernel.main_arg6)
      ∧ r.2.mem ((c.tc : Thread Cert.GatesKernel.nD Cert.GatesKernel.τ).loc Cert.GatesKernel.main_arg7) = m ((c.tc : Thread Cert.GatesKernel.nD Cert.GatesKernel.τ).loc Cert.GatesKernel.main_arg7))
      ∧ r.2.sem = fun _ => 0)

def quiescent_GatesKernelIdeal [hGatesKernelIdeal : Cert.GatesKernelIdeal.Facts] : Prop :=
  ∀ (m : (ℓ : Loc Cert.GatesKernelIdeal.nD Cert.GatesKernelIdeal.τ Cert.GatesKernelIdeal.sig) → Buf (Elt Ideal) ℓ) (g : Dev Cert.GatesKernelIdeal.nD → PrngReg), Pre_GatesKernelIdeal m →
    θ_run (Cert.GatesKernelIdeal.defs (F := Ideal)) (onTc (τ := Cert.GatesKernelIdeal.τ) (Cert.GatesKernelIdeal.main (F := Ideal))) ⟨m, fun _ => 0, g⟩ (fun r => (∀ c : Dev Cert.GatesKernelIdeal.nD,
      r.2.mem ((c.tc : Thread Cert.GatesKernelIdeal.nD Cert.GatesKernelIdeal.τ).loc Cert.GatesKernelIdeal.main_arg0) = m ((c.tc : Thread Cert.GatesKernelIdeal.nD Cert.GatesKernelIdeal.τ).loc Cert.GatesKernelIdeal.main_arg0)
      ∧ r.2.mem ((c.tc : Thread Cert.GatesKernelIdeal.nD Cert.GatesKernelIdeal.τ).loc Cert.GatesKernelIdeal.main_arg1) = m ((c.tc : Thread Cert.GatesKernelIdeal.nD Cert.GatesKernelIdeal.τ).loc Cert.GatesKernelIdeal.main_arg1)
      ∧ r.2.mem ((c.tc : Thread Cert.GatesKernelIdeal.nD Cert.GatesKernelIdeal.τ).loc Cert.GatesKernelIdeal.main_arg2) = m ((c.tc : Thread Cert.GatesKernelIdeal.nD Cert.GatesKernelIdeal.τ).loc Cert.GatesKernelIdeal.main_arg2)
      ∧ r.2.mem ((c.tc : Thread Cert.GatesKernelIdeal.nD Cert.GatesKernelIdeal.τ).loc Cert.GatesKernelIdeal.main_arg3) = m ((c.tc : Thread Cert.GatesKernelIdeal.nD Cert.GatesKernelIdeal.τ).loc Cert.GatesKernelIdeal.main_arg3)
      ∧ r.2.mem ((c.tc : Thread Cert.GatesKernelIdeal.nD Cert.GatesKernelIdeal.τ).loc Cert.GatesKernelIdeal.main_arg4) = m ((c.tc : Thread Cert.GatesKernelIdeal.nD Cert.GatesKernelIdeal.τ).loc Cert.GatesKernelIdeal.main_arg4)
      ∧ r.2.mem ((c.tc : Thread Cert.GatesKernelIdeal.nD Cert.GatesKernelIdeal.τ).loc Cert.GatesKernelIdeal.main_arg5) = m ((c.tc : Thread Cert.GatesKernelIdeal.nD Cert.GatesKernelIdeal.τ).loc Cert.GatesKernelIdeal.main_arg5)
      ∧ r.2.mem ((c.tc : Thread Cert.GatesKernelIdeal.nD Cert.GatesKernelIdeal.τ).loc Cert.GatesKernelIdeal.main_arg6) = m ((c.tc : Thread Cert.GatesKernelIdeal.nD Cert.GatesKernelIdeal.τ).loc Cert.GatesKernelIdeal.main_arg6)
      ∧ r.2.mem ((c.tc : Thread Cert.GatesKernelIdeal.nD Cert.GatesKernelIdeal.τ).loc Cert.GatesKernelIdeal.main_arg7) = m ((c.tc : Thread Cert.GatesKernelIdeal.nD Cert.GatesKernelIdeal.τ).loc Cert.GatesKernelIdeal.main_arg7))
      ∧ r.2.sem = fun _ => 0)

def quiescent_GatesReferenceIdeal [hGatesReferenceIdeal : Cert.GatesReferenceIdeal.Facts] : Prop :=
  ∀ (m : (ℓ : Loc Cert.GatesReferenceIdeal.nD Cert.GatesReferenceIdeal.τ Cert.GatesReferenceIdeal.sig) → Buf (Elt Ideal) ℓ) (g : Dev Cert.GatesReferenceIdeal.nD → PrngReg), Pre_GatesReferenceIdeal m →
    θ_run (Cert.GatesReferenceIdeal.defs (F := Ideal)) (onTc (τ := Cert.GatesReferenceIdeal.τ) (Cert.GatesReferenceIdeal.main (F := Ideal))) ⟨m, fun _ => 0, g⟩ (fun r => (∀ c : Dev Cert.GatesReferenceIdeal.nD,
      r.2.mem ((c.tc : Thread Cert.GatesReferenceIdeal.nD Cert.GatesReferenceIdeal.τ).loc Cert.GatesReferenceIdeal.main_arg0) = m ((c.tc : Thread Cert.GatesReferenceIdeal.nD Cert.GatesReferenceIdeal.τ).loc Cert.GatesReferenceIdeal.main_arg0)
      ∧ r.2.mem ((c.tc : Thread Cert.GatesReferenceIdeal.nD Cert.GatesReferenceIdeal.τ).loc Cert.GatesReferenceIdeal.main_arg1) = m ((c.tc : Thread Cert.GatesReferenceIdeal.nD Cert.GatesReferenceIdeal.τ).loc Cert.GatesReferenceIdeal.main_arg1)
      ∧ r.2.mem ((c.tc : Thread Cert.GatesReferenceIdeal.nD Cert.GatesReferenceIdeal.τ).loc Cert.GatesReferenceIdeal.main_arg2) = m ((c.tc : Thread Cert.GatesReferenceIdeal.nD Cert.GatesReferenceIdeal.τ).loc Cert.GatesReferenceIdeal.main_arg2)
      ∧ r.2.mem ((c.tc : Thread Cert.GatesReferenceIdeal.nD Cert.GatesReferenceIdeal.τ).loc Cert.GatesReferenceIdeal.main_arg3) = m ((c.tc : Thread Cert.GatesReferenceIdeal.nD Cert.GatesReferenceIdeal.τ).loc Cert.GatesReferenceIdeal.main_arg3)
      ∧ r.2.mem ((c.tc : Thread Cert.GatesReferenceIdeal.nD Cert.GatesReferenceIdeal.τ).loc Cert.GatesReferenceIdeal.main_arg4) = m ((c.tc : Thread Cert.GatesReferenceIdeal.nD Cert.GatesReferenceIdeal.τ).loc Cert.GatesReferenceIdeal.main_arg4)
      ∧ r.2.mem ((c.tc : Thread Cert.GatesReferenceIdeal.nD Cert.GatesReferenceIdeal.τ).loc Cert.GatesReferenceIdeal.main_arg5) = m ((c.tc : Thread Cert.GatesReferenceIdeal.nD Cert.GatesReferenceIdeal.τ).loc Cert.GatesReferenceIdeal.main_arg5)
      ∧ r.2.mem ((c.tc : Thread Cert.GatesReferenceIdeal.nD Cert.GatesReferenceIdeal.τ).loc Cert.GatesReferenceIdeal.main_arg6) = m ((c.tc : Thread Cert.GatesReferenceIdeal.nD Cert.GatesReferenceIdeal.τ).loc Cert.GatesReferenceIdeal.main_arg6)
      ∧ r.2.mem ((c.tc : Thread Cert.GatesReferenceIdeal.nD Cert.GatesReferenceIdeal.τ).loc Cert.GatesReferenceIdeal.main_arg7) = m ((c.tc : Thread Cert.GatesReferenceIdeal.nD Cert.GatesReferenceIdeal.τ).loc Cert.GatesReferenceIdeal.main_arg7))
      ∧ r.2.sem = fun _ => 0)

def quiescent_QkvKernel [hQkvKernel : Cert.QkvKernel.Facts] : Prop :=
  ∀ (m : (ℓ : Loc Cert.QkvKernel.nD Cert.QkvKernel.τ Cert.QkvKernel.sig) → Buf (Elt Bits) ℓ) (g : Dev Cert.QkvKernel.nD → PrngReg), Pre_QkvKernel m →
    θ_run (Cert.QkvKernel.defs (F := Bits)) (onTc (τ := Cert.QkvKernel.τ) (Cert.QkvKernel.main (F := Bits))) ⟨m, fun _ => 0, g⟩ (fun r => (∀ c : Dev Cert.QkvKernel.nD,
      r.2.mem ((c.tc : Thread Cert.QkvKernel.nD Cert.QkvKernel.τ).loc Cert.QkvKernel.main_arg0) = m ((c.tc : Thread Cert.QkvKernel.nD Cert.QkvKernel.τ).loc Cert.QkvKernel.main_arg0)
      ∧ r.2.mem ((c.tc : Thread Cert.QkvKernel.nD Cert.QkvKernel.τ).loc Cert.QkvKernel.main_arg1) = m ((c.tc : Thread Cert.QkvKernel.nD Cert.QkvKernel.τ).loc Cert.QkvKernel.main_arg1))
      ∧ r.2.sem = fun _ => 0)

def quiescent_QkvKernelIdeal [hQkvKernelIdeal : Cert.QkvKernelIdeal.Facts] : Prop :=
  ∀ (m : (ℓ : Loc Cert.QkvKernelIdeal.nD Cert.QkvKernelIdeal.τ Cert.QkvKernelIdeal.sig) → Buf (Elt Ideal) ℓ) (g : Dev Cert.QkvKernelIdeal.nD → PrngReg), Pre_QkvKernelIdeal m →
    θ_run (Cert.QkvKernelIdeal.defs (F := Ideal)) (onTc (τ := Cert.QkvKernelIdeal.τ) (Cert.QkvKernelIdeal.main (F := Ideal))) ⟨m, fun _ => 0, g⟩ (fun r => (∀ c : Dev Cert.QkvKernelIdeal.nD,
      r.2.mem ((c.tc : Thread Cert.QkvKernelIdeal.nD Cert.QkvKernelIdeal.τ).loc Cert.QkvKernelIdeal.main_arg0) = m ((c.tc : Thread Cert.QkvKernelIdeal.nD Cert.QkvKernelIdeal.τ).loc Cert.QkvKernelIdeal.main_arg0)
      ∧ r.2.mem ((c.tc : Thread Cert.QkvKernelIdeal.nD Cert.QkvKernelIdeal.τ).loc Cert.QkvKernelIdeal.main_arg1) = m ((c.tc : Thread Cert.QkvKernelIdeal.nD Cert.QkvKernelIdeal.τ).loc Cert.QkvKernelIdeal.main_arg1))
      ∧ r.2.sem = fun _ => 0)

def quiescent_QkvReferenceIdeal [hQkvReferenceIdeal : Cert.QkvReferenceIdeal.Facts] : Prop :=
  ∀ (m : (ℓ : Loc Cert.QkvReferenceIdeal.nD Cert.QkvReferenceIdeal.τ Cert.QkvReferenceIdeal.sig) → Buf (Elt Ideal) ℓ) (g : Dev Cert.QkvReferenceIdeal.nD → PrngReg), Pre_QkvReferenceIdeal m →
    θ_run (Cert.QkvReferenceIdeal.defs (F := Ideal)) (onTc (τ := Cert.QkvReferenceIdeal.τ) (Cert.QkvReferenceIdeal.main (F := Ideal))) ⟨m, fun _ => 0, g⟩ (fun r => (∀ c : Dev Cert.QkvReferenceIdeal.nD,
      r.2.mem ((c.tc : Thread Cert.QkvReferenceIdeal.nD Cert.QkvReferenceIdeal.τ).loc Cert.QkvReferenceIdeal.main_arg0) = m ((c.tc : Thread Cert.QkvReferenceIdeal.nD Cert.QkvReferenceIdeal.τ).loc Cert.QkvReferenceIdeal.main_arg0)
      ∧ r.2.mem ((c.tc : Thread Cert.QkvReferenceIdeal.nD Cert.QkvReferenceIdeal.τ).loc Cert.QkvReferenceIdeal.main_arg1) = m ((c.tc : Thread Cert.QkvReferenceIdeal.nD Cert.QkvReferenceIdeal.τ).loc Cert.QkvReferenceIdeal.main_arg1))
      ∧ r.2.sem = fun _ => 0)

def quiescent_MergeKernel [hMergeKernel : Cert.MergeKernel.Facts] : Prop :=
  ∀ (m : (ℓ : Loc Cert.MergeKernel.nD Cert.MergeKernel.τ Cert.MergeKernel.sig) → Buf (Elt Bits) ℓ) (g : Dev Cert.MergeKernel.nD → PrngReg), Pre_MergeKernel m →
    θ_run (Cert.MergeKernel.defs (F := Bits)) (onTc (τ := Cert.MergeKernel.τ) (Cert.MergeKernel.main (F := Bits))) ⟨m, fun _ => 0, g⟩ (fun r => (∀ c : Dev Cert.MergeKernel.nD,
      r.2.mem ((c.tc : Thread Cert.MergeKernel.nD Cert.MergeKernel.τ).loc Cert.MergeKernel.main_arg0) = m ((c.tc : Thread Cert.MergeKernel.nD Cert.MergeKernel.τ).loc Cert.MergeKernel.main_arg0)
      ∧ r.2.mem ((c.tc : Thread Cert.MergeKernel.nD Cert.MergeKernel.τ).loc Cert.MergeKernel.main_arg1) = m ((c.tc : Thread Cert.MergeKernel.nD Cert.MergeKernel.τ).loc Cert.MergeKernel.main_arg1)
      ∧ r.2.mem ((c.tc : Thread Cert.MergeKernel.nD Cert.MergeKernel.τ).loc Cert.MergeKernel.main_arg2) = m ((c.tc : Thread Cert.MergeKernel.nD Cert.MergeKernel.τ).loc Cert.MergeKernel.main_arg2)
      ∧ r.2.mem ((c.tc : Thread Cert.MergeKernel.nD Cert.MergeKernel.τ).loc Cert.MergeKernel.main_arg3) = m ((c.tc : Thread Cert.MergeKernel.nD Cert.MergeKernel.τ).loc Cert.MergeKernel.main_arg3)
      ∧ r.2.mem ((c.tc : Thread Cert.MergeKernel.nD Cert.MergeKernel.τ).loc Cert.MergeKernel.main_arg4) = m ((c.tc : Thread Cert.MergeKernel.nD Cert.MergeKernel.τ).loc Cert.MergeKernel.main_arg4))
      ∧ r.2.sem = fun _ => 0)

def quiescent_MergeKernelIdeal [hMergeKernelIdeal : Cert.MergeKernelIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg), Pre_MergeKernelIdeal m →
    θ_run (Cert.MergeKernelIdeal.defs (F := Ideal)) (onTc (τ := Cert.MergeKernelIdeal.τ) (Cert.MergeKernelIdeal.main (F := Ideal))) ⟨m, fun _ => 0, g⟩ (fun r => (∀ c : Dev Cert.MergeKernelIdeal.nD,
      r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
      ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
      ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
      ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
      ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1))
      ∧ r.2.sem = fun _ => 0)

def quiescent_ResidKernel [hResidKernel : Cert.ResidKernel.Facts] : Prop :=
  ∀ (m : (ℓ : Loc Cert.ResidKernel.nD Cert.ResidKernel.τ Cert.ResidKernel.sig) → Buf (Elt Bits) ℓ) (g : Dev Cert.ResidKernel.nD → PrngReg), Pre_ResidKernel m →
    θ_run (Cert.ResidKernel.defs (F := Bits)) (onTc (τ := Cert.ResidKernel.τ) (Cert.ResidKernel.main (F := Bits))) ⟨m, fun _ => 0, g⟩ (fun r => (∀ c : Dev Cert.ResidKernel.nD,
      r.2.mem ((c.tc : Thread Cert.ResidKernel.nD Cert.ResidKernel.τ).loc Cert.ResidKernel.main_arg0) = m ((c.tc : Thread Cert.ResidKernel.nD Cert.ResidKernel.τ).loc Cert.ResidKernel.main_arg0)
      ∧ r.2.mem ((c.tc : Thread Cert.ResidKernel.nD Cert.ResidKernel.τ).loc Cert.ResidKernel.main_arg1) = m ((c.tc : Thread Cert.ResidKernel.nD Cert.ResidKernel.τ).loc Cert.ResidKernel.main_arg1)
      ∧ r.2.mem ((c.tc : Thread Cert.ResidKernel.nD Cert.ResidKernel.τ).loc Cert.ResidKernel.main_arg2) = m ((c.tc : Thread Cert.ResidKernel.nD Cert.ResidKernel.τ).loc Cert.ResidKernel.main_arg2))
      ∧ r.2.sem = fun _ => 0)

def quiescent_ResidKernelIdeal [hResidKernelIdeal : Cert.ResidKernelIdeal.Facts] : Prop :=
  ∀ (m : (ℓ : Loc Cert.ResidKernelIdeal.nD Cert.ResidKernelIdeal.τ Cert.ResidKernelIdeal.sig) → Buf (Elt Ideal) ℓ) (g : Dev Cert.ResidKernelIdeal.nD → PrngReg), Pre_ResidKernelIdeal m →
    θ_run (Cert.ResidKernelIdeal.defs (F := Ideal)) (onTc (τ := Cert.ResidKernelIdeal.τ) (Cert.ResidKernelIdeal.main (F := Ideal))) ⟨m, fun _ => 0, g⟩ (fun r => (∀ c : Dev Cert.ResidKernelIdeal.nD,
      r.2.mem ((c.tc : Thread Cert.ResidKernelIdeal.nD Cert.ResidKernelIdeal.τ).loc Cert.ResidKernelIdeal.main_arg0) = m ((c.tc : Thread Cert.ResidKernelIdeal.nD Cert.ResidKernelIdeal.τ).loc Cert.ResidKernelIdeal.main_arg0)
      ∧ r.2.mem ((c.tc : Thread Cert.ResidKernelIdeal.nD Cert.ResidKernelIdeal.τ).loc Cert.ResidKernelIdeal.main_arg1) = m ((c.tc : Thread Cert.ResidKernelIdeal.nD Cert.ResidKernelIdeal.τ).loc Cert.ResidKernelIdeal.main_arg1)
      ∧ r.2.mem ((c.tc : Thread Cert.ResidKernelIdeal.nD Cert.ResidKernelIdeal.τ).loc Cert.ResidKernelIdeal.main_arg2) = m ((c.tc : Thread Cert.ResidKernelIdeal.nD Cert.ResidKernelIdeal.τ).loc Cert.ResidKernelIdeal.main_arg2))
      ∧ r.2.sem = fun _ => 0)

def quiescent_ResidReferenceIdeal [hResidReferenceIdeal : Cert.ResidReferenceIdeal.Facts] : Prop :=
  ∀ (m : (ℓ : Loc Cert.ResidReferenceIdeal.nD Cert.ResidReferenceIdeal.τ Cert.ResidReferenceIdeal.sig) → Buf (Elt Ideal) ℓ) (g : Dev Cert.ResidReferenceIdeal.nD → PrngReg), Pre_ResidReferenceIdeal m →
    θ_run (Cert.ResidReferenceIdeal.defs (F := Ideal)) (onTc (τ := Cert.ResidReferenceIdeal.τ) (Cert.ResidReferenceIdeal.main (F := Ideal))) ⟨m, fun _ => 0, g⟩ (fun r => (∀ c : Dev Cert.ResidReferenceIdeal.nD,
      r.2.mem ((c.tc : Thread Cert.ResidReferenceIdeal.nD Cert.ResidReferenceIdeal.τ).loc Cert.ResidReferenceIdeal.main_arg0) = m ((c.tc : Thread Cert.ResidReferenceIdeal.nD Cert.ResidReferenceIdeal.τ).loc Cert.ResidReferenceIdeal.main_arg0)
      ∧ r.2.mem ((c.tc : Thread Cert.ResidReferenceIdeal.nD Cert.ResidReferenceIdeal.τ).loc Cert.ResidReferenceIdeal.main_arg1) = m ((c.tc : Thread Cert.ResidReferenceIdeal.nD Cert.ResidReferenceIdeal.τ).loc Cert.ResidReferenceIdeal.main_arg1)
      ∧ r.2.mem ((c.tc : Thread Cert.ResidReferenceIdeal.nD Cert.ResidReferenceIdeal.τ).loc Cert.ResidReferenceIdeal.main_arg2) = m ((c.tc : Thread Cert.ResidReferenceIdeal.nD Cert.ResidReferenceIdeal.τ).loc Cert.ResidReferenceIdeal.main_arg2))
      ∧ r.2.sem = fun _ => 0)

def quiescent_ResidNormKernel [hResidNormKernel : Cert.ResidNormKernel.Facts] : Prop :=
  ∀ (m : (ℓ : Loc Cert.ResidNormKernel.nD Cert.ResidNormKernel.τ Cert.ResidNormKernel.sig) → Buf (Elt Bits) ℓ) (g : Dev Cert.ResidNormKernel.nD → PrngReg), Pre_ResidNormKernel m →
    θ_run (Cert.ResidNormKernel.defs (F := Bits)) (onTc (τ := Cert.ResidNormKernel.τ) (Cert.ResidNormKernel.main (F := Bits))) ⟨m, fun _ => 0, g⟩ (fun r => (∀ c : Dev Cert.ResidNormKernel.nD,
      r.2.mem ((c.tc : Thread Cert.ResidNormKernel.nD Cert.ResidNormKernel.τ).loc Cert.ResidNormKernel.main_arg0) = m ((c.tc : Thread Cert.ResidNormKernel.nD Cert.ResidNormKernel.τ).loc Cert.ResidNormKernel.main_arg0)
      ∧ r.2.mem ((c.tc : Thread Cert.ResidNormKernel.nD Cert.ResidNormKernel.τ).loc Cert.ResidNormKernel.main_arg1) = m ((c.tc : Thread Cert.ResidNormKernel.nD Cert.ResidNormKernel.τ).loc Cert.ResidNormKernel.main_arg1)
      ∧ r.2.mem ((c.tc : Thread Cert.ResidNormKernel.nD Cert.ResidNormKernel.τ).loc Cert.ResidNormKernel.main_arg2) = m ((c.tc : Thread Cert.ResidNormKernel.nD Cert.ResidNormKernel.τ).loc Cert.ResidNormKernel.main_arg2)
      ∧ r.2.mem ((c.tc : Thread Cert.ResidNormKernel.nD Cert.ResidNormKernel.τ).loc Cert.ResidNormKernel.main_arg3) = m ((c.tc : Thread Cert.ResidNormKernel.nD Cert.ResidNormKernel.τ).loc Cert.ResidNormKernel.main_arg3))
      ∧ r.2.sem = fun _ => 0)

def quiescent_ResidNormKernelIdeal [hResidNormKernelIdeal : Cert.ResidNormKernelIdeal.Facts] : Prop :=
  ∀ (m : (ℓ : Loc Cert.ResidNormKernelIdeal.nD Cert.ResidNormKernelIdeal.τ Cert.ResidNormKernelIdeal.sig) → Buf (Elt Ideal) ℓ) (g : Dev Cert.ResidNormKernelIdeal.nD → PrngReg), Pre_ResidNormKernelIdeal m →
    θ_run (Cert.ResidNormKernelIdeal.defs (F := Ideal)) (onTc (τ := Cert.ResidNormKernelIdeal.τ) (Cert.ResidNormKernelIdeal.main (F := Ideal))) ⟨m, fun _ => 0, g⟩ (fun r => (∀ c : Dev Cert.ResidNormKernelIdeal.nD,
      r.2.mem ((c.tc : Thread Cert.ResidNormKernelIdeal.nD Cert.ResidNormKernelIdeal.τ).loc Cert.ResidNormKernelIdeal.main_arg0) = m ((c.tc : Thread Cert.ResidNormKernelIdeal.nD Cert.ResidNormKernelIdeal.τ).loc Cert.ResidNormKernelIdeal.main_arg0)
      ∧ r.2.mem ((c.tc : Thread Cert.ResidNormKernelIdeal.nD Cert.ResidNormKernelIdeal.τ).loc Cert.ResidNormKernelIdeal.main_arg1) = m ((c.tc : Thread Cert.ResidNormKernelIdeal.nD Cert.ResidNormKernelIdeal.τ).loc Cert.ResidNormKernelIdeal.main_arg1)
      ∧ r.2.mem ((c.tc : Thread Cert.ResidNormKernelIdeal.nD Cert.ResidNormKernelIdeal.τ).loc Cert.ResidNormKernelIdeal.main_arg2) = m ((c.tc : Thread Cert.ResidNormKernelIdeal.nD Cert.ResidNormKernelIdeal.τ).loc Cert.ResidNormKernelIdeal.main_arg2)
      ∧ r.2.mem ((c.tc : Thread Cert.ResidNormKernelIdeal.nD Cert.ResidNormKernelIdeal.τ).loc Cert.ResidNormKernelIdeal.main_arg3) = m ((c.tc : Thread Cert.ResidNormKernelIdeal.nD Cert.ResidNormKernelIdeal.τ).loc Cert.ResidNormKernelIdeal.main_arg3))
      ∧ r.2.sem = fun _ => 0)

def quiescent_ResidNormReferenceIdeal [hResidNormReferenceIdeal : Cert.ResidNormReferenceIdeal.Facts] : Prop :=
  ∀ (m : (ℓ : Loc Cert.ResidNormReferenceIdeal.nD Cert.ResidNormReferenceIdeal.τ Cert.ResidNormReferenceIdeal.sig) → Buf (Elt Ideal) ℓ) (g : Dev Cert.ResidNormReferenceIdeal.nD → PrngReg), Pre_ResidNormReferenceIdeal m →
    θ_run (Cert.ResidNormReferenceIdeal.defs (F := Ideal)) (onTc (τ := Cert.ResidNormReferenceIdeal.τ) (Cert.ResidNormReferenceIdeal.main (F := Ideal))) ⟨m, fun _ => 0, g⟩ (fun r => (∀ c : Dev Cert.ResidNormReferenceIdeal.nD,
      r.2.mem ((c.tc : Thread Cert.ResidNormReferenceIdeal.nD Cert.ResidNormReferenceIdeal.τ).loc Cert.ResidNormReferenceIdeal.main_arg0) = m ((c.tc : Thread Cert.ResidNormReferenceIdeal.nD Cert.ResidNormReferenceIdeal.τ).loc Cert.ResidNormReferenceIdeal.main_arg0)
      ∧ r.2.mem ((c.tc : Thread Cert.ResidNormReferenceIdeal.nD Cert.ResidNormReferenceIdeal.τ).loc Cert.ResidNormReferenceIdeal.main_arg1) = m ((c.tc : Thread Cert.ResidNormReferenceIdeal.nD Cert.ResidNormReferenceIdeal.τ).loc Cert.ResidNormReferenceIdeal.main_arg1)
      ∧ r.2.mem ((c.tc : Thread Cert.ResidNormReferenceIdeal.nD Cert.ResidNormReferenceIdeal.τ).loc Cert.ResidNormReferenceIdeal.main_arg2) = m ((c.tc : Thread Cert.ResidNormReferenceIdeal.nD Cert.ResidNormReferenceIdeal.τ).loc Cert.ResidNormReferenceIdeal.main_arg2)
      ∧ r.2.mem ((c.tc : Thread Cert.ResidNormReferenceIdeal.nD Cert.ResidNormReferenceIdeal.τ).loc Cert.ResidNormReferenceIdeal.main_arg3) = m ((c.tc : Thread Cert.ResidNormReferenceIdeal.nD Cert.ResidNormReferenceIdeal.τ).loc Cert.ResidNormReferenceIdeal.main_arg3))
      ∧ r.2.sem = fun _ => 0)

def quiescent_NormKernel [hNormKernel : Cert.NormKernel.Facts] : Prop :=
  ∀ (m : (ℓ : Loc Cert.NormKernel.nD Cert.NormKernel.τ Cert.NormKernel.sig) → Buf (Elt Bits) ℓ) (g : Dev Cert.NormKernel.nD → PrngReg), Pre_NormKernel m →
    θ_run (Cert.NormKernel.defs (F := Bits)) (onTc (τ := Cert.NormKernel.τ) (Cert.NormKernel.main (F := Bits))) ⟨m, fun _ => 0, g⟩ (fun r => (∀ c : Dev Cert.NormKernel.nD,
      r.2.mem ((c.tc : Thread Cert.NormKernel.nD Cert.NormKernel.τ).loc Cert.NormKernel.main_arg0) = m ((c.tc : Thread Cert.NormKernel.nD Cert.NormKernel.τ).loc Cert.NormKernel.main_arg0)
      ∧ r.2.mem ((c.tc : Thread Cert.NormKernel.nD Cert.NormKernel.τ).loc Cert.NormKernel.main_arg1) = m ((c.tc : Thread Cert.NormKernel.nD Cert.NormKernel.τ).loc Cert.NormKernel.main_arg1))
      ∧ r.2.sem = fun _ => 0)

def quiescent_NormKernelIdeal [hNormKernelIdeal : Cert.NormKernelIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg), Pre_NormKernelIdeal m →
    θ_run (Cert.NormKernelIdeal.defs (F := Ideal)) (onTc (τ := Cert.NormKernelIdeal.τ) (Cert.NormKernelIdeal.main (F := Ideal))) ⟨m, fun _ => 0, g⟩ (fun r => (∀ c : Dev Cert.NormKernelIdeal.nD,
      r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
      ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1))
      ∧ r.2.sem = fun _ => 0)

def quiescent_PleKernel [hPleKernel : Cert.PleKernel.Facts] : Prop :=
  ∀ (m : (ℓ : Loc Cert.PleKernel.nD Cert.PleKernel.τ Cert.PleKernel.sig) → Buf (Elt Bits) ℓ) (g : Dev Cert.PleKernel.nD → PrngReg), Pre_PleKernel m →
    θ_run (Cert.PleKernel.defs (F := Bits)) (onTc (τ := Cert.PleKernel.τ) (Cert.PleKernel.main (F := Bits))) ⟨m, fun _ => 0, g⟩ (fun r => (∀ c : Dev Cert.PleKernel.nD,
      r.2.mem ((c.tc : Thread Cert.PleKernel.nD Cert.PleKernel.τ).loc Cert.PleKernel.main_arg0) = m ((c.tc : Thread Cert.PleKernel.nD Cert.PleKernel.τ).loc Cert.PleKernel.main_arg0)
      ∧ r.2.mem ((c.tc : Thread Cert.PleKernel.nD Cert.PleKernel.τ).loc Cert.PleKernel.main_arg1) = m ((c.tc : Thread Cert.PleKernel.nD Cert.PleKernel.τ).loc Cert.PleKernel.main_arg1)
      ∧ r.2.mem ((c.tc : Thread Cert.PleKernel.nD Cert.PleKernel.τ).loc Cert.PleKernel.main_arg2) = m ((c.tc : Thread Cert.PleKernel.nD Cert.PleKernel.τ).loc Cert.PleKernel.main_arg2)
      ∧ r.2.mem ((c.tc : Thread Cert.PleKernel.nD Cert.PleKernel.τ).loc Cert.PleKernel.main_arg3) = m ((c.tc : Thread Cert.PleKernel.nD Cert.PleKernel.τ).loc Cert.PleKernel.main_arg3)
      ∧ r.2.mem ((c.tc : Thread Cert.PleKernel.nD Cert.PleKernel.τ).loc Cert.PleKernel.main_arg4) = m ((c.tc : Thread Cert.PleKernel.nD Cert.PleKernel.τ).loc Cert.PleKernel.main_arg4))
      ∧ r.2.sem = fun _ => 0)

def quiescent_PleKernelIdeal [hPleKernelIdeal : Cert.PleKernelIdeal.Facts] : Prop :=
  ∀ (m : (ℓ : Loc Cert.PleKernelIdeal.nD Cert.PleKernelIdeal.τ Cert.PleKernelIdeal.sig) → Buf (Elt Ideal) ℓ) (g : Dev Cert.PleKernelIdeal.nD → PrngReg), Pre_PleKernelIdeal m →
    θ_run (Cert.PleKernelIdeal.defs (F := Ideal)) (onTc (τ := Cert.PleKernelIdeal.τ) (Cert.PleKernelIdeal.main (F := Ideal))) ⟨m, fun _ => 0, g⟩ (fun r => (∀ c : Dev Cert.PleKernelIdeal.nD,
      r.2.mem ((c.tc : Thread Cert.PleKernelIdeal.nD Cert.PleKernelIdeal.τ).loc Cert.PleKernelIdeal.main_arg0) = m ((c.tc : Thread Cert.PleKernelIdeal.nD Cert.PleKernelIdeal.τ).loc Cert.PleKernelIdeal.main_arg0)
      ∧ r.2.mem ((c.tc : Thread Cert.PleKernelIdeal.nD Cert.PleKernelIdeal.τ).loc Cert.PleKernelIdeal.main_arg1) = m ((c.tc : Thread Cert.PleKernelIdeal.nD Cert.PleKernelIdeal.τ).loc Cert.PleKernelIdeal.main_arg1)
      ∧ r.2.mem ((c.tc : Thread Cert.PleKernelIdeal.nD Cert.PleKernelIdeal.τ).loc Cert.PleKernelIdeal.main_arg2) = m ((c.tc : Thread Cert.PleKernelIdeal.nD Cert.PleKernelIdeal.τ).loc Cert.PleKernelIdeal.main_arg2)
      ∧ r.2.mem ((c.tc : Thread Cert.PleKernelIdeal.nD Cert.PleKernelIdeal.τ).loc Cert.PleKernelIdeal.main_arg3) = m ((c.tc : Thread Cert.PleKernelIdeal.nD Cert.PleKernelIdeal.τ).loc Cert.PleKernelIdeal.main_arg3)
      ∧ r.2.mem ((c.tc : Thread Cert.PleKernelIdeal.nD Cert.PleKernelIdeal.τ).loc Cert.PleKernelIdeal.main_arg4) = m ((c.tc : Thread Cert.PleKernelIdeal.nD Cert.PleKernelIdeal.τ).loc Cert.PleKernelIdeal.main_arg4))
      ∧ r.2.sem = fun _ => 0)

def quiescent_PleReferenceIdeal [hPleReferenceIdeal : Cert.PleReferenceIdeal.Facts] : Prop :=
  ∀ (m : (ℓ : Loc Cert.PleReferenceIdeal.nD Cert.PleReferenceIdeal.τ Cert.PleReferenceIdeal.sig) → Buf (Elt Ideal) ℓ) (g : Dev Cert.PleReferenceIdeal.nD → PrngReg), Pre_PleReferenceIdeal m →
    θ_run (Cert.PleReferenceIdeal.defs (F := Ideal)) (onTc (τ := Cert.PleReferenceIdeal.τ) (Cert.PleReferenceIdeal.main (F := Ideal))) ⟨m, fun _ => 0, g⟩ (fun r => (∀ c : Dev Cert.PleReferenceIdeal.nD,
      r.2.mem ((c.tc : Thread Cert.PleReferenceIdeal.nD Cert.PleReferenceIdeal.τ).loc Cert.PleReferenceIdeal.main_arg0) = m ((c.tc : Thread Cert.PleReferenceIdeal.nD Cert.PleReferenceIdeal.τ).loc Cert.PleReferenceIdeal.main_arg0)
      ∧ r.2.mem ((c.tc : Thread Cert.PleReferenceIdeal.nD Cert.PleReferenceIdeal.τ).loc Cert.PleReferenceIdeal.main_arg1) = m ((c.tc : Thread Cert.PleReferenceIdeal.nD Cert.PleReferenceIdeal.τ).loc Cert.PleReferenceIdeal.main_arg1)
      ∧ r.2.mem ((c.tc : Thread Cert.PleReferenceIdeal.nD Cert.PleReferenceIdeal.τ).loc Cert.PleReferenceIdeal.main_arg2) = m ((c.tc : Thread Cert.PleReferenceIdeal.nD Cert.PleReferenceIdeal.τ).loc Cert.PleReferenceIdeal.main_arg2)
      ∧ r.2.mem ((c.tc : Thread Cert.PleReferenceIdeal.nD Cert.PleReferenceIdeal.τ).loc Cert.PleReferenceIdeal.main_arg3) = m ((c.tc : Thread Cert.PleReferenceIdeal.nD Cert.PleReferenceIdeal.τ).loc Cert.PleReferenceIdeal.main_arg3)
      ∧ r.2.mem ((c.tc : Thread Cert.PleReferenceIdeal.nD Cert.PleReferenceIdeal.τ).loc Cert.PleReferenceIdeal.main_arg4) = m ((c.tc : Thread Cert.PleReferenceIdeal.nD Cert.PleReferenceIdeal.τ).loc Cert.PleReferenceIdeal.main_arg4))
      ∧ r.2.sem = fun _ => 0)

def preserves_AttnKernel_AttnKernelIdeal : Prop :=
  True

def algebraic_AttnKernelIdeal_AttnReferenceIdeal_pre_finite [hAttnKernelIdeal : Cert.AttnKernelIdeal.Facts] [hAttnReferenceIdeal : Cert.AttnReferenceIdeal.Facts] [hPre_finite : Cert.Pre_finite.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg)
    (m' : (ℓ : Loc Cert.AttnReferenceIdeal.nD Cert.AttnReferenceIdeal.τ Cert.AttnReferenceIdeal.sig) → Buf (Elt Ideal) ℓ) (g' : Dev Cert.AttnReferenceIdeal.nD → PrngReg), Pre_AttnKernelIdeal_finite m →
    (∀ c : Dev Cert.AttnKernelIdeal.nD,
      m' ((c.tc : Thread Cert.AttnReferenceIdeal.nD Cert.AttnReferenceIdeal.τ).loc Cert.AttnReferenceIdeal.main_arg0) = m ((c.tc : Thread Cert.AttnKernelIdeal.nD Cert.AttnKernelIdeal.τ).loc Cert.AttnKernelIdeal.main_arg0)
      ∧ m' ((c.tc : Thread Cert.AttnReferenceIdeal.nD Cert.AttnReferenceIdeal.τ).loc Cert.AttnReferenceIdeal.main_arg1) = m ((c.tc : Thread Cert.AttnKernelIdeal.nD Cert.AttnKernelIdeal.τ).loc Cert.AttnKernelIdeal.main_arg1)) →
    ∃ (v0 : (c : Dev Cert.AttnKernelIdeal.nD) → Buf (Elt Ideal) ((c.tc : Thread Cert.AttnKernelIdeal.nD Cert.AttnKernelIdeal.τ).loc Cert.AttnKernelIdeal.main_v1)),
      θ_run (Cert.AttnKernelIdeal.defs (F := Ideal)) (onTc (τ := Cert.AttnKernelIdeal.τ) (Cert.AttnKernelIdeal.main (F := Ideal))) ⟨m, fun _ => 0, g⟩ (fun r => ∀ c : Dev Cert.AttnKernelIdeal.nD,
          r.2.mem ((c.tc : Thread Cert.AttnKernelIdeal.nD Cert.AttnKernelIdeal.τ).loc Cert.AttnKernelIdeal.main_v1) = v0 c
          ∧ r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
          ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1))
      ∧ θ_run (Cert.AttnReferenceIdeal.defs (F := Ideal)) (onTc (τ := Cert.AttnReferenceIdeal.τ) (Cert.AttnReferenceIdeal.main (F := Ideal))) ⟨m', fun _ => 0, g'⟩ (fun r => ∀ c : Dev Cert.AttnReferenceIdeal.nD,
          r.2.mem ((c.tc : Thread Cert.AttnReferenceIdeal.nD Cert.AttnReferenceIdeal.τ).loc Cert.AttnReferenceIdeal.main_v77) = v0 c
          ∧ r.2.mem ((c.tc : Thread Cert.AttnReferenceIdeal.nD Cert.AttnReferenceIdeal.τ).loc Cert.AttnReferenceIdeal.main_arg0) = m' ((c.tc : Thread Cert.AttnReferenceIdeal.nD Cert.AttnReferenceIdeal.τ).loc Cert.AttnReferenceIdeal.main_arg0)
          ∧ r.2.mem ((c.tc : Thread Cert.AttnReferenceIdeal.nD Cert.AttnReferenceIdeal.τ).loc Cert.AttnReferenceIdeal.main_arg1) = m' ((c.tc : Thread Cert.AttnReferenceIdeal.nD Cert.AttnReferenceIdeal.τ).loc Cert.AttnReferenceIdeal.main_arg1))

def preserves_MlpKernel_MlpKernelIdeal : Prop :=
  True

def algebraic_MlpKernelIdeal_MlpReferenceIdeal [hMlpKernelIdeal : Cert.MlpKernelIdeal.Facts] [hMlpReferenceIdeal : Cert.MlpReferenceIdeal.Facts] : Prop :=
  ∀ (m : (ℓ : Loc Cert.MlpKernelIdeal.nD Cert.MlpKernelIdeal.τ Cert.MlpKernelIdeal.sig) → Buf (Elt Ideal) ℓ) (g : Dev Cert.MlpKernelIdeal.nD → PrngReg)
    (m' : (ℓ : Loc Cert.MlpReferenceIdeal.nD Cert.MlpReferenceIdeal.τ Cert.MlpReferenceIdeal.sig) → Buf (Elt Ideal) ℓ) (g' : Dev Cert.MlpReferenceIdeal.nD → PrngReg), Pre_MlpKernelIdeal m →
    (∀ c : Dev Cert.MlpKernelIdeal.nD,
      m' ((c.tc : Thread Cert.MlpReferenceIdeal.nD Cert.MlpReferenceIdeal.τ).loc Cert.MlpReferenceIdeal.main_arg0) = m ((c.tc : Thread Cert.MlpKernelIdeal.nD Cert.MlpKernelIdeal.τ).loc Cert.MlpKernelIdeal.main_arg0)
      ∧ m' ((c.tc : Thread Cert.MlpReferenceIdeal.nD Cert.MlpReferenceIdeal.τ).loc Cert.MlpReferenceIdeal.main_arg1) = m ((c.tc : Thread Cert.MlpKernelIdeal.nD Cert.MlpKernelIdeal.τ).loc Cert.MlpKernelIdeal.main_arg1)
      ∧ m' ((c.tc : Thread Cert.MlpReferenceIdeal.nD Cert.MlpReferenceIdeal.τ).loc Cert.MlpReferenceIdeal.main_arg2) = m ((c.tc : Thread Cert.MlpKernelIdeal.nD Cert.MlpKernelIdeal.τ).loc Cert.MlpKernelIdeal.main_arg2)) →
    ∃ (v0 : (c : Dev Cert.MlpKernelIdeal.nD) → Buf (Elt Ideal) ((c.tc : Thread Cert.MlpKernelIdeal.nD Cert.MlpKernelIdeal.τ).loc Cert.MlpKernelIdeal.main_v0)),
      θ_run (Cert.MlpKernelIdeal.defs (F := Ideal)) (onTc (τ := Cert.MlpKernelIdeal.τ) (Cert.MlpKernelIdeal.main (F := Ideal))) ⟨m, fun _ => 0, g⟩ (fun r => ∀ c : Dev Cert.MlpKernelIdeal.nD,
          r.2.mem ((c.tc : Thread Cert.MlpKernelIdeal.nD Cert.MlpKernelIdeal.τ).loc Cert.MlpKernelIdeal.main_v0) = v0 c
          ∧ r.2.mem ((c.tc : Thread Cert.MlpKernelIdeal.nD Cert.MlpKernelIdeal.τ).loc Cert.MlpKernelIdeal.main_arg0) = m ((c.tc : Thread Cert.MlpKernelIdeal.nD Cert.MlpKernelIdeal.τ).loc Cert.MlpKernelIdeal.main_arg0)
          ∧ r.2.mem ((c.tc : Thread Cert.MlpKernelIdeal.nD Cert.MlpKernelIdeal.τ).loc Cert.MlpKernelIdeal.main_arg1) = m ((c.tc : Thread Cert.MlpKernelIdeal.nD Cert.MlpKernelIdeal.τ).loc Cert.MlpKernelIdeal.main_arg1)
          ∧ r.2.mem ((c.tc : Thread Cert.MlpKernelIdeal.nD Cert.MlpKernelIdeal.τ).loc Cert.MlpKernelIdeal.main_arg2) = m ((c.tc : Thread Cert.MlpKernelIdeal.nD Cert.MlpKernelIdeal.τ).loc Cert.MlpKernelIdeal.main_arg2))
      ∧ θ_run (Cert.MlpReferenceIdeal.defs (F := Ideal)) (onTc (τ := Cert.MlpReferenceIdeal.τ) (Cert.MlpReferenceIdeal.main (F := Ideal))) ⟨m', fun _ => 0, g'⟩ (fun r => ∀ c : Dev Cert.MlpReferenceIdeal.nD,
          r.2.mem ((c.tc : Thread Cert.MlpReferenceIdeal.nD Cert.MlpReferenceIdeal.τ).loc Cert.MlpReferenceIdeal.main_v6) = v0 c
          ∧ r.2.mem ((c.tc : Thread Cert.MlpReferenceIdeal.nD Cert.MlpReferenceIdeal.τ).loc Cert.MlpReferenceIdeal.main_arg0) = m' ((c.tc : Thread Cert.MlpReferenceIdeal.nD Cert.MlpReferenceIdeal.τ).loc Cert.MlpReferenceIdeal.main_arg0)
          ∧ r.2.mem ((c.tc : Thread Cert.MlpReferenceIdeal.nD Cert.MlpReferenceIdeal.τ).loc Cert.MlpReferenceIdeal.main_arg1) = m' ((c.tc : Thread Cert.MlpReferenceIdeal.nD Cert.MlpReferenceIdeal.τ).loc Cert.MlpReferenceIdeal.main_arg1)
          ∧ r.2.mem ((c.tc : Thread Cert.MlpReferenceIdeal.nD Cert.MlpReferenceIdeal.τ).loc Cert.MlpReferenceIdeal.main_arg2) = m' ((c.tc : Thread Cert.MlpReferenceIdeal.nD Cert.MlpReferenceIdeal.τ).loc Cert.MlpReferenceIdeal.main_arg2))

def preserves_GatesKernel_GatesKernelIdeal : Prop :=
  True

def algebraic_GatesKernelIdeal_GatesReferenceIdeal [hGatesKernelIdeal : Cert.GatesKernelIdeal.Facts] [hGatesReferenceIdeal : Cert.GatesReferenceIdeal.Facts] : Prop :=
  ∀ (m : (ℓ : Loc Cert.GatesKernelIdeal.nD Cert.GatesKernelIdeal.τ Cert.GatesKernelIdeal.sig) → Buf (Elt Ideal) ℓ) (g : Dev Cert.GatesKernelIdeal.nD → PrngReg)
    (m' : (ℓ : Loc Cert.GatesReferenceIdeal.nD Cert.GatesReferenceIdeal.τ Cert.GatesReferenceIdeal.sig) → Buf (Elt Ideal) ℓ) (g' : Dev Cert.GatesReferenceIdeal.nD → PrngReg), Pre_GatesKernelIdeal m →
    (∀ c : Dev Cert.GatesKernelIdeal.nD,
      m' ((c.tc : Thread Cert.GatesReferenceIdeal.nD Cert.GatesReferenceIdeal.τ).loc Cert.GatesReferenceIdeal.main_arg0) = m ((c.tc : Thread Cert.GatesKernelIdeal.nD Cert.GatesKernelIdeal.τ).loc Cert.GatesKernelIdeal.main_arg0)
      ∧ m' ((c.tc : Thread Cert.GatesReferenceIdeal.nD Cert.GatesReferenceIdeal.τ).loc Cert.GatesReferenceIdeal.main_arg1) = m ((c.tc : Thread Cert.GatesKernelIdeal.nD Cert.GatesKernelIdeal.τ).loc Cert.GatesKernelIdeal.main_arg1)
      ∧ m' ((c.tc : Thread Cert.GatesReferenceIdeal.nD Cert.GatesReferenceIdeal.τ).loc Cert.GatesReferenceIdeal.main_arg2) = m ((c.tc : Thread Cert.GatesKernelIdeal.nD Cert.GatesKernelIdeal.τ).loc Cert.GatesKernelIdeal.main_arg2)
      ∧ m' ((c.tc : Thread Cert.GatesReferenceIdeal.nD Cert.GatesReferenceIdeal.τ).loc Cert.GatesReferenceIdeal.main_arg3) = m ((c.tc : Thread Cert.GatesKernelIdeal.nD Cert.GatesKernelIdeal.τ).loc Cert.GatesKernelIdeal.main_arg3)
      ∧ m' ((c.tc : Thread Cert.GatesReferenceIdeal.nD Cert.GatesReferenceIdeal.τ).loc Cert.GatesReferenceIdeal.main_arg4) = m ((c.tc : Thread Cert.GatesKernelIdeal.nD Cert.GatesKernelIdeal.τ).loc Cert.GatesKernelIdeal.main_arg4)
      ∧ m' ((c.tc : Thread Cert.GatesReferenceIdeal.nD Cert.GatesReferenceIdeal.τ).loc Cert.GatesReferenceIdeal.main_arg5) = m ((c.tc : Thread Cert.GatesKernelIdeal.nD Cert.GatesKernelIdeal.τ).loc Cert.GatesKernelIdeal.main_arg5)
      ∧ m' ((c.tc : Thread Cert.GatesReferenceIdeal.nD Cert.GatesReferenceIdeal.τ).loc Cert.GatesReferenceIdeal.main_arg6) = m ((c.tc : Thread Cert.GatesKernelIdeal.nD Cert.GatesKernelIdeal.τ).loc Cert.GatesKernelIdeal.main_arg6)
      ∧ m' ((c.tc : Thread Cert.GatesReferenceIdeal.nD Cert.GatesReferenceIdeal.τ).loc Cert.GatesReferenceIdeal.main_arg7) = m ((c.tc : Thread Cert.GatesKernelIdeal.nD Cert.GatesKernelIdeal.τ).loc Cert.GatesKernelIdeal.main_arg7)) →
    ∃ (v0 : (c : Dev Cert.GatesKernelIdeal.nD) → Buf (Elt Ideal) ((c.tc : Thread Cert.GatesKernelIdeal.nD Cert.GatesKernelIdeal.τ).loc Cert.GatesKernelIdeal.main_v6_0)) (v1 : (c : Dev Cert.GatesKernelIdeal.nD) → Buf (Elt Ideal) ((c.tc : Thread Cert.GatesKernelIdeal.nD Cert.GatesKernelIdeal.τ).loc Cert.GatesKernelIdeal.main_v6_1)) (v2 : (c : Dev Cert.GatesKernelIdeal.nD) → Buf (Elt Ideal) ((c.tc : Thread Cert.GatesKernelIdeal.nD Cert.GatesKernelIdeal.τ).loc Cert.GatesKernelIdeal.main_v6_2)) (v3 : (c : Dev Cert.GatesKernelIdeal.nD) → Buf (Elt Ideal) ((c.tc : Thread Cert.GatesKernelIdeal.nD Cert.GatesKernelIdeal.τ).loc Cert.GatesKernelIdeal.main_v6_3)) (v4 : (c : Dev Cert.GatesKernelIdeal.nD) → Buf (Elt Ideal) ((c.tc : Thread Cert.GatesKernelIdeal.nD Cert.GatesKernelIdeal.τ).loc Cert.GatesKernelIdeal.main_v6_4)) (v5 : (c : Dev Cert.GatesKernelIdeal.nD) → Buf (Elt Ideal) ((c.tc : Thread Cert.GatesKernelIdeal.nD Cert.GatesKernelIdeal.τ).loc Cert.GatesKernelIdeal.main_v6_5)) (v6 : (c : Dev Cert.GatesKernelIdeal.nD) → Buf (Elt Ideal) ((c.tc : Thread Cert.GatesKernelIdeal.nD Cert.GatesKernelIdeal.τ).loc Cert.GatesKernelIdeal.main_v6_6)),
      θ_run (Cert.GatesKernelIdeal.defs (F := Ideal)) (onTc (τ := Cert.GatesKernelIdeal.τ) (Cert.GatesKernelIdeal.main (F := Ideal))) ⟨m, fun _ => 0, g⟩ (fun r => ∀ c : Dev Cert.GatesKernelIdeal.nD,
          r.2.mem ((c.tc : Thread Cert.GatesKernelIdeal.nD Cert.GatesKernelIdeal.τ).loc Cert.GatesKernelIdeal.main_v6_0) = v0 c
          ∧ r.2.mem ((c.tc : Thread Cert.GatesKernelIdeal.nD Cert.GatesKernelIdeal.τ).loc Cert.GatesKernelIdeal.main_v6_1) = v1 c
          ∧ r.2.mem ((c.tc : Thread Cert.GatesKernelIdeal.nD Cert.GatesKernelIdeal.τ).loc Cert.GatesKernelIdeal.main_v6_2) = v2 c
          ∧ r.2.mem ((c.tc : Thread Cert.GatesKernelIdeal.nD Cert.GatesKernelIdeal.τ).loc Cert.GatesKernelIdeal.main_v6_3) = v3 c
          ∧ r.2.mem ((c.tc : Thread Cert.GatesKernelIdeal.nD Cert.GatesKernelIdeal.τ).loc Cert.GatesKernelIdeal.main_v6_4) = v4 c
          ∧ r.2.mem ((c.tc : Thread Cert.GatesKernelIdeal.nD Cert.GatesKernelIdeal.τ).loc Cert.GatesKernelIdeal.main_v6_5) = v5 c
          ∧ r.2.mem ((c.tc : Thread Cert.GatesKernelIdeal.nD Cert.GatesKernelIdeal.τ).loc Cert.GatesKernelIdeal.main_v6_6) = v6 c
          ∧ r.2.mem ((c.tc : Thread Cert.GatesKernelIdeal.nD Cert.GatesKernelIdeal.τ).loc Cert.GatesKernelIdeal.main_arg0) = m ((c.tc : Thread Cert.GatesKernelIdeal.nD Cert.GatesKernelIdeal.τ).loc Cert.GatesKernelIdeal.main_arg0)
          ∧ r.2.mem ((c.tc : Thread Cert.GatesKernelIdeal.nD Cert.GatesKernelIdeal.τ).loc Cert.GatesKernelIdeal.main_arg1) = m ((c.tc : Thread Cert.GatesKernelIdeal.nD Cert.GatesKernelIdeal.τ).loc Cert.GatesKernelIdeal.main_arg1)
          ∧ r.2.mem ((c.tc : Thread Cert.GatesKernelIdeal.nD Cert.GatesKernelIdeal.τ).loc Cert.GatesKernelIdeal.main_arg2) = m ((c.tc : Thread Cert.GatesKernelIdeal.nD Cert.GatesKernelIdeal.τ).loc Cert.GatesKernelIdeal.main_arg2)
          ∧ r.2.mem ((c.tc : Thread Cert.GatesKernelIdeal.nD Cert.GatesKernelIdeal.τ).loc Cert.GatesKernelIdeal.main_arg3) = m ((c.tc : Thread Cert.GatesKernelIdeal.nD Cert.GatesKernelIdeal.τ).loc Cert.GatesKernelIdeal.main_arg3)
          ∧ r.2.mem ((c.tc : Thread Cert.GatesKernelIdeal.nD Cert.GatesKernelIdeal.τ).loc Cert.GatesKernelIdeal.main_arg4) = m ((c.tc : Thread Cert.GatesKernelIdeal.nD Cert.GatesKernelIdeal.τ).loc Cert.GatesKernelIdeal.main_arg4)
          ∧ r.2.mem ((c.tc : Thread Cert.GatesKernelIdeal.nD Cert.GatesKernelIdeal.τ).loc Cert.GatesKernelIdeal.main_arg5) = m ((c.tc : Thread Cert.GatesKernelIdeal.nD Cert.GatesKernelIdeal.τ).loc Cert.GatesKernelIdeal.main_arg5)
          ∧ r.2.mem ((c.tc : Thread Cert.GatesKernelIdeal.nD Cert.GatesKernelIdeal.τ).loc Cert.GatesKernelIdeal.main_arg6) = m ((c.tc : Thread Cert.GatesKernelIdeal.nD Cert.GatesKernelIdeal.τ).loc Cert.GatesKernelIdeal.main_arg6)
          ∧ r.2.mem ((c.tc : Thread Cert.GatesKernelIdeal.nD Cert.GatesKernelIdeal.τ).loc Cert.GatesKernelIdeal.main_arg7) = m ((c.tc : Thread Cert.GatesKernelIdeal.nD Cert.GatesKernelIdeal.τ).loc Cert.GatesKernelIdeal.main_arg7))
      ∧ θ_run (Cert.GatesReferenceIdeal.defs (F := Ideal)) (onTc (τ := Cert.GatesReferenceIdeal.τ) (Cert.GatesReferenceIdeal.main (F := Ideal))) ⟨m', fun _ => 0, g'⟩ (fun r => ∀ c : Dev Cert.GatesReferenceIdeal.nD,
          r.2.mem ((c.tc : Thread Cert.GatesReferenceIdeal.nD Cert.GatesReferenceIdeal.τ).loc Cert.GatesReferenceIdeal.main_v10) = v0 c
          ∧ r.2.mem ((c.tc : Thread Cert.GatesReferenceIdeal.nD Cert.GatesReferenceIdeal.τ).loc Cert.GatesReferenceIdeal.main_v12) = v1 c
          ∧ r.2.mem ((c.tc : Thread Cert.GatesReferenceIdeal.nD Cert.GatesReferenceIdeal.τ).loc Cert.GatesReferenceIdeal.main_v14) = v2 c
          ∧ r.2.mem ((c.tc : Thread Cert.GatesReferenceIdeal.nD Cert.GatesReferenceIdeal.τ).loc Cert.GatesReferenceIdeal.main_v16) = v3 c
          ∧ r.2.mem ((c.tc : Thread Cert.GatesReferenceIdeal.nD Cert.GatesReferenceIdeal.τ).loc Cert.GatesReferenceIdeal.main_v18) = v4 c
          ∧ r.2.mem ((c.tc : Thread Cert.GatesReferenceIdeal.nD Cert.GatesReferenceIdeal.τ).loc Cert.GatesReferenceIdeal.main_v20) = v5 c
          ∧ r.2.mem ((c.tc : Thread Cert.GatesReferenceIdeal.nD Cert.GatesReferenceIdeal.τ).loc Cert.GatesReferenceIdeal.main_v22) = v6 c
          ∧ r.2.mem ((c.tc : Thread Cert.GatesReferenceIdeal.nD Cert.GatesReferenceIdeal.τ).loc Cert.GatesReferenceIdeal.main_arg0) = m' ((c.tc : Thread Cert.GatesReferenceIdeal.nD Cert.GatesReferenceIdeal.τ).loc Cert.GatesReferenceIdeal.main_arg0)
          ∧ r.2.mem ((c.tc : Thread Cert.GatesReferenceIdeal.nD Cert.GatesReferenceIdeal.τ).loc Cert.GatesReferenceIdeal.main_arg1) = m' ((c.tc : Thread Cert.GatesReferenceIdeal.nD Cert.GatesReferenceIdeal.τ).loc Cert.GatesReferenceIdeal.main_arg1)
          ∧ r.2.mem ((c.tc : Thread Cert.GatesReferenceIdeal.nD Cert.GatesReferenceIdeal.τ).loc Cert.GatesReferenceIdeal.main_arg2) = m' ((c.tc : Thread Cert.GatesReferenceIdeal.nD Cert.GatesReferenceIdeal.τ).loc Cert.GatesReferenceIdeal.main_arg2)
          ∧ r.2.mem ((c.tc : Thread Cert.GatesReferenceIdeal.nD Cert.GatesReferenceIdeal.τ).loc Cert.GatesReferenceIdeal.main_arg3) = m' ((c.tc : Thread Cert.GatesReferenceIdeal.nD Cert.GatesReferenceIdeal.τ).loc Cert.GatesReferenceIdeal.main_arg3)
          ∧ r.2.mem ((c.tc : Thread Cert.GatesReferenceIdeal.nD Cert.GatesReferenceIdeal.τ).loc Cert.GatesReferenceIdeal.main_arg4) = m' ((c.tc : Thread Cert.GatesReferenceIdeal.nD Cert.GatesReferenceIdeal.τ).loc Cert.GatesReferenceIdeal.main_arg4)
          ∧ r.2.mem ((c.tc : Thread Cert.GatesReferenceIdeal.nD Cert.GatesReferenceIdeal.τ).loc Cert.GatesReferenceIdeal.main_arg5) = m' ((c.tc : Thread Cert.GatesReferenceIdeal.nD Cert.GatesReferenceIdeal.τ).loc Cert.GatesReferenceIdeal.main_arg5)
          ∧ r.2.mem ((c.tc : Thread Cert.GatesReferenceIdeal.nD Cert.GatesReferenceIdeal.τ).loc Cert.GatesReferenceIdeal.main_arg6) = m' ((c.tc : Thread Cert.GatesReferenceIdeal.nD Cert.GatesReferenceIdeal.τ).loc Cert.GatesReferenceIdeal.main_arg6)
          ∧ r.2.mem ((c.tc : Thread Cert.GatesReferenceIdeal.nD Cert.GatesReferenceIdeal.τ).loc Cert.GatesReferenceIdeal.main_arg7) = m' ((c.tc : Thread Cert.GatesReferenceIdeal.nD Cert.GatesReferenceIdeal.τ).loc Cert.GatesReferenceIdeal.main_arg7))

def preserves_QkvKernel_QkvKernelIdeal : Prop :=
  True

def algebraic_QkvKernelIdeal_QkvReferenceIdeal [hQkvKernelIdeal : Cert.QkvKernelIdeal.Facts] [hQkvReferenceIdeal : Cert.QkvReferenceIdeal.Facts] : Prop :=
  ∀ (m : (ℓ : Loc Cert.QkvKernelIdeal.nD Cert.QkvKernelIdeal.τ Cert.QkvKernelIdeal.sig) → Buf (Elt Ideal) ℓ) (g : Dev Cert.QkvKernelIdeal.nD → PrngReg)
    (m' : (ℓ : Loc Cert.QkvReferenceIdeal.nD Cert.QkvReferenceIdeal.τ Cert.QkvReferenceIdeal.sig) → Buf (Elt Ideal) ℓ) (g' : Dev Cert.QkvReferenceIdeal.nD → PrngReg), Pre_QkvKernelIdeal m →
    (∀ c : Dev Cert.QkvKernelIdeal.nD,
      m' ((c.tc : Thread Cert.QkvReferenceIdeal.nD Cert.QkvReferenceIdeal.τ).loc Cert.QkvReferenceIdeal.main_arg0) = m ((c.tc : Thread Cert.QkvKernelIdeal.nD Cert.QkvKernelIdeal.τ).loc Cert.QkvKernelIdeal.main_arg0)
      ∧ m' ((c.tc : Thread Cert.QkvReferenceIdeal.nD Cert.QkvReferenceIdeal.τ).loc Cert.QkvReferenceIdeal.main_arg1) = m ((c.tc : Thread Cert.QkvKernelIdeal.nD Cert.QkvKernelIdeal.τ).loc Cert.QkvKernelIdeal.main_arg1)) →
    ∃ (v0 : (c : Dev Cert.QkvKernelIdeal.nD) → Buf (Elt Ideal) ((c.tc : Thread Cert.QkvKernelIdeal.nD Cert.QkvKernelIdeal.τ).loc Cert.QkvKernelIdeal.main_v21)),
      θ_run (Cert.QkvKernelIdeal.defs (F := Ideal)) (onTc (τ := Cert.QkvKernelIdeal.τ) (Cert.QkvKernelIdeal.main (F := Ideal))) ⟨m, fun _ => 0, g⟩ (fun r => ∀ c : Dev Cert.QkvKernelIdeal.nD,
          r.2.mem ((c.tc : Thread Cert.QkvKernelIdeal.nD Cert.QkvKernelIdeal.τ).loc Cert.QkvKernelIdeal.main_v21) = v0 c
          ∧ r.2.mem ((c.tc : Thread Cert.QkvKernelIdeal.nD Cert.QkvKernelIdeal.τ).loc Cert.QkvKernelIdeal.main_arg0) = m ((c.tc : Thread Cert.QkvKernelIdeal.nD Cert.QkvKernelIdeal.τ).loc Cert.QkvKernelIdeal.main_arg0)
          ∧ r.2.mem ((c.tc : Thread Cert.QkvKernelIdeal.nD Cert.QkvKernelIdeal.τ).loc Cert.QkvKernelIdeal.main_arg1) = m ((c.tc : Thread Cert.QkvKernelIdeal.nD Cert.QkvKernelIdeal.τ).loc Cert.QkvKernelIdeal.main_arg1))
      ∧ θ_run (Cert.QkvReferenceIdeal.defs (F := Ideal)) (onTc (τ := Cert.QkvReferenceIdeal.τ) (Cert.QkvReferenceIdeal.main (F := Ideal))) ⟨m', fun _ => 0, g'⟩ (fun r => ∀ c : Dev Cert.QkvReferenceIdeal.nD,
          r.2.mem ((c.tc : Thread Cert.QkvReferenceIdeal.nD Cert.QkvReferenceIdeal.τ).loc Cert.QkvReferenceIdeal.main_v79) = v0 c
          ∧ r.2.mem ((c.tc : Thread Cert.QkvReferenceIdeal.nD Cert.QkvReferenceIdeal.τ).loc Cert.QkvReferenceIdeal.main_arg0) = m' ((c.tc : Thread Cert.QkvReferenceIdeal.nD Cert.QkvReferenceIdeal.τ).loc Cert.QkvReferenceIdeal.main_arg0)
          ∧ r.2.mem ((c.tc : Thread Cert.QkvReferenceIdeal.nD Cert.QkvReferenceIdeal.τ).loc Cert.QkvReferenceIdeal.main_arg1) = m' ((c.tc : Thread Cert.QkvReferenceIdeal.nD Cert.QkvReferenceIdeal.τ).loc Cert.QkvReferenceIdeal.main_arg1))

def preserves_MergeKernel_MergeKernelIdeal : Prop :=
  True

def algebraic_MergeKernelIdeal_MergeReferenceIdeal [hMergeKernelIdeal : Cert.MergeKernelIdeal.Facts] [hMergeReferenceIdeal : Cert.MergeReferenceIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeKernelIdeal m →
    (∀ c : Dev Cert.MergeKernelIdeal.nD,
      m' ((c.tc : Thread Cert.MergeReferenceIdeal.nD Cert.MergeReferenceIdeal.τ).loc Cert.MergeReferenceIdeal.main_arg0) = m ((c.tc : Thread Cert.MergeKernelIdeal.nD Cert.MergeKernelIdeal.τ).loc Cert.MergeKernelIdeal.main_arg0)
      ∧ m' ((c.tc : Thread Cert.MergeReferenceIdeal.nD Cert.MergeReferenceIdeal.τ).loc Cert.MergeReferenceIdeal.main_arg1) = m ((c.tc : Thread Cert.MergeKernelIdeal.nD Cert.MergeKernelIdeal.τ).loc Cert.MergeKernelIdeal.main_arg1)
      ∧ m' ((c.tc : Thread Cert.MergeReferenceIdeal.nD Cert.MergeReferenceIdeal.τ).loc Cert.MergeReferenceIdeal.main_arg2) = m ((c.tc : Thread Cert.MergeKernelIdeal.nD Cert.MergeKernelIdeal.τ).loc Cert.MergeKernelIdeal.main_arg2)
      ∧ m' ((c.tc : Thread Cert.MergeReferenceIdeal.nD Cert.MergeReferenceIdeal.τ).loc Cert.MergeReferenceIdeal.main_arg3) = m ((c.tc : Thread Cert.MergeKernelIdeal.nD Cert.MergeKernelIdeal.τ).loc Cert.MergeKernelIdeal.main_arg3)
      ∧ m' ((c.tc : Thread Cert.MergeReferenceIdeal.nD Cert.MergeReferenceIdeal.τ).loc Cert.MergeReferenceIdeal.main_arg4) = m ((c.tc : Thread Cert.MergeKernelIdeal.nD Cert.MergeKernelIdeal.τ).loc Cert.MergeKernelIdeal.main_arg4)) →
    ∃ (v0 : (c : Dev Cert.MergeKernelIdeal.nD) → Buf (Elt Ideal) ((c.tc : Thread Cert.MergeKernelIdeal.nD Cert.MergeKernelIdeal.τ).loc Cert.MergeKernelIdeal.main_v0)),
      θ_run (Cert.MergeKernelIdeal.defs (F := Ideal)) (onTc (τ := Cert.MergeKernelIdeal.τ) (Cert.MergeKernelIdeal.main (F := Ideal))) ⟨m, fun _ => 0, g⟩ (fun r => ∀ c : Dev Cert.MergeKernelIdeal.nD,
          r.2.mem ((c.tc : Thread Cert.MergeKernelIdeal.nD Cert.MergeKernelIdeal.τ).loc Cert.MergeKernelIdeal.main_v0) = v0 c
          ∧ r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
          ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
          ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
          ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
          ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v12) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4))

def preserves_OutKernel_OutKernelIdeal : Prop :=
  True

def algebraic_OutKernelIdeal_OutReferenceIdeal [hOutKernelIdeal : Cert.OutKernelIdeal.Facts] [hOutReferenceIdeal : Cert.OutReferenceIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)) →
    ∃ (v0 : (c : Dev Cert.OutKernelIdeal.nD) → Buf (Elt Ideal) ((c.tc : Thread Cert.OutKernelIdeal.nD Cert.OutKernelIdeal.τ).loc Cert.OutKernelIdeal.main_v0)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v0) = v0 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v2) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1))

def preserves_ResidKernel_ResidKernelIdeal : Prop :=
  True

def algebraic_ResidKernelIdeal_ResidReferenceIdeal [hResidKernelIdeal : Cert.ResidKernelIdeal.Facts] [hResidReferenceIdeal : Cert.ResidReferenceIdeal.Facts] : Prop :=
  ∀ (m : (ℓ : Loc Cert.ResidKernelIdeal.nD Cert.ResidKernelIdeal.τ Cert.ResidKernelIdeal.sig) → Buf (Elt Ideal) ℓ) (g : Dev Cert.ResidKernelIdeal.nD → PrngReg)
    (m' : (ℓ : Loc Cert.ResidReferenceIdeal.nD Cert.ResidReferenceIdeal.τ Cert.ResidReferenceIdeal.sig) → Buf (Elt Ideal) ℓ) (g' : Dev Cert.ResidReferenceIdeal.nD → PrngReg), Pre_ResidKernelIdeal m →
    (∀ c : Dev Cert.ResidKernelIdeal.nD,
      m' ((c.tc : Thread Cert.ResidReferenceIdeal.nD Cert.ResidReferenceIdeal.τ).loc Cert.ResidReferenceIdeal.main_arg0) = m ((c.tc : Thread Cert.ResidKernelIdeal.nD Cert.ResidKernelIdeal.τ).loc Cert.ResidKernelIdeal.main_arg0)
      ∧ m' ((c.tc : Thread Cert.ResidReferenceIdeal.nD Cert.ResidReferenceIdeal.τ).loc Cert.ResidReferenceIdeal.main_arg1) = m ((c.tc : Thread Cert.ResidKernelIdeal.nD Cert.ResidKernelIdeal.τ).loc Cert.ResidKernelIdeal.main_arg1)
      ∧ m' ((c.tc : Thread Cert.ResidReferenceIdeal.nD Cert.ResidReferenceIdeal.τ).loc Cert.ResidReferenceIdeal.main_arg2) = m ((c.tc : Thread Cert.ResidKernelIdeal.nD Cert.ResidKernelIdeal.τ).loc Cert.ResidKernelIdeal.main_arg2)) →
    ∃ (v0 : (c : Dev Cert.ResidKernelIdeal.nD) → Buf (Elt Ideal) ((c.tc : Thread Cert.ResidKernelIdeal.nD Cert.ResidKernelIdeal.τ).loc Cert.ResidKernelIdeal.main_v2)),
      θ_run (Cert.ResidKernelIdeal.defs (F := Ideal)) (onTc (τ := Cert.ResidKernelIdeal.τ) (Cert.ResidKernelIdeal.main (F := Ideal))) ⟨m, fun _ => 0, g⟩ (fun r => ∀ c : Dev Cert.ResidKernelIdeal.nD,
          r.2.mem ((c.tc : Thread Cert.ResidKernelIdeal.nD Cert.ResidKernelIdeal.τ).loc Cert.ResidKernelIdeal.main_v2) = v0 c
          ∧ r.2.mem ((c.tc : Thread Cert.ResidKernelIdeal.nD Cert.ResidKernelIdeal.τ).loc Cert.ResidKernelIdeal.main_arg0) = m ((c.tc : Thread Cert.ResidKernelIdeal.nD Cert.ResidKernelIdeal.τ).loc Cert.ResidKernelIdeal.main_arg0)
          ∧ r.2.mem ((c.tc : Thread Cert.ResidKernelIdeal.nD Cert.ResidKernelIdeal.τ).loc Cert.ResidKernelIdeal.main_arg1) = m ((c.tc : Thread Cert.ResidKernelIdeal.nD Cert.ResidKernelIdeal.τ).loc Cert.ResidKernelIdeal.main_arg1)
          ∧ r.2.mem ((c.tc : Thread Cert.ResidKernelIdeal.nD Cert.ResidKernelIdeal.τ).loc Cert.ResidKernelIdeal.main_arg2) = m ((c.tc : Thread Cert.ResidKernelIdeal.nD Cert.ResidKernelIdeal.τ).loc Cert.ResidKernelIdeal.main_arg2))
      ∧ θ_run (Cert.ResidReferenceIdeal.defs (F := Ideal)) (onTc (τ := Cert.ResidReferenceIdeal.τ) (Cert.ResidReferenceIdeal.main (F := Ideal))) ⟨m', fun _ => 0, g'⟩ (fun r => ∀ c : Dev Cert.ResidReferenceIdeal.nD,
          r.2.mem ((c.tc : Thread Cert.ResidReferenceIdeal.nD Cert.ResidReferenceIdeal.τ).loc Cert.ResidReferenceIdeal.main_v14) = v0 c
          ∧ r.2.mem ((c.tc : Thread Cert.ResidReferenceIdeal.nD Cert.ResidReferenceIdeal.τ).loc Cert.ResidReferenceIdeal.main_arg0) = m' ((c.tc : Thread Cert.ResidReferenceIdeal.nD Cert.ResidReferenceIdeal.τ).loc Cert.ResidReferenceIdeal.main_arg0)
          ∧ r.2.mem ((c.tc : Thread Cert.ResidReferenceIdeal.nD Cert.ResidReferenceIdeal.τ).loc Cert.ResidReferenceIdeal.main_arg1) = m' ((c.tc : Thread Cert.ResidReferenceIdeal.nD Cert.ResidReferenceIdeal.τ).loc Cert.ResidReferenceIdeal.main_arg1)
          ∧ r.2.mem ((c.tc : Thread Cert.ResidReferenceIdeal.nD Cert.ResidReferenceIdeal.τ).loc Cert.ResidReferenceIdeal.main_arg2) = m' ((c.tc : Thread Cert.ResidReferenceIdeal.nD Cert.ResidReferenceIdeal.τ).loc Cert.ResidReferenceIdeal.main_arg2))

def preserves_ResidNormKernel_ResidNormKernelIdeal : Prop :=
  True

def algebraic_ResidNormKernelIdeal_ResidNormReferenceIdeal [hResidNormKernelIdeal : Cert.ResidNormKernelIdeal.Facts] [hResidNormReferenceIdeal : Cert.ResidNormReferenceIdeal.Facts] : Prop :=
  ∀ (m : (ℓ : Loc Cert.ResidNormKernelIdeal.nD Cert.ResidNormKernelIdeal.τ Cert.ResidNormKernelIdeal.sig) → Buf (Elt Ideal) ℓ) (g : Dev Cert.ResidNormKernelIdeal.nD → PrngReg)
    (m' : (ℓ : Loc Cert.ResidNormReferenceIdeal.nD Cert.ResidNormReferenceIdeal.τ Cert.ResidNormReferenceIdeal.sig) → Buf (Elt Ideal) ℓ) (g' : Dev Cert.ResidNormReferenceIdeal.nD → PrngReg), Pre_ResidNormKernelIdeal m →
    (∀ c : Dev Cert.ResidNormKernelIdeal.nD,
      m' ((c.tc : Thread Cert.ResidNormReferenceIdeal.nD Cert.ResidNormReferenceIdeal.τ).loc Cert.ResidNormReferenceIdeal.main_arg0) = m ((c.tc : Thread Cert.ResidNormKernelIdeal.nD Cert.ResidNormKernelIdeal.τ).loc Cert.ResidNormKernelIdeal.main_arg0)
      ∧ m' ((c.tc : Thread Cert.ResidNormReferenceIdeal.nD Cert.ResidNormReferenceIdeal.τ).loc Cert.ResidNormReferenceIdeal.main_arg1) = m ((c.tc : Thread Cert.ResidNormKernelIdeal.nD Cert.ResidNormKernelIdeal.τ).loc Cert.ResidNormKernelIdeal.main_arg1)
      ∧ m' ((c.tc : Thread Cert.ResidNormReferenceIdeal.nD Cert.ResidNormReferenceIdeal.τ).loc Cert.ResidNormReferenceIdeal.main_arg2) = m ((c.tc : Thread Cert.ResidNormKernelIdeal.nD Cert.ResidNormKernelIdeal.τ).loc Cert.ResidNormKernelIdeal.main_arg2)
      ∧ m' ((c.tc : Thread Cert.ResidNormReferenceIdeal.nD Cert.ResidNormReferenceIdeal.τ).loc Cert.ResidNormReferenceIdeal.main_arg3) = m ((c.tc : Thread Cert.ResidNormKernelIdeal.nD Cert.ResidNormKernelIdeal.τ).loc Cert.ResidNormKernelIdeal.main_arg3)) →
    ∃ (v0 : (c : Dev Cert.ResidNormKernelIdeal.nD) → Buf (Elt Ideal) ((c.tc : Thread Cert.ResidNormKernelIdeal.nD Cert.ResidNormKernelIdeal.τ).loc Cert.ResidNormKernelIdeal.main_v5_0)) (v1 : (c : Dev Cert.ResidNormKernelIdeal.nD) → Buf (Elt Ideal) ((c.tc : Thread Cert.ResidNormKernelIdeal.nD Cert.ResidNormKernelIdeal.τ).loc Cert.ResidNormKernelIdeal.main_v5_1)),
      θ_run (Cert.ResidNormKernelIdeal.defs (F := Ideal)) (onTc (τ := Cert.ResidNormKernelIdeal.τ) (Cert.ResidNormKernelIdeal.main (F := Ideal))) ⟨m, fun _ => 0, g⟩ (fun r => ∀ c : Dev Cert.ResidNormKernelIdeal.nD,
          r.2.mem ((c.tc : Thread Cert.ResidNormKernelIdeal.nD Cert.ResidNormKernelIdeal.τ).loc Cert.ResidNormKernelIdeal.main_v5_0) = v0 c
          ∧ r.2.mem ((c.tc : Thread Cert.ResidNormKernelIdeal.nD Cert.ResidNormKernelIdeal.τ).loc Cert.ResidNormKernelIdeal.main_v5_1) = v1 c
          ∧ r.2.mem ((c.tc : Thread Cert.ResidNormKernelIdeal.nD Cert.ResidNormKernelIdeal.τ).loc Cert.ResidNormKernelIdeal.main_arg0) = m ((c.tc : Thread Cert.ResidNormKernelIdeal.nD Cert.ResidNormKernelIdeal.τ).loc Cert.ResidNormKernelIdeal.main_arg0)
          ∧ r.2.mem ((c.tc : Thread Cert.ResidNormKernelIdeal.nD Cert.ResidNormKernelIdeal.τ).loc Cert.ResidNormKernelIdeal.main_arg1) = m ((c.tc : Thread Cert.ResidNormKernelIdeal.nD Cert.ResidNormKernelIdeal.τ).loc Cert.ResidNormKernelIdeal.main_arg1)
          ∧ r.2.mem ((c.tc : Thread Cert.ResidNormKernelIdeal.nD Cert.ResidNormKernelIdeal.τ).loc Cert.ResidNormKernelIdeal.main_arg2) = m ((c.tc : Thread Cert.ResidNormKernelIdeal.nD Cert.ResidNormKernelIdeal.τ).loc Cert.ResidNormKernelIdeal.main_arg2)
          ∧ r.2.mem ((c.tc : Thread Cert.ResidNormKernelIdeal.nD Cert.ResidNormKernelIdeal.τ).loc Cert.ResidNormKernelIdeal.main_arg3) = m ((c.tc : Thread Cert.ResidNormKernelIdeal.nD Cert.ResidNormKernelIdeal.τ).loc Cert.ResidNormKernelIdeal.main_arg3))
      ∧ θ_run (Cert.ResidNormReferenceIdeal.defs (F := Ideal)) (onTc (τ := Cert.ResidNormReferenceIdeal.τ) (Cert.ResidNormReferenceIdeal.main (F := Ideal))) ⟨m', fun _ => 0, g'⟩ (fun r => ∀ c : Dev Cert.ResidNormReferenceIdeal.nD,
          r.2.mem ((c.tc : Thread Cert.ResidNormReferenceIdeal.nD Cert.ResidNormReferenceIdeal.τ).loc Cert.ResidNormReferenceIdeal.main_v15) = v0 c
          ∧ r.2.mem ((c.tc : Thread Cert.ResidNormReferenceIdeal.nD Cert.ResidNormReferenceIdeal.τ).loc Cert.ResidNormReferenceIdeal.main_v30) = v1 c
          ∧ r.2.mem ((c.tc : Thread Cert.ResidNormReferenceIdeal.nD Cert.ResidNormReferenceIdeal.τ).loc Cert.ResidNormReferenceIdeal.main_arg0) = m' ((c.tc : Thread Cert.ResidNormReferenceIdeal.nD Cert.ResidNormReferenceIdeal.τ).loc Cert.ResidNormReferenceIdeal.main_arg0)
          ∧ r.2.mem ((c.tc : Thread Cert.ResidNormReferenceIdeal.nD Cert.ResidNormReferenceIdeal.τ).loc Cert.ResidNormReferenceIdeal.main_arg1) = m' ((c.tc : Thread Cert.ResidNormReferenceIdeal.nD Cert.ResidNormReferenceIdeal.τ).loc Cert.ResidNormReferenceIdeal.main_arg1)
          ∧ r.2.mem ((c.tc : Thread Cert.ResidNormReferenceIdeal.nD Cert.ResidNormReferenceIdeal.τ).loc Cert.ResidNormReferenceIdeal.main_arg2) = m' ((c.tc : Thread Cert.ResidNormReferenceIdeal.nD Cert.ResidNormReferenceIdeal.τ).loc Cert.ResidNormReferenceIdeal.main_arg2)
          ∧ r.2.mem ((c.tc : Thread Cert.ResidNormReferenceIdeal.nD Cert.ResidNormReferenceIdeal.τ).loc Cert.ResidNormReferenceIdeal.main_arg3) = m' ((c.tc : Thread Cert.ResidNormReferenceIdeal.nD Cert.ResidNormReferenceIdeal.τ).loc Cert.ResidNormReferenceIdeal.main_arg3))

def preserves_NormKernel_NormKernelIdeal : Prop :=
  True

def algebraic_NormKernelIdeal_NormReferenceIdeal [hNormKernelIdeal : Cert.NormKernelIdeal.Facts] [hNormReferenceIdeal : Cert.NormReferenceIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormKernelIdeal m →
    (∀ c : Dev Cert.NormKernelIdeal.nD,
      m' ((c.tc : Thread Cert.NormReferenceIdeal.nD Cert.NormReferenceIdeal.τ).loc Cert.NormReferenceIdeal.main_arg0) = m ((c.tc : Thread Cert.NormKernelIdeal.nD Cert.NormKernelIdeal.τ).loc Cert.NormKernelIdeal.main_arg0)
      ∧ m' ((c.tc : Thread Cert.NormReferenceIdeal.nD Cert.NormReferenceIdeal.τ).loc Cert.NormReferenceIdeal.main_arg1) = m ((c.tc : Thread Cert.NormKernelIdeal.nD Cert.NormKernelIdeal.τ).loc Cert.NormKernelIdeal.main_arg1)) →
    ∃ (v0 : (c : Dev Cert.NormKernelIdeal.nD) → Buf (Elt Ideal) ((c.tc : Thread Cert.NormKernelIdeal.nD Cert.NormKernelIdeal.τ).loc Cert.NormKernelIdeal.main_v3)),
      θ_run (Cert.NormKernelIdeal.defs (F := Ideal)) (onTc (τ := Cert.NormKernelIdeal.τ) (Cert.NormKernelIdeal.main (F := Ideal))) ⟨m, fun _ => 0, g⟩ (fun r => ∀ c : Dev Cert.NormKernelIdeal.nD,
          r.2.mem ((c.tc : Thread Cert.NormKernelIdeal.nD Cert.NormKernelIdeal.τ).loc Cert.NormKernelIdeal.main_v3) = v0 c
          ∧ r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
          ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v15) = v0 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1))

def preserves_PleKernel_PleKernelIdeal : Prop :=
  True

def algebraic_PleKernelIdeal_PleReferenceIdeal [hPleKernelIdeal : Cert.PleKernelIdeal.Facts] [hPleReferenceIdeal : Cert.PleReferenceIdeal.Facts] : Prop :=
  ∀ (m : (ℓ : Loc Cert.PleKernelIdeal.nD Cert.PleKernelIdeal.τ Cert.PleKernelIdeal.sig) → Buf (Elt Ideal) ℓ) (g : Dev Cert.PleKernelIdeal.nD → PrngReg)
    (m' : (ℓ : Loc Cert.PleReferenceIdeal.nD Cert.PleReferenceIdeal.τ Cert.PleReferenceIdeal.sig) → Buf (Elt Ideal) ℓ) (g' : Dev Cert.PleReferenceIdeal.nD → PrngReg), Pre_PleKernelIdeal m →
    (∀ c : Dev Cert.PleKernelIdeal.nD,
      m' ((c.tc : Thread Cert.PleReferenceIdeal.nD Cert.PleReferenceIdeal.τ).loc Cert.PleReferenceIdeal.main_arg0) = m ((c.tc : Thread Cert.PleKernelIdeal.nD Cert.PleKernelIdeal.τ).loc Cert.PleKernelIdeal.main_arg0)
      ∧ m' ((c.tc : Thread Cert.PleReferenceIdeal.nD Cert.PleReferenceIdeal.τ).loc Cert.PleReferenceIdeal.main_arg1) = m ((c.tc : Thread Cert.PleKernelIdeal.nD Cert.PleKernelIdeal.τ).loc Cert.PleKernelIdeal.main_arg1)
      ∧ m' ((c.tc : Thread Cert.PleReferenceIdeal.nD Cert.PleReferenceIdeal.τ).loc Cert.PleReferenceIdeal.main_arg2) = m ((c.tc : Thread Cert.PleKernelIdeal.nD Cert.PleKernelIdeal.τ).loc Cert.PleKernelIdeal.main_arg2)
      ∧ m' ((c.tc : Thread Cert.PleReferenceIdeal.nD Cert.PleReferenceIdeal.τ).loc Cert.PleReferenceIdeal.main_arg3) = m ((c.tc : Thread Cert.PleKernelIdeal.nD Cert.PleKernelIdeal.τ).loc Cert.PleKernelIdeal.main_arg3)
      ∧ m' ((c.tc : Thread Cert.PleReferenceIdeal.nD Cert.PleReferenceIdeal.τ).loc Cert.PleReferenceIdeal.main_arg4) = m ((c.tc : Thread Cert.PleKernelIdeal.nD Cert.PleKernelIdeal.τ).loc Cert.PleKernelIdeal.main_arg4)) →
    ∃ (v0 : (c : Dev Cert.PleKernelIdeal.nD) → Buf (Elt Ideal) ((c.tc : Thread Cert.PleKernelIdeal.nD Cert.PleKernelIdeal.τ).loc Cert.PleKernelIdeal.main_v6)),
      θ_run (Cert.PleKernelIdeal.defs (F := Ideal)) (onTc (τ := Cert.PleKernelIdeal.τ) (Cert.PleKernelIdeal.main (F := Ideal))) ⟨m, fun _ => 0, g⟩ (fun r => ∀ c : Dev Cert.PleKernelIdeal.nD,
          r.2.mem ((c.tc : Thread Cert.PleKernelIdeal.nD Cert.PleKernelIdeal.τ).loc Cert.PleKernelIdeal.main_v6) = v0 c
          ∧ r.2.mem ((c.tc : Thread Cert.PleKernelIdeal.nD Cert.PleKernelIdeal.τ).loc Cert.PleKernelIdeal.main_arg0) = m ((c.tc : Thread Cert.PleKernelIdeal.nD Cert.PleKernelIdeal.τ).loc Cert.PleKernelIdeal.main_arg0)
          ∧ r.2.mem ((c.tc : Thread Cert.PleKernelIdeal.nD Cert.PleKernelIdeal.τ).loc Cert.PleKernelIdeal.main_arg1) = m ((c.tc : Thread Cert.PleKernelIdeal.nD Cert.PleKernelIdeal.τ).loc Cert.PleKernelIdeal.main_arg1)
          ∧ r.2.mem ((c.tc : Thread Cert.PleKernelIdeal.nD Cert.PleKernelIdeal.τ).loc Cert.PleKernelIdeal.main_arg2) = m ((c.tc : Thread Cert.PleKernelIdeal.nD Cert.PleKernelIdeal.τ).loc Cert.PleKernelIdeal.main_arg2)
          ∧ r.2.mem ((c.tc : Thread Cert.PleKernelIdeal.nD Cert.PleKernelIdeal.τ).loc Cert.PleKernelIdeal.main_arg3) = m ((c.tc : Thread Cert.PleKernelIdeal.nD Cert.PleKernelIdeal.τ).loc Cert.PleKernelIdeal.main_arg3)
          ∧ r.2.mem ((c.tc : Thread Cert.PleKernelIdeal.nD Cert.PleKernelIdeal.τ).loc Cert.PleKernelIdeal.main_arg4) = m ((c.tc : Thread Cert.PleKernelIdeal.nD Cert.PleKernelIdeal.τ).loc Cert.PleKernelIdeal.main_arg4))
      ∧ θ_run (Cert.PleReferenceIdeal.defs (F := Ideal)) (onTc (τ := Cert.PleReferenceIdeal.τ) (Cert.PleReferenceIdeal.main (F := Ideal))) ⟨m', fun _ => 0, g'⟩ (fun r => ∀ c : Dev Cert.PleReferenceIdeal.nD,
          r.2.mem ((c.tc : Thread Cert.PleReferenceIdeal.nD Cert.PleReferenceIdeal.τ).loc Cert.PleReferenceIdeal.main_v27) = v0 c
          ∧ r.2.mem ((c.tc : Thread Cert.PleReferenceIdeal.nD Cert.PleReferenceIdeal.τ).loc Cert.PleReferenceIdeal.main_arg0) = m' ((c.tc : Thread Cert.PleReferenceIdeal.nD Cert.PleReferenceIdeal.τ).loc Cert.PleReferenceIdeal.main_arg0)
          ∧ r.2.mem ((c.tc : Thread Cert.PleReferenceIdeal.nD Cert.PleReferenceIdeal.τ).loc Cert.PleReferenceIdeal.main_arg1) = m' ((c.tc : Thread Cert.PleReferenceIdeal.nD Cert.PleReferenceIdeal.τ).loc Cert.PleReferenceIdeal.main_arg1)
          ∧ r.2.mem ((c.tc : Thread Cert.PleReferenceIdeal.nD Cert.PleReferenceIdeal.τ).loc Cert.PleReferenceIdeal.main_arg2) = m' ((c.tc : Thread Cert.PleReferenceIdeal.nD Cert.PleReferenceIdeal.τ).loc Cert.PleReferenceIdeal.main_arg2)
          ∧ r.2.mem ((c.tc : Thread Cert.PleReferenceIdeal.nD Cert.PleReferenceIdeal.τ).loc Cert.PleReferenceIdeal.main_arg3) = m' ((c.tc : Thread Cert.PleReferenceIdeal.nD Cert.PleReferenceIdeal.τ).loc Cert.PleReferenceIdeal.main_arg3)
          ∧ r.2.mem ((c.tc : Thread Cert.PleReferenceIdeal.nD Cert.PleReferenceIdeal.τ).loc Cert.PleReferenceIdeal.main_arg4) = m' ((c.tc : Thread Cert.PleReferenceIdeal.nD Cert.PleReferenceIdeal.τ).loc Cert.PleReferenceIdeal.main_arg4))

def Claim : Prop :=
  ∃ (hAttnKernel : Cert.AttnKernel.Facts) (hAttnKernelIdeal : Cert.AttnKernelIdeal.Facts) (hAttnReferenceIdeal : Cert.AttnReferenceIdeal.Facts) (hMlpKernel : Cert.MlpKernel.Facts) (hMlpKernelIdeal : Cert.MlpKernelIdeal.Facts) (hMlpReferenceIdeal : Cert.MlpReferenceIdeal.Facts) (hGatesKernel : Cert.GatesKernel.Facts) (hGatesKernelIdeal : Cert.GatesKernelIdeal.Facts) (hGatesReferenceIdeal : Cert.GatesReferenceIdeal.Facts) (hQkvKernel : Cert.QkvKernel.Facts) (hQkvKernelIdeal : Cert.QkvKernelIdeal.Facts) (hQkvReferenceIdeal : Cert.QkvReferenceIdeal.Facts) (hMergeKernel : Cert.MergeKernel.Facts) (hMergeKernelIdeal : Cert.MergeKernelIdeal.Facts) (hMergeReferenceIdeal : Cert.MergeReferenceIdeal.Facts) (hOutKernel : Cert.OutKernel.Facts) (hOutKernelIdeal : Cert.OutKernelIdeal.Facts) (hOutReferenceIdeal : Cert.OutReferenceIdeal.Facts) (hResidKernel : Cert.ResidKernel.Facts) (hResidKernelIdeal : Cert.ResidKernelIdeal.Facts) (hResidReferenceIdeal : Cert.ResidReferenceIdeal.Facts) (hResidNormKernel : Cert.ResidNormKernel.Facts) (hResidNormKernelIdeal : Cert.ResidNormKernelIdeal.Facts) (hResidNormReferenceIdeal : Cert.ResidNormReferenceIdeal.Facts) (hNormKernel : Cert.NormKernel.Facts) (hNormKernelIdeal : Cert.NormKernelIdeal.Facts) (hNormReferenceIdeal : Cert.NormReferenceIdeal.Facts) (hPleKernel : Cert.PleKernel.Facts) (hPleKernelIdeal : Cert.PleKernelIdeal.Facts) (hPleReferenceIdeal : Cert.PleReferenceIdeal.Facts) (hPre_finite : Cert.Pre_finite.Facts),
    quiescent_AttnKernel (hAttnKernel := hAttnKernel)
    ∧ quiescent_AttnKernelIdeal (hAttnKernelIdeal := hAttnKernelIdeal)
    ∧ quiescent_AttnKernelIdeal_pre_finite (hAttnKernelIdeal := hAttnKernelIdeal) (hPre_finite := hPre_finite)
    ∧ quiescent_AttnReferenceIdeal (hAttnReferenceIdeal := hAttnReferenceIdeal)
    ∧ quiescent_AttnReferenceIdeal_pre_finite (hAttnReferenceIdeal := hAttnReferenceIdeal) (hPre_finite := hPre_finite)
    ∧ quiescent_MlpKernel (hMlpKernel := hMlpKernel)
    ∧ quiescent_MlpKernelIdeal (hMlpKernelIdeal := hMlpKernelIdeal)
    ∧ quiescent_MlpReferenceIdeal (hMlpReferenceIdeal := hMlpReferenceIdeal)
    ∧ quiescent_GatesKernel (hGatesKernel := hGatesKernel)
    ∧ quiescent_GatesKernelIdeal (hGatesKernelIdeal := hGatesKernelIdeal)
    ∧ quiescent_GatesReferenceIdeal (hGatesReferenceIdeal := hGatesReferenceIdeal)
    ∧ quiescent_QkvKernel (hQkvKernel := hQkvKernel)
    ∧ quiescent_QkvKernelIdeal (hQkvKernelIdeal := hQkvKernelIdeal)
    ∧ quiescent_QkvReferenceIdeal (hQkvReferenceIdeal := hQkvReferenceIdeal)
    ∧ quiescent_MergeKernel (hMergeKernel := hMergeKernel)
    ∧ quiescent_MergeKernelIdeal (hMergeKernelIdeal := hMergeKernelIdeal)
    ∧ quiescent_MergeReferenceIdeal (hMergeReferenceIdeal := hMergeReferenceIdeal)
    ∧ quiescent_OutKernel (hOutKernel := hOutKernel)
    ∧ quiescent_OutKernelIdeal (hOutKernelIdeal := hOutKernelIdeal)
    ∧ quiescent_OutReferenceIdeal (hOutReferenceIdeal := hOutReferenceIdeal)
    ∧ quiescent_ResidKernel (hResidKernel := hResidKernel)
    ∧ quiescent_ResidKernelIdeal (hResidKernelIdeal := hResidKernelIdeal)
    ∧ quiescent_ResidReferenceIdeal (hResidReferenceIdeal := hResidReferenceIdeal)
    ∧ quiescent_ResidNormKernel (hResidNormKernel := hResidNormKernel)
    ∧ quiescent_ResidNormKernelIdeal (hResidNormKernelIdeal := hResidNormKernelIdeal)
    ∧ quiescent_ResidNormReferenceIdeal (hResidNormReferenceIdeal := hResidNormReferenceIdeal)
    ∧ quiescent_NormKernel (hNormKernel := hNormKernel)
    ∧ quiescent_NormKernelIdeal (hNormKernelIdeal := hNormKernelIdeal)
    ∧ quiescent_NormReferenceIdeal (hNormReferenceIdeal := hNormReferenceIdeal)
    ∧ quiescent_PleKernel (hPleKernel := hPleKernel)
    ∧ quiescent_PleKernelIdeal (hPleKernelIdeal := hPleKernelIdeal)
    ∧ quiescent_PleReferenceIdeal (hPleReferenceIdeal := hPleReferenceIdeal)
    ∧ preserves_AttnKernel_AttnKernelIdeal
    ∧ algebraic_AttnKernelIdeal_AttnReferenceIdeal_pre_finite (hAttnKernelIdeal := hAttnKernelIdeal) (hAttnReferenceIdeal := hAttnReferenceIdeal) (hPre_finite := hPre_finite)
    ∧ preserves_MlpKernel_MlpKernelIdeal
    ∧ algebraic_MlpKernelIdeal_MlpReferenceIdeal (hMlpKernelIdeal := hMlpKernelIdeal) (hMlpReferenceIdeal := hMlpReferenceIdeal)
    ∧ preserves_GatesKernel_GatesKernelIdeal
    ∧ algebraic_GatesKernelIdeal_GatesReferenceIdeal (hGatesKernelIdeal := hGatesKernelIdeal) (hGatesReferenceIdeal := hGatesReferenceIdeal)
    ∧ preserves_QkvKernel_QkvKernelIdeal
    ∧ algebraic_QkvKernelIdeal_QkvReferenceIdeal (hQkvKernelIdeal := hQkvKernelIdeal) (hQkvReferenceIdeal := hQkvReferenceIdeal)
    ∧ preserves_MergeKernel_MergeKernelIdeal
    ∧ algebraic_MergeKernelIdeal_MergeReferenceIdeal (hMergeKernelIdeal := hMergeKernelIdeal) (hMergeReferenceIdeal := hMergeReferenceIdeal)
    ∧ preserves_OutKernel_OutKernelIdeal
    ∧ algebraic_OutKernelIdeal_OutReferenceIdeal (hOutKernelIdeal := hOutKernelIdeal) (hOutReferenceIdeal := hOutReferenceIdeal)
    ∧ preserves_ResidKernel_ResidKernelIdeal
    ∧ algebraic_ResidKernelIdeal_ResidReferenceIdeal (hResidKernelIdeal := hResidKernelIdeal) (hResidReferenceIdeal := hResidReferenceIdeal)
    ∧ preserves_ResidNormKernel_ResidNormKernelIdeal
    ∧ algebraic_ResidNormKernelIdeal_ResidNormReferenceIdeal (hResidNormKernelIdeal := hResidNormKernelIdeal) (hResidNormReferenceIdeal := hResidNormReferenceIdeal)
    ∧ preserves_NormKernel_NormKernelIdeal
    ∧ algebraic_NormKernelIdeal_NormReferenceIdeal (hNormKernelIdeal := hNormKernelIdeal) (hNormReferenceIdeal := hNormReferenceIdeal)
    ∧ preserves_PleKernel_PleKernelIdeal
    ∧ algebraic_PleKernelIdeal_PleReferenceIdeal (hPleKernelIdeal := hPleKernelIdeal) (hPleReferenceIdeal := hPleReferenceIdeal)
-- ==== Pre_finite.lean ====
abbrev S16384x3072 : Shape := ⟨2, ![16384, 3072]⟩
abbrev S1x16 : Shape := ⟨2, ![1, 16]⟩
abbrev S16384x2560 : Shape := ⟨2, ![16384, 2560]⟩
abbrev S_ : Shape := ⟨0, ![]⟩

class Facts : Prop where
  slices_S16384x3072_S16384x2560_0_0 : S16384x3072.Slices ![0, 0] S16384x2560
  bitsLt_bf16_f32 : FTy.bits .bf16 < FTy.bits .f32
  bcast_S_S16384x2560 : S_.BroadcastsInDim S16384x2560 (![] : Fin 0 → Fin S16384x2560.rank)
  bcast_S_S1x16 : S_.BroadcastsInDim S1x16 (![] : Fin 0 → Fin S1x16.rank)

variable [Facts]

def fn {F : FTy → Type} [FloatOps F] (main_arg0 : FVec F S16384x3072 .bf16) (main_arg1 : FVec F S1x16 .f32) : IVec S16384x2560 1 × IVec S1x16 1 :=
  let main_v0 : FVec F S16384x2560 .bf16 := (extractStridedSlice S16384x2560 ![0, 0] · slices_S16384x3072_S16384x2560_0_0) main_arg0
  let main_v1 : FVec F S16384x2560 .f32 := (extf .f32 · bitsLt_bf16_f32) main_v0
  let main_cst : FVec F S_ .f32 := constant S_ .f32 0xFF800000#32
  let main_v2 : FVec F S16384x2560 .f32 := broadcastInDim S16384x2560 ![] bcast_S_S16384x2560 main_cst
  let main_v3 : IVec S16384x2560 1 := cmpf .ogt main_v1 main_v2
  let main_cst_0 : FVec F S_ .f32 := constant S_ .f32 0x7F800000#32
  let main_v4 : FVec F S16384x2560 .f32 := broadcastInDim S16384x2560 ![] bcast_S_S16384x2560 main_cst_0
  let main_v5 : IVec S16384x2560 1 := cmpf .olt main_v1 main_v4
  let main_v6 : IVec S16384x2560 1 := andi main_v3 main_v5
  let main_cst_1 : FVec F S_ .f32 := constant S_ .f32 0xFF800000#32
  let main_v7 : FVec F S1x16 .f32 := broadcastInDim S1x16 ![] bcast_S_S1x16 main_cst_1
  let main_v8 : IVec S1x16 1 := cmpf .ogt main_arg1 main_v7
  let main_cst_2 : FVec F S_ .f32 := constant S_ .f32 0x7F800000#32
  let main_v9 : FVec F S1x16 .f32 := broadcastInDim S1x16 ![] bcast_S_S1x16 main_cst_2
  let main_v10 : IVec S1x16 1 := cmpf .olt main_arg1 main_v9
  let main_v11 : IVec S1x16 1 := andi main_v8 main_v10
  (main_v6, main_v11)
-- ==== AttnKernel.lean ====
abbrev S16384x3072 : Shape := ⟨2, ![16384, 3072]⟩
abbrev S1x16 : Shape := ⟨2, ![1, 16]⟩
abbrev S16 : Shape := ⟨1, ![16]⟩
abbrev S16384x2048 : Shape := ⟨2, ![16384, 2048]⟩
abbrev S2048x512 : Shape := ⟨2, ![2048, 512]⟩
abbrev S128x128 : Shape := ⟨2, ![128, 128]⟩
abbrev S2048x128 : Shape := ⟨2, ![2048, 128]⟩
abbrev S2304x128 : Shape := ⟨2, ![2304, 128]⟩
abbrev S2304x256 : Shape := ⟨2, ![2304, 256]⟩
abbrev S512x384 : Shape := ⟨2, ![512, 384]⟩
abbrev S1x2304 : Shape := ⟨2, ![1, 2304]⟩
abbrev S1 : Shape := ⟨1, ![1]⟩
abbrev S512x128 : Shape := ⟨2, ![512, 128]⟩
abbrev S128x512 : Shape := ⟨2, ![128, 512]⟩
abbrev S384x128 : Shape := ⟨2, ![384, 128]⟩
abbrev S1x384 : Shape := ⟨2, ![1, 384]⟩
abbrev S512 : Shape := ⟨1, ![512]⟩
abbrev S512x1 : Shape := ⟨2, ![512, 1]⟩
abbrev S384x256 : Shape := ⟨2, ![384, 256]⟩
abbrev S512x256 : Shape := ⟨2, ![512, 256]⟩

abbrev nBuf : Space → Nat
  | .hbm => 4
  | .vmem => 16
  | .smem => 1
  | _ => 0

abbrev bufTy : (tb : Table) → Fin (tcTables nBuf tb) → BufTy
  | .hbm, ⟨0, _⟩ => ⟨S16384x3072, .bf16⟩
  | .hbm, ⟨1, _⟩ => ⟨S1x16, .f32⟩
  | .hbm, ⟨2, _⟩ => ⟨S16, .f32⟩
  | .hbm, ⟨3, _⟩ => ⟨S16384x2048, .bf16⟩
  | .local _ .vmem, ⟨0, _⟩ => ⟨S2048x512, .bf16⟩
  | .local _ .vmem, ⟨1, _⟩ => ⟨S2048x512, .bf16⟩
  | .local _ .vmem, ⟨2, _⟩ => ⟨S128x128, .bf16⟩
  | .local _ .vmem, ⟨3, _⟩ => ⟨S128x128, .bf16⟩
  | .local _ .vmem, ⟨4, _⟩ => ⟨S2048x128, .bf16⟩
  | .local _ .vmem, ⟨5, _⟩ => ⟨S2048x128, .bf16⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S128x128, .bf16⟩
  | .local _ .vmem, ⟨10, _⟩ => ⟨S2048x128, .bf16⟩
  | .local _ .vmem, ⟨11, _⟩ => ⟨S2048x128, .bf16⟩
  | .local _ .vmem, ⟨12, _⟩ => ⟨S128x128, .bf16⟩
  | .local _ .vmem, ⟨13, _⟩ => ⟨S128x128, .bf16⟩
  | .local _ .vmem, ⟨14, _⟩ => ⟨S2048x512, .bf16⟩
  | .local _ .vmem, ⟨15, _⟩ => ⟨S2048x512, .bf16⟩
  | .local _ .smem, ⟨0, _⟩ => ⟨S16, .f32⟩
  | _, _ => ⟨S16384x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨3, ![2, 4, 4], ![false, false, false]⟩

def k0_off1 (i : grid0.Coords) (c0_i32_22 : BitVec 32) : Fin 1 → Nat :=
  let arg1 : BitVec 32 := BitVec.ofNat 32 (i 1).val
  let c4_i32 : BitVec 32 := 4#32
  let v50 : BitVec 32 := Scalar.muli arg1 c4_i32
  let v51 : BitVec 32 := Scalar.addi v50 c0_i32_22
  let v52 : Index := Scalar.indexCast v51
  ![v52.toNat]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let c16_i32 : BitVec 32 := 16#32
  let v1 : BitVec 32 := Scalar.muli arg2 c16_i32
  let c1_i32 : BitVec 32 := 1#32
  let v2 : BitVec 32 := Scalar.subi v1 c1_i32
  let c0_i32 : BitVec 32 := 0#32
  let v3 : BitVec 32 := Scalar.maxsi v2 c0_i32
  let v4 : BitVec 32 := Scalar.addi v0 v3
  let c16_i32_0 : BitVec 32 := 16#32
  let v5 : BitVec 32 := Scalar.addi c16_i32_0 arg1
  let c0_i32_1 : BitVec 32 := 0#32
  ![v4.toNat, v5.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c16_i32 : BitVec 32 := 16#32
  let v2 : BitVec 32 := Scalar.addi c16_i32 arg1
  let c0_i32 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let c1_i32 : BitVec 32 := 1#32
  let v1 : BitVec 32 := Scalar.addi arg2 c1_i32
  let c16_i32 : BitVec 32 := 16#32
  let v2 : BitVec 32 := Scalar.muli v1 c16_i32
  let c63_i32 : BitVec 32 := 63#32
  let v3 : BitVec 32 := Scalar.minsi v2 c63_i32
  let v4 : BitVec 32 := Scalar.addi v0 v3
  let c16_i32_0 : BitVec 32 := 16#32
  let v5 : BitVec 32 := Scalar.addi c16_i32_0 arg1
  let c0_i32 : BitVec 32 := 0#32
  ![v4.toNat, v5.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let c16_i32 : BitVec 32 := 16#32
  let v1 : BitVec 32 := Scalar.muli arg2 c16_i32
  let c1_i32 : BitVec 32 := 1#32
  let v2 : BitVec 32 := Scalar.subi v1 c1_i32
  let c0_i32 : BitVec 32 := 0#32
  let v3 : BitVec 32 := Scalar.maxsi v2 c0_i32
  let v4 : BitVec 32 := Scalar.addi v0 v3
  let c20_i32 : BitVec 32 := 20#32
  let v5 : BitVec 32 := Scalar.addi c20_i32 arg1
  let c0_i32_0 : BitVec 32 := 0#32
  ![v4.toNat, v5.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c20_i32 : BitVec 32 := 20#32
  let v2 : BitVec 32 := Scalar.addi c20_i32 arg1
  let c0_i32 : BitVec 32 := 0#32
  ![v1.toNat, v2.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let c1_i32 : BitVec 32 := 1#32
  let v1 : BitVec 32 := Scalar.addi arg2 c1_i32
  let c16_i32 : BitVec 32 := 16#32
  let v2 : BitVec 32 := Scalar.muli v1 c16_i32
  let c63_i32 : BitVec 32 := 63#32
  let v3 : BitVec 32 := Scalar.minsi v2 c63_i32
  let v4 : BitVec 32 := Scalar.addi v0 v3
  let c20_i32 : BitVec 32 := 20#32
  let v5 : BitVec 32 := Scalar.addi c20_i32 arg1
  let c0_i32 : BitVec 32 := 0#32
  ![v4.toNat, v5.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S2048x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== AttnReferenceIdeal.lean ====
abbrev S16384x3072 : Shape := ⟨2, ![16384, 3072]⟩
abbrev S1x16 : Shape := ⟨2, ![1, 16]⟩
abbrev S16384x2048 : Shape := ⟨2, ![16384, 2048]⟩
abbrev S2x8192x16x128 : Shape := ⟨4, ![2, 8192, 16, 128]⟩
abbrev S16384x512 : Shape := ⟨2, ![16384, 512]⟩
abbrev S2x8192x4x128 : Shape := ⟨4, ![2, 8192, 4, 128]⟩
abbrev S2x64x128x4x4x128 : Shape := ⟨6, ![2, 64, 128, 4, 4, 128]⟩
abbrev S_ : Shape := ⟨0, ![]⟩
abbrev S2x8448x4x128 : Shape := ⟨4, ![2, 8448, 4, 128]⟩
abbrev S2x66x128x4x128 : Shape := ⟨5, ![2, 66, 128, 4, 128]⟩
abbrev S2x64x128x4x128 : Shape := ⟨5, ![2, 64, 128, 4, 128]⟩
abbrev S2x64x384x4x128 : Shape := ⟨5, ![2, 64, 384, 4, 128]⟩
abbrev S2x64x4x384x128x4 : Shape := ⟨6, ![2, 64, 4, 384, 128, 4]⟩
abbrev S2x64x4x4x128x384 : Shape := ⟨6, ![2, 64, 4, 4, 128, 384]⟩
abbrev S128 : Shape := ⟨1, ![128]⟩
abbrev S128x1 : Shape := ⟨2, ![128, 1]⟩
abbrev S384 : Shape := ⟨1, ![384]⟩
abbrev S1x384 : Shape := ⟨2, ![1, 384]⟩
abbrev S64 : Shape := ⟨1, ![64]⟩
abbrev S64x1x1 : Shape := ⟨3, ![64, 1, 1]⟩
abbrev S1x1x384 : Shape := ⟨3, ![1, 1, 384]⟩
abbrev S64x1x384 : Shape := ⟨3, ![64, 1, 384]⟩
abbrev S128x384 : Shape := ⟨2, ![128, 384]⟩
abbrev S1x128x384 : Shape := ⟨3, ![1, 128, 384]⟩
abbrev S64x128x384 : Shape := ⟨3, ![64, 128, 384]⟩
abbrev S1x64x1x1x128x384 : Shape := ⟨6, ![1, 64, 1, 1, 128, 384]⟩
abbrev S16 : Shape := ⟨1, ![16]⟩
abbrev S4x4 : Shape := ⟨2, ![4, 4]⟩
abbrev S1x1x4x4x1x1 : Shape := ⟨6, ![1, 1, 4, 4, 1, 1]⟩
abbrev S2x64x4x4x128 : Shape := ⟨5, ![2, 64, 4, 4, 128]⟩
abbrev S2x64x4x4x128x1 : Shape := ⟨6, ![2, 64, 4, 4, 128, 1]⟩
abbrev S2x64x4x128x4x128 : Shape := ⟨6, ![2, 64, 4, 128, 4, 128]⟩

abbrev nBuf : Space → Nat
  | .hbm => 96
  | .vmem => 0
  | .smem => 0
  | _ => 0

abbrev bufTy : (tb : Table) → Fin (tcTables nBuf tb) → BufTy
  | .hbm, ⟨0, _⟩ => ⟨S16384x3072, .bf16⟩
  | .hbm, ⟨1, _⟩ => ⟨S1x16, .f32⟩
  | .hbm, ⟨2, _⟩ => ⟨S16384x3072, .f32⟩
  | .hbm, ⟨3, _⟩ => ⟨S16384x2048, .f32⟩
  | .hbm, ⟨4, _⟩ => ⟨S2x8192x16x128, .f32⟩
  | .hbm, ⟨5, _⟩ => ⟨S16384x512, .f32⟩
  | .hbm, ⟨6, _⟩ => ⟨S2x8192x4x128, .f32⟩
  | .hbm, ⟨7, _⟩ => ⟨S16384x512, .f32⟩
  | .hbm, ⟨8, _⟩ => ⟨S2x8192x4x128, .f32⟩
  | .hbm, ⟨9, _⟩ => ⟨S2x64x128x4x4x128, .f32⟩
  | .hbm, ⟨10, _⟩ => ⟨S_, .i32⟩
  | .hbm, ⟨11, _⟩ => ⟨S_, .f32⟩
  | .hbm, ⟨12, _⟩ => ⟨S2x8448x4x128, .f32⟩
  | .hbm, ⟨13, _⟩ => ⟨S2x66x128x4x128, .f32⟩
  | .hbm, ⟨14, _⟩ => ⟨S2x64x128x4x128, .f32⟩
  | .hbm, ⟨15, _⟩ => ⟨S2x64x128x4x128, .f32⟩
  | .hbm, ⟨16, _⟩ => ⟨S2x64x128x4x128, .f32⟩
  | .hbm, ⟨17, _⟩ => ⟨S2x64x384x4x128, .f32⟩
  | .hbm, ⟨18, _⟩ => ⟨S_, .i32⟩
  | .hbm, ⟨19, _⟩ => ⟨S_, .f32⟩
  | .hbm, ⟨20, _⟩ => ⟨S2x8448x4x128, .f32⟩
  | .hbm, ⟨21, _⟩ => ⟨S2x66x128x4x128, .f32⟩
  | .hbm, ⟨22, _⟩ => ⟨S2x64x128x4x128, .f32⟩
  | .hbm, ⟨23, _⟩ => ⟨S2x64x128x4x128, .f32⟩
  | .hbm, ⟨24, _⟩ => ⟨S2x64x128x4x128, .f32⟩
  | .hbm, ⟨25, _⟩ => ⟨S2x64x384x4x128, .f32⟩
  | .hbm, ⟨26, _⟩ => ⟨S2x64x4x384x128x4, .f32⟩
  | .hbm, ⟨27, _⟩ => ⟨S2x64x4x4x128x384, .f32⟩
  | .hbm, ⟨28, _⟩ => ⟨S128, .i32⟩
  | .hbm, ⟨29, _⟩ => ⟨S128x1, .i32⟩
  | .hbm, ⟨30, _⟩ => ⟨S384, .i32⟩
  | .hbm, ⟨31, _⟩ => ⟨S1x384, .i32⟩
  | .hbm, ⟨32, _⟩ => ⟨S64, .i32⟩
  | .hbm, ⟨33, _⟩ => ⟨S64x1x1, .i32⟩
  | .hbm, ⟨34, _⟩ => ⟨S_, .i32⟩
  | .hbm, ⟨35, _⟩ => ⟨S64x1x1, .i32⟩
  | .hbm, ⟨36, _⟩ => ⟨S64x1x1, .i32⟩
  | .hbm, ⟨37, _⟩ => ⟨S_, .i32⟩
  | .hbm, ⟨38, _⟩ => ⟨S64x1x1, .i32⟩
  | .hbm, ⟨39, _⟩ => ⟨S64x1x1, .i32⟩
  | .hbm, ⟨40, _⟩ => ⟨S1x1x384, .i32⟩
  | .hbm, ⟨41, _⟩ => ⟨S64x1x384, .i32⟩
  | .hbm, ⟨42, _⟩ => ⟨S64x1x384, .i32⟩
  | .hbm, ⟨43, _⟩ => ⟨S64x1x384, .i32⟩
  | .hbm, ⟨44, _⟩ => ⟨S_, .i32⟩
  | .hbm, ⟨45, _⟩ => ⟨S1x384, .i32⟩
  | .hbm, ⟨46, _⟩ => ⟨S1x384, .i32⟩
  | .hbm, ⟨47, _⟩ => ⟨S128x384, .i32⟩
  | .hbm, ⟨48, _⟩ => ⟨S128x384, .i32⟩
  | .hbm, ⟨49, _⟩ => ⟨S128x384, .i32⟩
  | .hbm, ⟨50, _⟩ => ⟨S128x384, .i32⟩
  | .hbm, ⟨51, _⟩ => ⟨S1x128x384, .i32⟩
  | .hbm, ⟨52, _⟩ => ⟨S_, .i32⟩
  | .hbm, ⟨53, _⟩ => ⟨S1x128x384, .i32⟩
  | .hbm, ⟨54, _⟩ => ⟨S1x128x384, .i1⟩
  | .hbm, ⟨55, _⟩ => ⟨S_, .i32⟩
  | .hbm, ⟨56, _⟩ => ⟨S64x1x384, .i32⟩
  | .hbm, ⟨57, _⟩ => ⟨S64x1x384, .i1⟩
  | .hbm, ⟨58, _⟩ => ⟨S64x128x384, .i1⟩
  | .hbm, ⟨59, _⟩ => ⟨S64x128x384, .i1⟩
  | .hbm, ⟨60, _⟩ => ⟨S64x128x384, .i1⟩
  | .hbm, ⟨61, _⟩ => ⟨S_, .i32⟩
  | .hbm, ⟨62, _⟩ => ⟨S64x1x384, .i32⟩
  | .hbm, ⟨63, _⟩ => ⟨S64x1x384, .i1⟩
  | .hbm, ⟨64, _⟩ => ⟨S64x128x384, .i1⟩
  | .hbm, ⟨65, _⟩ => ⟨S64x128x384, .i1⟩
  | .hbm, ⟨66, _⟩ => ⟨S1x64x1x1x128x384, .i1⟩
  | .hbm, ⟨67, _⟩ => ⟨S_, .f32⟩
  | .hbm, ⟨68, _⟩ => ⟨S_, .f32⟩
  | .hbm, ⟨69, _⟩ => ⟨S2x64x4x4x128x384, .i1⟩
  | .hbm, ⟨70, _⟩ => ⟨S2x64x4x4x128x384, .f32⟩
  | .hbm, ⟨71, _⟩ => ⟨S2x64x4x4x128x384, .f32⟩
  | .hbm, ⟨72, _⟩ => ⟨S16, .f32⟩
  | .hbm, ⟨73, _⟩ => ⟨S4x4, .f32⟩
  | .hbm, ⟨74, _⟩ => ⟨S1x1x4x4x1x1, .f32⟩
  | .hbm, ⟨75, _⟩ => ⟨S_, .f32⟩
  | .hbm, ⟨76, _⟩ => ⟨S2x64x4x4x128, .f32⟩
  | .hbm, ⟨77, _⟩ => ⟨S2x64x4x4x128x1, .f32⟩
  | .hbm, ⟨78, _⟩ => ⟨S2x64x4x4x128x1, .f32⟩
  | .hbm, ⟨79, _⟩ => ⟨S2x64x4x4x128x1, .f32⟩
  | .hbm, ⟨80, _⟩ => ⟨S2x64x4x4x128x384, .f32⟩
  | .hbm, ⟨81, _⟩ => ⟨S2x64x4x4x128x384, .f32⟩
  | .hbm, ⟨82, _⟩ => ⟨S2x64x4x4x128x384, .f32⟩
  | .hbm, ⟨83, _⟩ => ⟨S_, .f32⟩
  | .hbm, ⟨84, _⟩ => ⟨S2x64x4x4x128, .f32⟩
  | .hbm, ⟨85, _⟩ => ⟨S2x64x4x4x128x1, .f32⟩
  | .hbm, ⟨86, _⟩ => ⟨S2x64x4x4x128x1, .f32⟩
  | .hbm, ⟨87, _⟩ => ⟨S2x64x4x4x128x1, .f32⟩
  | .hbm, ⟨88, _⟩ => ⟨S2x64x4x4x128x1, .f32⟩
  | .hbm, ⟨89, _⟩ => ⟨S2x64x4x4x128x1, .f32⟩
  | .hbm, ⟨90, _⟩ => ⟨S2x64x4x4x128x384, .f32⟩
  | .hbm, ⟨91, _⟩ => ⟨S2x64x4x4x128x384, .f32⟩
  | .hbm, ⟨92, _⟩ => ⟨S2x64x4x128x4x128, .f32⟩
  | .hbm, ⟨93, _⟩ => ⟨S2x64x128x4x4x128, .f32⟩
  | .hbm, ⟨94, _⟩ => ⟨S16384x2048, .f32⟩
  | .hbm, ⟨95, _⟩ => ⟨S16384x2048, .bf16⟩
  | _, _ => ⟨S16384x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_c : Ref sig .tc := ⟨.hbm, 10, rfl⟩
abbrev main_call0_v0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c_0 : Ref sig .tc := ⟨.hbm, 18, rfl⟩
abbrev main_call1_v0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_c_1 : Ref sig .tc := ⟨.hbm, 34, rfl⟩
abbrev main_v28 : Ref sig .tc := ⟨.hbm, 35, rfl⟩
abbrev main_v29 : Ref sig .tc := ⟨.hbm, 36, rfl⟩
abbrev main_c_2 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_c_3 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_c_4 : Ref sig .tc := ⟨.hbm, 52, rfl⟩
abbrev main_v43 : Ref sig .tc := ⟨.hbm, 53, rfl⟩
abbrev main_v44 : Ref sig .tc := ⟨.hbm, 54, rfl⟩
abbrev main_c_5 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_c_6 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_cst : Ref sig .tc := ⟨.hbm, 67, rfl⟩
abbrev main_call2_v0 : Ref sig .tc := ⟨.hbm, 68, rfl⟩
abbrev main_call2_v1 : Ref sig .tc := ⟨.hbm, 69, rfl⟩
abbrev main_call2_v2 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_7 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_8 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩

abbrev nD : Nat := 1
abbrev τ : Topo := Topo.v7x

variable {F : FTy → Type} [FloatOps F]
-- ==== MlpKernel.lean ====
abbrev S16384x4096 : Shape := ⟨2, ![16384, 4096]⟩
abbrev S4096x16384 : Shape := ⟨2, ![4096, 16384]⟩
abbrev S512x4096 : Shape := ⟨2, ![512, 4096]⟩
abbrev S4096x1024 : Shape := ⟨2, ![4096, 1024]⟩
abbrev S1024x4096 : Shape := ⟨2, ![1024, 4096]⟩
abbrev S512x1024 : Shape := ⟨2, ![512, 1024]⟩

abbrev nBuf : Space → Nat
  | .hbm => 4
  | .vmem => 8
  | .smem => 0
  | _ => 0

abbrev bufTy : (tb : Table) → Fin (tcTables nBuf tb) → BufTy
  | .hbm, ⟨0, _⟩ => ⟨S16384x4096, .bf16⟩
  | .hbm, ⟨1, _⟩ => ⟨S4096x16384, .bf16⟩
  | .hbm, ⟨2, _⟩ => ⟨S16384x4096, .bf16⟩
  | .hbm, ⟨3, _⟩ => ⟨S16384x4096, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x4096, .bf16⟩
  | .local _ .vmem, ⟨5, _⟩ => ⟨S1024x4096, .bf16⟩
  | .local _ .vmem, ⟨6, _⟩ => ⟨S512x4096, .f32⟩
  | .local _ .vmem, ⟨7, _⟩ => ⟨S512x4096, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== MlpReferenceIdeal.lean ====
abbrev S16384x4096 : Shape := ⟨2, ![16384, 4096]⟩
abbrev S4096x16384 : Shape := ⟨2, ![4096, 16384]⟩
abbrev S16384x16384 : Shape := ⟨2, ![16384, 16384]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x16384, .bf16⟩
  | .hbm, ⟨2, _⟩ => ⟨S16384x4096, .bf16⟩
  | .hbm, ⟨3, _⟩ => ⟨S16384x4096, .f32⟩
  | .hbm, ⟨4, _⟩ => ⟨S4096x16384, .f32⟩
  | .hbm, ⟨5, _⟩ => ⟨S16384x16384, .f32⟩
  | .hbm, ⟨6, _⟩ => ⟨S_, .f32⟩
  | .hbm, ⟨7, _⟩ => ⟨S16384x16384, .f32⟩
  | .hbm, ⟨8, _⟩ => ⟨S16384x16384, .f32⟩
  | .hbm, ⟨9, _⟩ => ⟨S16384x16384, .f32⟩
  | .hbm, ⟨10, _⟩ => ⟨S16384x4096, .f32⟩
  | .hbm, ⟨11, _⟩ => ⟨S16384x4096, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== GatesKernel.lean ====
abbrev S16384x4096 : Shape := ⟨2, ![16384, 4096]⟩
abbrev S4096x11264 : Shape := ⟨2, ![4096, 11264]⟩
abbrev S1x4096x4096 : Shape := ⟨3, ![1, 4096, 4096]⟩
abbrev S1x4096x16384 : Shape := ⟨3, ![1, 4096, 16384]⟩
abbrev S1x16384x4096 : Shape := ⟨3, ![1, 16384, 4096]⟩
abbrev S1x2048x4096 : Shape := ⟨3, ![1, 2048, 4096]⟩
abbrev S4096x4096 : Shape := ⟨2, ![4096, 4096]⟩
abbrev S4096x16384 : Shape := ⟨2, ![4096, 16384]⟩
abbrev S2048x4096 : Shape := ⟨2, ![2048, 4096]⟩
abbrev S16384x8192 : Shape := ⟨2, ![16384, 8192]⟩
abbrev S1024x4096 : Shape := ⟨2, ![1024, 4096]⟩
abbrev S4096x1024 : Shape := ⟨2, ![4096, 1024]⟩
abbrev S32x4096 : Shape := ⟨2, ![32, 4096]⟩
abbrev S32x16384 : Shape := ⟨2, ![32, 16384]⟩
abbrev S128x4096 : Shape := ⟨2, ![128, 4096]⟩
abbrev S16x4096 : Shape := ⟨2, ![16, 4096]⟩
abbrev S1024x1024 : Shape := ⟨2, ![1024, 1024]⟩
abbrev S4096x256 : Shape := ⟨2, ![4096, 256]⟩
abbrev S1024x256 : Shape := ⟨2, ![1024, 256]⟩

abbrev nBuf : Space → Nat
  | .hbm => 21
  | .vmem => 30
  | .smem => 0
  | _ => 0

abbrev bufTy : (tb : Table) → Fin (tcTables nBuf tb) → BufTy
  | .hbm, ⟨0, _⟩ => ⟨S16384x4096, .bf16⟩
  | .hbm, ⟨1, _⟩ => ⟨S4096x11264, .bf16⟩
  | .hbm, ⟨2, _⟩ => ⟨S1x4096x4096, .f32⟩
  | .hbm, ⟨3, _⟩ => ⟨S1x4096x16384, .f32⟩
  | .hbm, ⟨4, _⟩ => ⟨S1x16384x4096, .f32⟩
  | .hbm, ⟨5, _⟩ => ⟨S1x4096x4096, .f32⟩
  | .hbm, ⟨6, _⟩ => ⟨S1x2048x4096, .f32⟩
  | .hbm, ⟨7, _⟩ => ⟨S1x2048x4096, .f32⟩
  | .hbm, ⟨8, _⟩ => ⟨S4096x4096, .f32⟩
  | .hbm, ⟨9, _⟩ => ⟨S4096x16384, .f32⟩
  | .hbm, ⟨10, _⟩ => ⟨S16384x4096, .f32⟩
  | .hbm, ⟨11, _⟩ => ⟨S4096x4096, .f32⟩
  | .hbm, ⟨12, _⟩ => ⟨S2048x4096, .f32⟩
  | .hbm, ⟨13, _⟩ => ⟨S2048x4096, .f32⟩
  | .hbm, ⟨14, _⟩ => ⟨S16384x8192, .bf16⟩
  | .hbm, ⟨15, _⟩ => ⟨S4096x4096, .bf16⟩
  | .hbm, ⟨16, _⟩ => ⟨S4096x16384, .bf16⟩
  | .hbm, ⟨17, _⟩ => ⟨S16384x4096, .bf16⟩
  | .hbm, ⟨18, _⟩ => ⟨S4096x4096, .bf16⟩
  | .hbm, ⟨19, _⟩ => ⟨S2048x4096, .bf16⟩
  | .hbm, ⟨20, _⟩ => ⟨S2048x4096, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S32x4096, .f32⟩
  | .local _ .vmem, ⟨5, _⟩ => ⟨S32x4096, .f32⟩
  | .local _ .vmem, ⟨6, _⟩ => ⟨S32x16384, .f32⟩
  | .local _ .vmem, ⟨7, _⟩ => ⟨S32x16384, .f32⟩
  | .local _ .vmem, ⟨8, _⟩ => ⟨S128x4096, .f32⟩
  | .local _ .vmem, ⟨9, _⟩ => ⟨S128x4096, .f32⟩
  | .local _ .vmem, ⟨10, _⟩ => ⟨S32x4096, .f32⟩
  | .local _ .vmem, ⟨11, _⟩ => ⟨S32x4096, .f32⟩
  | .local _ .vmem, ⟨12, _⟩ => ⟨S16x4096, .f32⟩
  | .local _ .vmem, ⟨13, _⟩ => ⟨S16x4096, .f32⟩
  | .local _ .vmem, ⟨14, _⟩ => ⟨S16x4096, .f32⟩
  | .local _ .vmem, ⟨15, _⟩ => ⟨S16x4096, .f32⟩
  | .local _ .vmem, ⟨16, _⟩ => ⟨S1024x1024, .bf16⟩
  | .local _ .vmem, ⟨17, _⟩ => ⟨S1024x1024, .bf16⟩
  | .local _ .vmem, ⟨18, _⟩ => ⟨S32x4096, .bf16⟩
  | .local _ .vmem, ⟨19, _⟩ => ⟨S32x4096, .bf16⟩
  | .local _ .vmem, ⟨20, _⟩ => ⟨S32x16384, .bf16⟩
  | .local _ .vmem, ⟨21, _⟩ => ⟨S32x16384, .bf16⟩
  | .local _ .vmem, ⟨22, _⟩ => ⟨S128x4096, .bf16⟩
  | .local _ .vmem, ⟨23, _⟩ => ⟨S128x4096, .bf16⟩
  | .local _ .vmem, ⟨24, _⟩ => ⟨S32x4096, .bf16⟩
  | .local _ .vmem, ⟨25, _⟩ => ⟨S32x4096, .bf16⟩
  | .local _ .vmem, ⟨26, _⟩ => ⟨S16x4096, .bf16⟩
  | .local _ .vmem, ⟨27, _⟩ => ⟨S16x4096, .bf16⟩
  | .local _ .vmem, ⟨28, _⟩ => ⟨S16x4096, .bf16⟩
  | .local _ .vmem, ⟨29, _⟩ => ⟨S16x4096, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev main_v6_4 : Ref sig .tc := ⟨.hbm, 18, rfl⟩
abbrev main_v6_5 : Ref sig .tc := ⟨.hbm, 19, rfl⟩
abbrev main_v6_6 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi arg1 c3_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S32x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x16384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S16x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S16x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S32x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S32x16384 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S128x4096 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S32x4096 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S16x4096 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S16x4096 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== GatesReferenceIdeal.lean ====
abbrev S16384x4096 : Shape := ⟨2, ![16384, 4096]⟩
abbrev S4096x11264 : Shape := ⟨2, ![4096, 11264]⟩
abbrev S1x4096x4096 : Shape := ⟨3, ![1, 4096, 4096]⟩
abbrev S1x4096x16384 : Shape := ⟨3, ![1, 4096, 16384]⟩
abbrev S1x16384x4096 : Shape := ⟨3, ![1, 16384, 4096]⟩
abbrev S1x2048x4096 : Shape := ⟨3, ![1, 2048, 4096]⟩
abbrev S4096x8192 : Shape := ⟨2, ![4096, 8192]⟩
abbrev S16384x8192 : Shape := ⟨2, ![16384, 8192]⟩
abbrev S_ : Shape := ⟨0, ![]⟩
abbrev S4096x4096 : Shape := ⟨2, ![4096, 4096]⟩
abbrev S4096x16384 : Shape := ⟨2, ![4096, 16384]⟩
abbrev S2048x4096 : Shape := ⟨2, ![2048, 4096]⟩

abbrev nBuf : Space → Nat
  | .hbm => 33
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x11264, .bf16⟩
  | .hbm, ⟨2, _⟩ => ⟨S1x4096x4096, .f32⟩
  | .hbm, ⟨3, _⟩ => ⟨S1x4096x16384, .f32⟩
  | .hbm, ⟨4, _⟩ => ⟨S1x16384x4096, .f32⟩
  | .hbm, ⟨5, _⟩ => ⟨S1x4096x4096, .f32⟩
  | .hbm, ⟨6, _⟩ => ⟨S1x2048x4096, .f32⟩
  | .hbm, ⟨7, _⟩ => ⟨S1x2048x4096, .f32⟩
  | .hbm, ⟨8, _⟩ => ⟨S16384x4096, .f32⟩
  | .hbm, ⟨9, _⟩ => ⟨S4096x11264, .f32⟩
  | .hbm, ⟨10, _⟩ => ⟨S4096x8192, .f32⟩
  | .hbm, ⟨11, _⟩ => ⟨S16384x8192, .f32⟩
  | .hbm, ⟨12, _⟩ => ⟨S16384x8192, .f32⟩
  | .hbm, ⟨13, _⟩ => ⟨S16384x8192, .f32⟩
  | .hbm, ⟨14, _⟩ => ⟨S_, .f32⟩
  | .hbm, ⟨15, _⟩ => ⟨S16384x8192, .f32⟩
  | .hbm, ⟨16, _⟩ => ⟨S16384x8192, .f32⟩
  | .hbm, ⟨17, _⟩ => ⟨S_, .f32⟩
  | .hbm, ⟨18, _⟩ => ⟨S16384x8192, .f32⟩
  | .hbm, ⟨19, _⟩ => ⟨S16384x8192, .f32⟩
  | .hbm, ⟨20, _⟩ => ⟨S16384x8192, .bf16⟩
  | .hbm, ⟨21, _⟩ => ⟨S4096x4096, .f32⟩
  | .hbm, ⟨22, _⟩ => ⟨S4096x4096, .bf16⟩
  | .hbm, ⟨23, _⟩ => ⟨S4096x16384, .f32⟩
  | .hbm, ⟨24, _⟩ => ⟨S4096x16384, .bf16⟩
  | .hbm, ⟨25, _⟩ => ⟨S16384x4096, .f32⟩
  | .hbm, ⟨26, _⟩ => ⟨S16384x4096, .bf16⟩
  | .hbm, ⟨27, _⟩ => ⟨S4096x4096, .f32⟩
  | .hbm, ⟨28, _⟩ => ⟨S4096x4096, .bf16⟩
  | .hbm, ⟨29, _⟩ => ⟨S2048x4096, .f32⟩
  | .hbm, ⟨30, _⟩ => ⟨S2048x4096, .bf16⟩
  | .hbm, ⟨31, _⟩ => ⟨S2048x4096, .f32⟩
  | .hbm, ⟨32, _⟩ => ⟨S2048x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]
-- ==== QkvKernel.lean ====
abbrev S16384x4096 : Shape := ⟨2, ![16384, 4096]⟩
abbrev S4096x11264 : Shape := ⟨2, ![4096, 11264]⟩
abbrev S64 : Shape := ⟨1, ![64]⟩
abbrev S_ : Shape := ⟨0, ![]⟩
abbrev S8192 : Shape := ⟨1, ![8192]⟩
abbrev S8192x1 : Shape := ⟨2, ![8192, 1]⟩
abbrev S1x64 : Shape := ⟨2, ![1, 64]⟩
abbrev S8192x64 : Shape := ⟨2, ![8192, 64]⟩
abbrev S8192x128 : Shape := ⟨2, ![8192, 128]⟩
abbrev S16384x3072 : Shape := ⟨2, ![16384, 3072]⟩
abbrev S1024x4096 : Shape := ⟨2, ![1024, 4096]⟩
abbrev S4096x1024 : Shape := ⟨2, ![4096, 1024]⟩
abbrev S1024x128 : Shape := ⟨2, ![1024, 128]⟩
abbrev S1024x1024 : Shape := ⟨2, ![1024, 1024]⟩
abbrev S4096x256 : Shape := ⟨2, ![4096, 256]⟩
abbrev S1024x256 : Shape := ⟨2, ![1024, 256]⟩

abbrev nBuf : Space → Nat
  | .hbm => 28
  | .vmem => 10
  | .smem => 0
  | _ => 0

abbrev bufTy : (tb : Table) → Fin (tcTables nBuf tb) → BufTy
  | .hbm, ⟨0, _⟩ => ⟨S16384x4096, .bf16⟩
  | .hbm, ⟨1, _⟩ => ⟨S4096x11264, .bf16⟩
  | .hbm, ⟨2, _⟩ => ⟨S64, .f32⟩
  | .hbm, ⟨3, _⟩ => ⟨S_, .f32⟩
  | .hbm, ⟨4, _⟩ => ⟨S64, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S8192, .f32⟩
  | .hbm, ⟨17, _⟩ => ⟨S8192x1, .f32⟩
  | .hbm, ⟨18, _⟩ => ⟨S1x64, .f32⟩
  | .hbm, ⟨19, _⟩ => ⟨S8192x64, .f32⟩
  | .hbm, ⟨20, _⟩ => ⟨S8192x64, .f32⟩
  | .hbm, ⟨21, _⟩ => ⟨S8192x64, .f32⟩
  | .hbm, ⟨22, _⟩ => ⟨S8192x64, .f32⟩
  | .hbm, ⟨23, _⟩ => ⟨S8192x64, .f32⟩
  | .hbm, ⟨24, _⟩ => ⟨S8192x128, .f32⟩
  | .hbm, ⟨25, _⟩ => ⟨S8192x64, .f32⟩
  | .hbm, ⟨26, _⟩ => ⟨S8192x128, .f32⟩
  | .hbm, ⟨27, _⟩ => ⟨S16384x3072, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x1024, .bf16⟩
  | .local _ .vmem, ⟨9, _⟩ => ⟨S1024x1024, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== QkvReferenceIdeal.lean ====
abbrev S16384x4096 : Shape := ⟨2, ![16384, 4096]⟩
abbrev S4096x11264 : Shape := ⟨2, ![4096, 11264]⟩
abbrev S4096x3072 : Shape := ⟨2, ![4096, 3072]⟩
abbrev S16384x3072 : Shape := ⟨2, ![16384, 3072]⟩
abbrev S16384x2048 : Shape := ⟨2, ![16384, 2048]⟩
abbrev S16384x512 : Shape := ⟨2, ![16384, 512]⟩
abbrev S8192 : Shape := ⟨1, ![8192]⟩
abbrev S2x8192x16x128 : Shape := ⟨4, ![2, 8192, 16, 128]⟩
abbrev S64 : Shape := ⟨1, ![64]⟩
abbrev S_ : Shape := ⟨0, ![]⟩
abbrev S8192x1 : Shape := ⟨2, ![8192, 1]⟩
abbrev S1x64 : Shape := ⟨2, ![1, 64]⟩
abbrev S8192x64 : Shape := ⟨2, ![8192, 64]⟩
abbrev S1x8192x1x64 : Shape := ⟨4, ![1, 8192, 1, 64]⟩
abbrev S2x8192x16x64 : Shape := ⟨4, ![2, 8192, 16, 64]⟩
abbrev S2x8192x4x128 : Shape := ⟨4, ![2, 8192, 4, 128]⟩
abbrev S2x8192x4x64 : Shape := ⟨4, ![2, 8192, 4, 64]⟩

abbrev nBuf : Space → Nat
  | .hbm => 91
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x11264, .bf16⟩
  | .hbm, ⟨2, _⟩ => ⟨S16384x4096, .f32⟩
  | .hbm, ⟨3, _⟩ => ⟨S4096x11264, .f32⟩
  | .hbm, ⟨4, _⟩ => ⟨S4096x3072, .f32⟩
  | .hbm, ⟨5, _⟩ => ⟨S16384x3072, .f32⟩
  | .hbm, ⟨6, _⟩ => ⟨S16384x2048, .f32⟩
  | .hbm, ⟨7, _⟩ => ⟨S16384x512, .f32⟩
  | .hbm, ⟨8, _⟩ => ⟨S16384x512, .f32⟩
  | .hbm, ⟨9, _⟩ => ⟨S8192, .f32⟩
  | .hbm, ⟨10, _⟩ => ⟨S2x8192x16x128, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S_, .f32⟩
  | .hbm, ⟨23, _⟩ => ⟨S64, .f32⟩
  | .hbm, ⟨24, _⟩ => ⟨S64, .f32⟩
  | .hbm, ⟨25, _⟩ => ⟨S8192x1, .f32⟩
  | .hbm, ⟨26, _⟩ => ⟨S1x64, .f32⟩
  | .hbm, ⟨27, _⟩ => ⟨S8192x64, .f32⟩
  | .hbm, ⟨28, _⟩ => ⟨S8192x64, .f32⟩
  | .hbm, ⟨29, _⟩ => ⟨S8192x64, .f32⟩
  | .hbm, ⟨30, _⟩ => ⟨S8192x64, .f32⟩
  | .hbm, ⟨31, _⟩ => ⟨S1x8192x1x64, .f32⟩
  | .hbm, ⟨32, _⟩ => ⟨S8192x64, .f32⟩
  | .hbm, ⟨33, _⟩ => ⟨S1x8192x1x64, .f32⟩
  | .hbm, ⟨34, _⟩ => ⟨S2x8192x16x64, .f32⟩
  | .hbm, ⟨35, _⟩ => ⟨S2x8192x16x64, .f32⟩
  | .hbm, ⟨36, _⟩ => ⟨S2x8192x16x64, .f32⟩
  | .hbm, ⟨37, _⟩ => ⟨S2x8192x16x64, .f32⟩
  | .hbm, ⟨38, _⟩ => ⟨S2x8192x16x64, .f32⟩
  | .hbm, ⟨39, _⟩ => ⟨S2x8192x16x64, .f32⟩
  | .hbm, ⟨40, _⟩ => ⟨S2x8192x16x64, .f32⟩
  | .hbm, ⟨41, _⟩ => ⟨S2x8192x16x64, .f32⟩
  | .hbm, ⟨42, _⟩ => ⟨S2x8192x16x64, .f32⟩
  | .hbm, ⟨43, _⟩ => ⟨S2x8192x16x64, .f32⟩
  | .hbm, ⟨44, _⟩ => ⟨S2x8192x16x64, .f32⟩
  | .hbm, ⟨45, _⟩ => ⟨S2x8192x16x64, .f32⟩
  | .hbm, ⟨46, _⟩ => ⟨S2x8192x16x128, .f32⟩
  | .hbm, ⟨47, _⟩ => ⟨S_, .f32⟩
  | .hbm, ⟨48, _⟩ => ⟨S2x8192x16x128, .f32⟩
  | .hbm, ⟨49, _⟩ => ⟨S2x8192x16x128, .f32⟩
  | .hbm, ⟨50, _⟩ => ⟨S2x8192x4x128, .f32⟩
  | .hbm, ⟨51, _⟩ => ⟨S64, .f32⟩
  | .hbm, ⟨52, _⟩ => ⟨S_, .f32⟩
  | .hbm, ⟨53, _⟩ => ⟨S64, .f32⟩
  | .hbm, ⟨54, _⟩ => ⟨S64, .f32⟩
  | .hbm, ⟨55, _⟩ => ⟨S_, .f32⟩
  | .hbm, ⟨56, _⟩ => ⟨S64, .f32⟩
  | .hbm, ⟨57, _⟩ => ⟨S64, .f32⟩
  | .hbm, ⟨58, _⟩ => ⟨S64, .f32⟩
  | .hbm, ⟨59, _⟩ => ⟨S_, .f32⟩
  | .hbm, ⟨60, _⟩ => ⟨S64, .f32⟩
  | .hbm, ⟨61, _⟩ => ⟨S64, .f32⟩
  | .hbm, ⟨62, _⟩ => ⟨S_, .f32⟩
  | .hbm, ⟨63, _⟩ => ⟨S64, .f32⟩
  | .hbm, ⟨64, _⟩ => ⟨S64, .f32⟩
  | .hbm, ⟨65, _⟩ => ⟨S8192x1, .f32⟩
  | .hbm, ⟨66, _⟩ => ⟨S1x64, .f32⟩
  | .hbm, ⟨67, _⟩ => ⟨S8192x64, .f32⟩
  | .hbm, ⟨68, _⟩ => ⟨S8192x64, .f32⟩
  | .hbm, ⟨69, _⟩ => ⟨S8192x64, .f32⟩
  | .hbm, ⟨70, _⟩ => ⟨S8192x64, .f32⟩
  | .hbm, ⟨71, _⟩ => ⟨S1x8192x1x64, .f32⟩
  | .hbm, ⟨72, _⟩ => ⟨S8192x64, .f32⟩
  | .hbm, ⟨73, _⟩ => ⟨S1x8192x1x64, .f32⟩
  | .hbm, ⟨74, _⟩ => ⟨S2x8192x4x64, .f32⟩
  | .hbm, ⟨75, _⟩ => ⟨S2x8192x4x64, .f32⟩
  | .hbm, ⟨76, _⟩ => ⟨S2x8192x4x64, .f32⟩
  | .hbm, ⟨77, _⟩ => ⟨S2x8192x4x64, .f32⟩
  | .hbm, ⟨78, _⟩ => ⟨S2x8192x4x64, .f32⟩
  | .hbm, ⟨79, _⟩ => ⟨S2x8192x4x64, .f32⟩
  | .hbm, ⟨80, _⟩ => ⟨S2x8192x4x64, .f32⟩
  | .hbm, ⟨81, _⟩ => ⟨S2x8192x4x64, .f32⟩
  | .hbm, ⟨82, _⟩ => ⟨S2x8192x4x64, .f32⟩
  | .hbm, ⟨83, _⟩ => ⟨S2x8192x4x64, .f32⟩
  | .hbm, ⟨84, _⟩ => ⟨S2x8192x4x64, .f32⟩
  | .hbm, ⟨85, _⟩ => ⟨S2x8192x4x64, .f32⟩
  | .hbm, ⟨86, _⟩ => ⟨S2x8192x4x128, .f32⟩
  | .hbm, ⟨87, _⟩ => ⟨S16384x2048, .f32⟩
  | .hbm, ⟨88, _⟩ => ⟨S16384x512, .f32⟩
  | .hbm, ⟨89, _⟩ => ⟨S16384x3072, .f32⟩
  | .hbm, ⟨90, _⟩ => ⟨S16384x3072, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_cst_3 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_cst_4 : Ref sig .tc := ⟨.hbm, 52, rfl⟩
abbrev main_v45 : Ref sig .tc := ⟨.hbm, 53, rfl⟩
abbrev main_v46 : Ref sig .tc := ⟨.hbm, 54, rfl⟩
abbrev main_cst_5 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_cst_6 : Ref sig .tc := ⟨.hbm, 59, rfl⟩
abbrev main_v50 : Ref sig .tc := ⟨.hbm, 60, rfl⟩
abbrev main_v51 : Ref sig .tc := ⟨.hbm, 61, rfl⟩
abbrev main_cst_7 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩

abbrev nD : Nat := 1
abbrev τ : Topo := Topo.v7x

variable {F : FTy → Type} [FloatOps F]
-- ==== MergeKernel.lean ====
abbrev S16384x2048 : Shape := ⟨2, ![16384, 2048]⟩
abbrev S2048x4096 : Shape := ⟨2, ![2048, 4096]⟩
abbrev S16384x8192 : Shape := ⟨2, ![16384, 8192]⟩
abbrev S16384x4096 : Shape := ⟨2, ![16384, 4096]⟩
abbrev S1024x2048 : Shape := ⟨2, ![1024, 2048]⟩
abbrev S2048x1024 : Shape := ⟨2, ![2048, 1024]⟩
abbrev S1024x1024 : Shape := ⟨2, ![1024, 1024]⟩
abbrev S2048x256 : Shape := ⟨2, ![2048, 256]⟩
abbrev S1024x256 : Shape := ⟨2, ![1024, 256]⟩

abbrev nBuf : Space → Nat
  | .hbm => 6
  | .vmem => 14
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S2048x4096, .bf16⟩
  | .hbm, ⟨3, _⟩ => ⟨S2048x4096, .bf16⟩
  | .hbm, ⟨4, _⟩ => ⟨S16384x8192, .bf16⟩
  | .hbm, ⟨5, _⟩ => ⟨S16384x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MergeReferenceIdeal.lean ====
abbrev S16384x2048 : Shape := ⟨2, ![16384, 2048]⟩
abbrev S2048x4096 : Shape := ⟨2, ![2048, 4096]⟩
abbrev S16384x8192 : Shape := ⟨2, ![16384, 8192]⟩
abbrev S16384x4096 : Shape := ⟨2, ![16384, 4096]⟩

abbrev nBuf : Space → Nat
  | .hbm => 18
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S2048x4096, .bf16⟩
  | .hbm, ⟨3, _⟩ => ⟨S2048x4096, .bf16⟩
  | .hbm, ⟨4, _⟩ => ⟨S16384x8192, .bf16⟩
  | .hbm, ⟨5, _⟩ => ⟨S16384x2048, .f32⟩
  | .hbm, ⟨6, _⟩ => ⟨S2048x4096, .f32⟩
  | .hbm, ⟨7, _⟩ => ⟨S16384x4096, .f32⟩
  | .hbm, ⟨8, _⟩ => ⟨S16384x2048, .f32⟩
  | .hbm, ⟨9, _⟩ => ⟨S2048x4096, .f32⟩
  | .hbm, ⟨10, _⟩ => ⟨S16384x4096, .f32⟩
  | .hbm, ⟨11, _⟩ => ⟨S16384x8192, .f32⟩
  | .hbm, ⟨12, _⟩ => ⟨S16384x4096, .f32⟩
  | .hbm, ⟨13, _⟩ => ⟨S16384x4096, .f32⟩
  | .hbm, ⟨14, _⟩ => ⟨S16384x4096, .f32⟩
  | .hbm, ⟨15, _⟩ => ⟨S16384x4096, .f32⟩
  | .hbm, ⟨16, _⟩ => ⟨S16384x4096, .f32⟩
  | .hbm, ⟨17, _⟩ => ⟨S16384x4096, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== OutKernel.lean ====
abbrev S16384x4096 : Shape := ⟨2, ![16384, 4096]⟩
abbrev S4096x4096 : Shape := ⟨2, ![4096, 4096]⟩
abbrev S1024x4096 : Shape := ⟨2, ![1024, 4096]⟩
abbrev S4096x1024 : Shape := ⟨2, ![4096, 1024]⟩
abbrev S1024x1024 : Shape := ⟨2, ![1024, 1024]⟩
abbrev S4096x256 : Shape := ⟨2, ![4096, 256]⟩
abbrev S1024x256 : Shape := ⟨2, ![1024, 256]⟩

abbrev nBuf : Space → Nat
  | .hbm => 3
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .bf16⟩
  | .hbm, ⟨2, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutReferenceIdeal.lean ====
abbrev S16384x4096 : Shape := ⟨2, ![16384, 4096]⟩
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .bf16⟩
  | .hbm, ⟨2, _⟩ => ⟨S16384x4096, .f32⟩
  | .hbm, ⟨3, _⟩ => ⟨S4096x4096, .f32⟩
  | .hbm, ⟨4, _⟩ => ⟨S16384x4096, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ResidKernel.lean ====
abbrev S16384x4096 : Shape := ⟨2, ![16384, 4096]⟩
abbrev S1x4096 : Shape := ⟨2, ![1, 4096]⟩
abbrev S4096 : Shape := ⟨1, ![4096]⟩
abbrev S512x4096 : Shape := ⟨2, ![512, 4096]⟩
abbrev S512 : Shape := ⟨1, ![512]⟩
abbrev S512x1 : Shape := ⟨2, ![512, 1]⟩

abbrev nBuf : Space → Nat
  | .hbm => 6
  | .vmem => 7
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S1x4096, .f32⟩
  | .hbm, ⟨3, _⟩ => ⟨S4096, .f32⟩
  | .hbm, ⟨4, _⟩ => ⟨S1x4096, .f32⟩
  | .hbm, ⟨5, _⟩ => ⟨S16384x4096, .f32⟩
  | .local _ .vmem, ⟨0, _⟩ => ⟨S512x4096, .f32⟩
  | .local _ .vmem, ⟨1, _⟩ => ⟨S512x4096, .f32⟩
  | .local _ .vmem, ⟨2, _⟩ => ⟨S512x4096, .f32⟩
  | .local _ .vmem, ⟨3, _⟩ => ⟨S512x4096, .f32⟩
  | .local _ .vmem, ⟨4, _⟩ => ⟨S1x4096, .f32⟩
  | .local _ .vmem, ⟨5, _⟩ => ⟨S512x4096, .f32⟩
  | .local _ .vmem, ⟨6, _⟩ => ⟨S512x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ResidReferenceIdeal.lean ====
abbrev S16384x4096 : Shape := ⟨2, ![16384, 4096]⟩
abbrev S1x4096 : Shape := ⟨2, ![1, 4096]⟩
abbrev S4096 : Shape := ⟨1, ![4096]⟩
abbrev S_ : Shape := ⟨0, ![]⟩
abbrev S16384 : Shape := ⟨1, ![16384]⟩
abbrev S16384x1 : Shape := ⟨2, ![16384, 1]⟩

abbrev nBuf : Space → Nat
  | .hbm => 21
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S1x4096, .f32⟩
  | .hbm, ⟨3, _⟩ => ⟨S4096, .f32⟩
  | .hbm, ⟨4, _⟩ => ⟨S16384x4096, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x4096, .f32⟩
  | .hbm, ⟨16, _⟩ => ⟨S16384x4096, .f32⟩
  | .hbm, ⟨17, _⟩ => ⟨S1x4096, .f32⟩
  | .hbm, ⟨18, _⟩ => ⟨S16384x4096, .f32⟩
  | .hbm, ⟨19, _⟩ => ⟨S16384x4096, .f32⟩
  | .hbm, ⟨20, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== ResidNormKernel.lean ====
abbrev S2x8192x4096 : Shape := ⟨3, ![2, 8192, 4096]⟩
abbrev S16384x4096 : Shape := ⟨2, ![16384, 4096]⟩
abbrev S1x4096 : Shape := ⟨2, ![1, 4096]⟩
abbrev S4096 : Shape := ⟨1, ![4096]⟩
abbrev S256x4096 : Shape := ⟨2, ![256, 4096]⟩
abbrev S256 : Shape := ⟨1, ![256]⟩
abbrev S256x1 : Shape := ⟨2, ![256, 1]⟩

abbrev nBuf : Space → Nat
  | .hbm => 11
  | .vmem => 10
  | .smem => 0
  | _ => 0

abbrev bufTy : (tb : Table) → Fin (tcTables nBuf tb) → BufTy
  | .hbm, ⟨0, _⟩ => ⟨S2x8192x4096, .f32⟩
  | .hbm, ⟨1, _⟩ => ⟨S16384x4096, .f32⟩
  | .hbm, ⟨2, _⟩ => ⟨S1x4096, .f32⟩
  | .hbm, ⟨3, _⟩ => ⟨S1x4096, .f32⟩
  | .hbm, ⟨4, _⟩ => ⟨S16384x4096, .f32⟩
  | .hbm, ⟨5, _⟩ => ⟨S4096, .f32⟩
  | .hbm, ⟨6, _⟩ => ⟨S1x4096, .f32⟩
  | .hbm, ⟨7, _⟩ => ⟨S4096, .f32⟩
  | .hbm, ⟨8, _⟩ => ⟨S1x4096, .f32⟩
  | .hbm, ⟨9, _⟩ => ⟨S16384x4096, .f32⟩
  | .hbm, ⟨10, _⟩ => ⟨S16384x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S1x4096, .f32⟩
  | .local _ .vmem, ⟨6, _⟩ => ⟨S256x4096, .f32⟩
  | .local _ .vmem, ⟨7, _⟩ => ⟨S256x4096, .f32⟩
  | .local _ .vmem, ⟨8, _⟩ => ⟨S256x4096, .bf16⟩
  | .local _ .vmem, ⟨9, _⟩ => ⟨S256x4096, .bf16⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ResidNormReferenceIdeal.lean ====
abbrev S2x8192x4096 : Shape := ⟨3, ![2, 8192, 4096]⟩
abbrev S16384x4096 : Shape := ⟨2, ![16384, 4096]⟩
abbrev S1x4096 : Shape := ⟨2, ![1, 4096]⟩
abbrev S4096 : Shape := ⟨1, ![4096]⟩
abbrev S_ : Shape := ⟨0, ![]⟩
abbrev S16384 : Shape := ⟨1, ![16384]⟩
abbrev S16384x1 : Shape := ⟨2, ![16384, 1]⟩

abbrev nBuf : Space → Nat
  | .hbm => 41
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S16384x4096, .f32⟩
  | .hbm, ⟨2, _⟩ => ⟨S1x4096, .f32⟩
  | .hbm, ⟨3, _⟩ => ⟨S1x4096, .f32⟩
  | .hbm, ⟨4, _⟩ => ⟨S16384x4096, .f32⟩
  | .hbm, ⟨5, _⟩ => ⟨S4096, .f32⟩
  | .hbm, ⟨6, _⟩ => ⟨S16384x4096, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x4096, .f32⟩
  | .hbm, ⟨18, _⟩ => ⟨S16384x4096, .f32⟩
  | .hbm, ⟨19, _⟩ => ⟨S1x4096, .f32⟩
  | .hbm, ⟨20, _⟩ => ⟨S16384x4096, .f32⟩
  | .hbm, ⟨21, _⟩ => ⟨S16384x4096, .f32⟩
  | .hbm, ⟨22, _⟩ => ⟨S16384x4096, .f32⟩
  | .hbm, ⟨23, _⟩ => ⟨S4096, .f32⟩
  | .hbm, ⟨24, _⟩ => ⟨S16384x4096, .f32⟩
  | .hbm, ⟨25, _⟩ => ⟨S_, .f32⟩
  | .hbm, ⟨26, _⟩ => ⟨S16384, .f32⟩
  | .hbm, ⟨27, _⟩ => ⟨S16384x1, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S_, .f32⟩
  | .hbm, ⟨32, _⟩ => ⟨S16384x1, .f32⟩
  | .hbm, ⟨33, _⟩ => ⟨S16384x1, .f32⟩
  | .hbm, ⟨34, _⟩ => ⟨S16384x1, .f32⟩
  | .hbm, ⟨35, _⟩ => ⟨S16384x4096, .f32⟩
  | .hbm, ⟨36, _⟩ => ⟨S16384x4096, .f32⟩
  | .hbm, ⟨37, _⟩ => ⟨S1x4096, .f32⟩
  | .hbm, ⟨38, _⟩ => ⟨S16384x4096, .f32⟩
  | .hbm, ⟨39, _⟩ => ⟨S16384x4096, .f32⟩
  | .hbm, ⟨40, _⟩ => ⟨S16384x4096, .bf16⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]
-- ==== NormKernel.lean ====
abbrev S2x8192x4096 : Shape := ⟨3, ![2, 8192, 4096]⟩
abbrev S1x4096 : Shape := ⟨2, ![1, 4096]⟩
abbrev S16384x4096 : Shape := ⟨2, ![16384, 4096]⟩
abbrev S4096 : Shape := ⟨1, ![4096]⟩
abbrev S512x4096 : Shape := ⟨2, ![512, 4096]⟩
abbrev S512 : Shape := ⟨1, ![512]⟩
abbrev S512x1 : Shape := ⟨2, ![512, 1]⟩

abbrev nBuf : Space → Nat
  | .hbm => 6
  | .vmem => 5
  | .smem => 0
  | _ => 0

abbrev bufTy : (tb : Table) → Fin (tcTables nBuf tb) → BufTy
  | .hbm, ⟨0, _⟩ => ⟨S2x8192x4096, .f32⟩
  | .hbm, ⟨1, _⟩ => ⟨S1x4096, .f32⟩
  | .hbm, ⟨2, _⟩ => ⟨S16384x4096, .f32⟩
  | .hbm, ⟨3, _⟩ => ⟨S4096, .f32⟩
  | .hbm, ⟨4, _⟩ => ⟨S1x4096, .f32⟩
  | .hbm, ⟨5, _⟩ => ⟨S16384x4096, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .bf16⟩
  | .local _ .vmem, ⟨4, _⟩ => ⟨S512x4096, .bf16⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormReferenceIdeal.lean ====
abbrev S2x8192x4096 : Shape := ⟨3, ![2, 8192, 4096]⟩
abbrev S1x4096 : Shape := ⟨2, ![1, 4096]⟩
abbrev S4096 : Shape := ⟨1, ![4096]⟩
abbrev S_ : Shape := ⟨0, ![]⟩
abbrev S2x8192 : Shape := ⟨2, ![2, 8192]⟩
abbrev S2x8192x1 : Shape := ⟨3, ![2, 8192, 1]⟩
abbrev S1x1x4096 : Shape := ⟨3, ![1, 1, 4096]⟩
abbrev S16384x4096 : Shape := ⟨2, ![16384, 4096]⟩

abbrev nBuf : Space → Nat
  | .hbm => 21
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S1x4096, .f32⟩
  | .hbm, ⟨2, _⟩ => ⟨S4096, .f32⟩
  | .hbm, ⟨3, _⟩ => ⟨S2x8192x4096, .f32⟩
  | .hbm, ⟨4, _⟩ => ⟨S_, .f32⟩
  | .hbm, ⟨5, _⟩ => ⟨S2x8192, .f32⟩
  | .hbm, ⟨6, _⟩ => ⟨S2x8192x1, .f32⟩
  | .hbm, ⟨7, _⟩ => ⟨S_, .f32⟩
  | .hbm, ⟨8, _⟩ => ⟨S2x8192x1, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S2x8192x1, .f32⟩
  | .hbm, ⟨14, _⟩ => ⟨S2x8192x4096, .f32⟩
  | .hbm, ⟨15, _⟩ => ⟨S2x8192x4096, .f32⟩
  | .hbm, ⟨16, _⟩ => ⟨S1x1x4096, .f32⟩
  | .hbm, ⟨17, _⟩ => ⟨S2x8192x4096, .f32⟩
  | .hbm, ⟨18, _⟩ => ⟨S2x8192x4096, .f32⟩
  | .hbm, ⟨19, _⟩ => ⟨S16384x4096, .f32⟩
  | .hbm, ⟨20, _⟩ => ⟨S16384x4096, .bf16⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== PleKernel.lean ====
abbrev S16384x4096 : Shape := ⟨2, ![16384, 4096]⟩
abbrev S1x2x8192x256 : Shape := ⟨4, ![1, 2, 8192, 256]⟩
abbrev S4096x4096 : Shape := ⟨2, ![4096, 4096]⟩
abbrev S1x256x4096 : Shape := ⟨3, ![1, 256, 4096]⟩
abbrev S1x4096 : Shape := ⟨2, ![1, 4096]⟩
abbrev S2x8192x256 : Shape := ⟨3, ![2, 8192, 256]⟩
abbrev S16384x256 : Shape := ⟨2, ![16384, 256]⟩
abbrev S256x4096 : Shape := ⟨2, ![256, 4096]⟩
abbrev S4096 : Shape := ⟨1, ![4096]⟩
abbrev S512x4096 : Shape := ⟨2, ![512, 4096]⟩
abbrev S512x256 : Shape := ⟨2, ![512, 256]⟩
abbrev S4096x1024 : Shape := ⟨2, ![4096, 1024]⟩
abbrev S256x1024 : Shape := ⟨2, ![256, 1024]⟩
abbrev S256x256 : Shape := ⟨2, ![256, 256]⟩
abbrev S4096x256 : Shape := ⟨2, ![4096, 256]⟩
abbrev S64x4096 : Shape := ⟨2, ![64, 4096]⟩
abbrev S64 : Shape := ⟨1, ![64]⟩
abbrev S64x1 : Shape := ⟨2, ![64, 1]⟩

abbrev nBuf : Space → Nat
  | .hbm => 12
  | .vmem => 12
  | .smem => 0
  | _ => 0

abbrev bufTy : (tb : Table) → Fin (tcTables nBuf tb) → BufTy
  | .hbm, ⟨0, _⟩ => ⟨S16384x4096, .f32⟩
  | .hbm, ⟨1, _⟩ => ⟨S1x2x8192x256, .f32⟩
  | .hbm, ⟨2, _⟩ => ⟨S4096x4096, .bf16⟩
  | .hbm, ⟨3, _⟩ => ⟨S1x256x4096, .f32⟩
  | .hbm, ⟨4, _⟩ => ⟨S1x4096, .f32⟩
  | .hbm, ⟨5, _⟩ => ⟨S2x8192x256, .f32⟩
  | .hbm, ⟨6, _⟩ => ⟨S16384x256, .f32⟩
  | .hbm, ⟨7, _⟩ => ⟨S256x4096, .f32⟩
  | .hbm, ⟨8, _⟩ => ⟨S256x4096, .bf16⟩
  | .hbm, ⟨9, _⟩ => ⟨S4096, .f32⟩
  | .hbm, ⟨10, _⟩ => ⟨S1x4096, .f32⟩
  | .hbm, ⟨11, _⟩ => ⟨S16384x4096, .f32⟩
  | .local _ .vmem, ⟨0, _⟩ => ⟨S512x4096, .f32⟩
  | .local _ .vmem, ⟨1, _⟩ => ⟨S512x4096, .f32⟩
  | .local _ .vmem, ⟨2, _⟩ => ⟨S512x256, .f32⟩
  | .local _ .vmem, ⟨3, _⟩ => ⟨S512x256, .f32⟩
  | .local _ .vmem, ⟨4, _⟩ => ⟨S4096x1024, .bf16⟩
  | .local _ .vmem, ⟨5, _⟩ => ⟨S4096x1024, .bf16⟩
  | .local _ .vmem, ⟨6, _⟩ => ⟨S256x1024, .bf16⟩
  | .local _ .vmem, ⟨7, _⟩ => ⟨S256x1024, .bf16⟩
  | .local _ .vmem, ⟨8, _⟩ => ⟨S1x4096, .f32⟩
  | .local _ .vmem, ⟨9, _⟩ => ⟨S512x4096, .f32⟩
  | .local _ .vmem, ⟨10, _⟩ => ⟨S512x4096, .f32⟩
  | .local _ .vmem, ⟨11, _⟩ => ⟨S512x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 4], ![false, false]⟩

def k0_mult1 (i : grid0.Coords) : BitVec 32 :=
  let arg1 : BitVec 32 := BitVec.ofNat 32 (i 1).val
  let c1024_i32 : BitVec 32 := 1024#32
  let v7 : BitVec 32 := Scalar.muli arg1 c1024_i32
  let c0_i32_4 : BitVec 32 := 0#32
  let v8 : BitVec 32 := Scalar.addi v7 c0_i32_4
  v8
def k0_off1 (i : grid0.Coords) (c0_i32_4 : BitVec 32) : Fin 2 → Nat :=
  let c0_13 : Index := 0#32
  let arg1 : BitVec 32 := BitVec.ofNat 32 (i 1).val
  let c1024_i32 : BitVec 32 := 1024#32
  let v7 : BitVec 32 := Scalar.muli arg1 c1024_i32
  let v8 : BitVec 32 := Scalar.addi v7 c0_i32_4
  let v9 : BitVec 32 := v8
  let v23 : Index := Scalar.indexCast v9
  ![0, v23.toNat]
def k0_mult2 (i : grid0.Coords) : BitVec 32 :=
  let arg1 : BitVec 32 := BitVec.ofNat 32 (i 1).val
  let c1024_i32_14 : BitVec 32 := 1024#32
  let v25 : BitVec 32 := Scalar.muli arg1 c1024_i32_14
  let c256_i32 : BitVec 32 := 256#32
  let v26 : BitVec 32 := Scalar.addi v25 c256_i32
  v26
def k0_mult3 (i : grid0.Coords) : BitVec 32 :=
  let arg1 : BitVec 32 := BitVec.ofNat 32 (i 1).val
  let c1024_i32_24 : BitVec 32 := 1024#32
  let v43 : BitVec 32 := Scalar.muli arg1 c1024_i32_24
  let c512_i32 : BitVec 32 := 512#32
  let v44 : BitVec 32 := Scalar.addi v43 c512_i32
  v44
def k0_mult4 (i : grid0.Coords) : BitVec 32 :=
  let arg1 : BitVec 32 := BitVec.ofNat 32 (i 1).val
  let c1024_i32_34 : BitVec 32 := 1024#32
  let v61 : BitVec 32 := Scalar.muli arg1 c1024_i32_34
  let c768_i32 : BitVec 32 := 768#32
  let v62 : BitVec 32 := Scalar.addi v61 c768_i32
  v62
def k0_cond2 (i : grid0.Coords) : BitVec 1 :=
  let arg1 : BitVec 32 := BitVec.ofNat 32 (i 1).val
  let c3_i32 : BitVec 32 := 3#32
  let v79 : BitVec 1 := Scalar.cmpi .eq arg1 c3_i32
  let v80 : BitVec 32 := Scalar.extui v79
  let c0_i32_44 : BitVec 32 := 0#32
  let v81 : BitVec 1 := Scalar.cmpi .ne v80 c0_i32_44
  v81

@[reducible] def k0_t1_loop : Scf.Loop 32 :=
  let c0_i32_47 : BitVec 32 := 0#32
  let c8_i32 : BitVec 32 := 8#32
  let v84 : BitVec 32 := Scalar.addi c0_i32_47 c8_i32
  let c1_i32 : BitVec 32 := 1#32
  ⟨c0_i32_47, v84, c1_i32⟩
def k0_mult5 (k0_t1 : Fin k0_t1_loop.trips) : BitVec 32 :=
  let c0_i32_47 : BitVec 32 := 0#32
  let c1_i32 : BitVec 32 := 1#32
  let arg9 : BitVec 32 := Scf.iv c0_i32_47 c1_i32 k0_t1
  let c64_i32 : BitVec 32 := 64#32
  let v85 : BitVec 32 := Scalar.muli arg9 c64_i32
  v85
def k0_off2 (k0_t1 : Fin k0_t1_loop.trips) : Fin 2 → Nat :=
  let c0_i32_47 : BitVec 32 := 0#32
  let c1_i32 : BitVec 32 := 1#32
  let arg9 : BitVec 32 := Scf.iv c0_i32_47 c1_i32 k0_t1
  let c64_i32 : BitVec 32 := 64#32
  let v85 : BitVec 32 := Scalar.muli arg9 c64_i32
  let v86 : BitVec 32 := v85
  let v87 : Index := Scalar.indexCast v86
  let c0_49 : Index := 0#32
  ![v87.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== PleReferenceIdeal.lean ====
abbrev S16384x4096 : Shape := ⟨2, ![16384, 4096]⟩
abbrev S1x2x8192x256 : Shape := ⟨4, ![1, 2, 8192, 256]⟩
abbrev S4096x4096 : Shape := ⟨2, ![4096, 4096]⟩
abbrev S1x256x4096 : Shape := ⟨3, ![1, 256, 4096]⟩
abbrev S1x4096 : Shape := ⟨2, ![1, 4096]⟩
abbrev S2x8192x256 : Shape := ⟨3, ![2, 8192, 256]⟩
abbrev S16384x256 : Shape := ⟨2, ![16384, 256]⟩
abbrev S256x4096 : Shape := ⟨2, ![256, 4096]⟩
abbrev S_ : Shape := ⟨0, ![]⟩
abbrev S4096 : Shape := ⟨1, ![4096]⟩
abbrev S16384 : Shape := ⟨1, ![16384]⟩
abbrev S16384x1 : Shape := ⟨2, ![16384, 1]⟩

abbrev nBuf : Space → Nat
  | .hbm => 38
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S1x2x8192x256, .f32⟩
  | .hbm, ⟨2, _⟩ => ⟨S4096x4096, .bf16⟩
  | .hbm, ⟨3, _⟩ => ⟨S1x256x4096, .f32⟩
  | .hbm, ⟨4, _⟩ => ⟨S1x4096, .f32⟩
  | .hbm, ⟨5, _⟩ => ⟨S2x8192x256, .f32⟩
  | .hbm, ⟨6, _⟩ => ⟨S16384x256, .f32⟩
  | .hbm, ⟨7, _⟩ => ⟨S256x4096, .f32⟩
  | .hbm, ⟨8, _⟩ => ⟨S16384x4096, .f32⟩
  | .hbm, ⟨9, _⟩ => ⟨S4096x4096, .f32⟩
  | .hbm, ⟨10, _⟩ => ⟨S16384x4096, .f32⟩
  | .hbm, ⟨11, _⟩ => ⟨S16384x4096, .f32⟩
  | .hbm, ⟨12, _⟩ => ⟨S16384x4096, .f32⟩
  | .hbm, ⟨13, _⟩ => ⟨S_, .f32⟩
  | .hbm, ⟨14, _⟩ => ⟨S16384x4096, .f32⟩
  | .hbm, ⟨15, _⟩ => ⟨S16384x4096, .f32⟩
  | .hbm, ⟨16, _⟩ => ⟨S_, .f32⟩
  | .hbm, ⟨17, _⟩ => ⟨S16384x4096, .f32⟩
  | .hbm, ⟨18, _⟩ => ⟨S16384x4096, .f32⟩
  | .hbm, ⟨19, _⟩ => ⟨S16384x4096, .f32⟩
  | .hbm, ⟨20, _⟩ => ⟨S4096, .f32⟩
  | .hbm, ⟨21, _⟩ => ⟨S16384x4096, .f32⟩
  | .hbm, ⟨22, _⟩ => ⟨S_, .f32⟩
  | .hbm, ⟨23, _⟩ => ⟨S16384, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S16384x1, .f32⟩
  | .hbm, ⟨32, _⟩ => ⟨S16384x4096, .f32⟩
  | .hbm, ⟨33, _⟩ => ⟨S16384x4096, .f32⟩
  | .hbm, ⟨34, _⟩ => ⟨S1x4096, .f32⟩
  | .hbm, ⟨35, _⟩ => ⟨S16384x4096, .f32⟩
  | .hbm, ⟨36, _⟩ => ⟨S16384x4096, .f32⟩
  | .hbm, ⟨37, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== Proof.MlpValue.lean ====
/- The value of the up/down projections of the MLP: the kernel walks the hidden columns in sixteen tiles of 1024 and adds
   each tile's part to the output block; the reference contracts all 16384 hidden columns at once. -/
module

public import proofs.«01_k».proof.Proof.Gen.MlpKernelIdeal.Value
public import proofs.«01_k».proof.Proof.Gen.MlpReferenceIdeal
public import Idealize.ShloMosaic.Lib.Pipeline.ValueKit
public import Idealize.ShloMosaic.Lib.Pointwise

@[expose] public section

set_option maxRecDepth 16384

noncomputable section

namespace Cert.MlpKernelIdeal.Value

open Cert.MlpKernelIdeal Cert.MlpKernelIdeal.Gen Idealize.ShloMosaic Idealize.ShloMosaic.TcCoe Idealize.SL.Sem
open Idealize.ShloMosaic.Pipeline (Dat)

/-- The reference's result as a function of its three arguments. -/
def mlpRef (h : FVec Ideal Cert.MlpReferenceIdeal.S16384x4096 .bf16) (u : FVec Ideal Cert.MlpReferenceIdeal.S4096x16384 .bf16)
    (w : FVec Ideal Cert.MlpReferenceIdeal.S16384x4096 .bf16) : FVec Ideal Cert.MlpReferenceIdeal.S16384x4096 .f32 :=
  Host.dotGeneral Cert.MlpReferenceIdeal.dot_S16384x16384_S16384x4096_S16384x4096_1_0_0_1_n_n none (mulf (maximumf (Host.dotGeneral Cert.MlpReferenceIdeal.dot_S16384x4096_S4096x16384_S16384x16384_1_0_0_1_n_n none (extf .f32 h Cert.MlpReferenceIdeal.Gen.bitsLt_bf16_f32) (extf .f32 u Cert.MlpReferenceIdeal.Gen.bitsLt_bf16_f32)) (broadcastInDim Cert.MlpReferenceIdeal.S16384x16384 ![] Cert.MlpReferenceIdeal.Gen.bcast_S_S16384x16384 (constant Cert.MlpReferenceIdeal.S_ .f32 0x00000000#32))) (maximumf (Host.dotGeneral Cert.MlpReferenceIdeal.dot_S16384x4096_S4096x16384_S16384x16384_1_0_0_1_n_n none (extf .f32 h Cert.MlpReferenceIdeal.Gen.bitsLt_bf16_f32) (extf .f32 u Cert.MlpReferenceIdeal.Gen.bitsLt_bf16_f32)) (broadcastInDim Cert.MlpReferenceIdeal.S16384x16384 ![] Cert.MlpReferenceIdeal.Gen.bcast_S_S16384x16384 (constant Cert.MlpReferenceIdeal.S_ .f32 0x00000000#32)))) (extf .f32 w Cert.MlpReferenceIdeal.Gen.bitsLt_bf16_f32)

/-- One hidden unit: the squared positive part of a sum of products. -/
abbrev unit (s : EReal) : EReal := max s 0 * max s 0

theorem ref_at (h u w) (a : Fin 16384) (b : Fin 4096) : mlpRef h u w (ix2 a b)
    = ∑ k : Fin 16384, unit (∑ d : Fin 4096, h (ix2 a d) * u (ix2 d k)) * w (ix2 k b) := by
  pointwise [mlpRef]

theorem zero_at (i : S512x4096.Idx) : k0_pay1 (F := Ideal) i = 0 := by
  pointwise [k0_pay1]

theorem part_at (x : Vec Ideal S512x4096 .bf16) (y : Vec Ideal S4096x1024 .bf16) (acc : Vec Ideal S512x4096 .f32)
    (z : Vec Ideal S1024x4096 .bf16) (a : Fin 512) (b : Fin 4096) : k0_pay2 (F := Ideal) x y acc z (ix2 a b)
    = acc (ix2 a b) + ∑ k : Fin 1024, unit (∑ d : Fin 4096, x (ix2 a d) * y (ix2 d k)) * z (ix2 k b) := by
  pointwise [k0_pay2]

/-- What one tile of hidden columns adds to the output block. -/
def part (x : Vec Ideal S512x4096 .bf16) (y : Vec Ideal S4096x1024 .bf16) (z : Vec Ideal S1024x4096 .bf16) : S512x4096.Idx → EReal :=
  fun j => ∑ k : Fin 1024, unit (∑ d : Fin 4096, x (ix2 (j 0) d) * y (ix2 d k)) * z (ix2 k (j 1))

theorem idx : ∀ t : Fin cfg0.N, win0_0.index t = ![t.val / 16, 0] ∧ win0_1.index t = ![0, t.val % 16]
    ∧ win0_2.index t = ![t.val % 16, 0] ∧ win0_3.index t = ![t.val / 16, 0] :=
  (by decide +kernel : ∀ t : Fin grid0.N, _)

variable (m : (ℓ : Loc nD τ sig) → Buf (Elt Ideal) ℓ)

theorem value (c : Dev nD) : (dats m 0 c).arrAt 3 (cfgs 0).N
    = mlpRef (m ((c : Thread nD τ).loc main_arg0)) (m ((c : Thread nD τ).loc main_arg1)) (m ((c : Thread nD τ).loc main_arg2)) := by
  refine (dats m 0 c).arrAt_eq_of_covers 3 _ (by decide +kernel) fun t hf y => ?_
  idx_vars y
  blk_simp
  rw [after0_3, Pipeline.eq_sum_fin_of_reset_step_apply_of_flush (fun n h => outsAt0 m c n h) 16 (fun _ => 0)
    (fun t => part (iblk m c 0 t) (iblk m c 1 t) (iblk m c 2 t))
    (fun t h j => by idx_vars j; rw [outsAt0_A m c t h, out_A_3_eq, part_at, zero_at]; rfl)
    (fun t h j => by idx_vars j; rw [outsAt0_B m c t h, out_B_3_eq, part_at]; rfl)
    t ((flush0_3 t).mp hf) _, zero_add]
  have ht : t.val < 512 := lt_of_lt_of_eq t.isLt N_0
  have e : (win0_3.blk t).view.emb (ix2 y0 y1) = ix2 (⟨t.val / 16 * 512 + y0.val, by omega⟩ : Fin 16384) y1 := by
    blk_ext [idx t]
  refine Eq.trans ?_ (congrArg _ e).symm
  refine Eq.trans ?_ (ref_at _ _ _ _ _).symm
  unfold part
  refine Fin.sum_mul_add_congr fun s k hl => ?_
  blk_point [iblk, V, idx ⟨_, Pipeline.run_point_lt_of_flush t ((flush0_3 t).mp hf) s⟩]

end Cert.MlpKernelIdeal.Value

end
-- ==== Proof.AttnDefs.lean ====
/- The reference of the windowed attention, step by step. -/
module

public import proofs.«01_k».proof.Proof.Gen.AttnReferenceIdeal
public import Idealize.ShloMosaic.Lib.Pipeline.ValueKit
public import Idealize.ShloMosaic.Lib.Pointwise

@[expose] public section

set_option maxRecDepth 16384

noncomputable section

namespace Cert.AttnReferenceIdeal.Value

open Cert.AttnReferenceIdeal Cert.AttnReferenceIdeal.Gen Idealize.ShloMosaic Idealize.ShloMosaic.TcCoe Idealize.SL.Sem
open Idealize.ShloMosaic.Pipeline (Dat)

variable {F : FTy → Type} [FloatOps F]

/-- The three neighbouring blocks of 128 rows around each block, of four heads' columns beginning at column `o`; zero rows before the first and after the last. -/
def windows (o : ℕ) (hs : S16384x3072.Slices ![0, o] S16384x512) (X : FVec F S16384x3072 .bf16) : FVec F S2x64x384x4x128 .f32 :=
  ((concatenate S2x64x384x4x128 2 [⟨S2x64x128x4x128, ((extractStridedSlice S2x64x128x4x128 ![0, 0, 0, 0, 0] (shapeCast _ (pad S2x8448x4x128 ![0, 128, 0, 0] ![0, 128, 0, 0] ![0, 0, 0, 0] (shapeCast _ (extractStridedSlice S16384x512 ![0, o] (extf .f32 X bitsLt_bf16_f32) hs) shapeCasts_S16384x512_S2x8192x4x128) (sitofp .f32 (constantI S_ 32 0#32)) pads_S2x8192x4x128_S2x8448x4x128_000_1281280_000_000 h_S_) shapeCasts_S2x8448x4x128_S2x66x128x4x128) slices_S2x66x128x4x128_S2x64x128x4x128_0_0_0_0_0) : (⟨S2x64x128x4x128, .f32⟩ : BufTy).Contents (Elt F))⟩, ⟨S2x64x128x4x128, ((extractStridedSlice S2x64x128x4x128 ![0, 1, 0, 0, 0] (shapeCast _ (pad S2x8448x4x128 ![0, 128, 0, 0] ![0, 128, 0, 0] ![0, 0, 0, 0] (shapeCast _ (extractStridedSlice S16384x512 ![0, o] (extf .f32 X bitsLt_bf16_f32) hs) shapeCasts_S16384x512_S2x8192x4x128) (sitofp .f32 (constantI S_ 32 0#32)) pads_S2x8192x4x128_S2x8448x4x128_000_1281280_000_000 h_S_) shapeCasts_S2x8448x4x128_S2x66x128x4x128) slices_S2x66x128x4x128_S2x64x128x4x128_0_1_0_0_0) : (⟨S2x64x128x4x128, .f32⟩ : BufTy).Contents (Elt F))⟩, ⟨S2x64x128x4x128, ((extractStridedSlice S2x64x128x4x128 ![0, 2, 0, 0, 0] (shapeCast _ (pad S2x8448x4x128 ![0, 128, 0, 0] ![0, 128, 0, 0] ![0, 0, 0, 0] (shapeCast _ (extractStridedSlice S16384x512 ![0, o] (extf .f32 X bitsLt_bf16_f32) hs) shapeCasts_S16384x512_S2x8192x4x128) (sitofp .f32 (constantI S_ 32 0#32)) pads_S2x8192x4x128_S2x8448x4x128_000_1281280_000_000 h_S_) shapeCasts_S2x8448x4x128_S2x66x128x4x128) slices_S2x66x128x4x128_S2x64x128x4x128_0_2_0_0_0) : (⟨S2x64x128x4x128, .f32⟩ : BufTy).Contents (Elt F))⟩] concatenates_S2x64x128x4x128_S2x64x128x4x128_S2x64x128x4x128_S2x64x384x4x128_d2 : (⟨S2x64x384x4x128, .f32⟩ : BufTy).Contents (Elt F)))

/-- Which of a block's 384 keys a query may look at. -/
def mask : IVec S2x64x4x4x128x384 1 :=
  (broadcastInDim S2x64x4x4x128x384 ![0, 1, 2, 3, 4, 5] bcast_S1x64x1x1x128x384_S2x64x4x4x128x384_0_1_2_3_4_5 (broadcastInDim S1x64x1x1x128x384 ![1, 4, 5] bcast_S64x128x384_S1x64x1x1x128x384_1_4_5 (andi (andi (broadcastInDim S64x128x384 ![0, 1, 2] bcast_S1x128x384_S64x128x384_0_1_2 (cmpi .sle (broadcastInDim S1x128x384 ![1, 2] bcast_S128x384_S1x128x384_1_2 (absi (subi (broadcastInDim S128x384 ![0, 1] bcast_S1x384_S128x384_0_1 (subi (broadcastInDim S1x384 ![1] bcast_S384_S1x384_1 (iotaInDim S384 32 0)) (broadcastInDim S1x384 ![] bcast_S_S1x384 (constantI S_ 32 128#32)))) (broadcastInDim S128x384 ![0, 1] bcast_S128x1_S128x384_0_1 (broadcastInDim S128x1 ![0] bcast_S128_S128x1_0 (iotaInDim S128 32 0)))))) (broadcastInDim S1x128x384 ![] bcast_S_S1x128x384 (constantI S_ 32 128#32)))) (broadcastInDim S64x128x384 ![0, 1, 2] bcast_S64x1x384_S64x128x384_0_1_2 (cmpi .sge (addi (broadcastInDim S64x1x384 ![0, 1, 2] bcast_S64x1x1_S64x1x384_0_1_2 (subi (muli (broadcastInDim S64x1x1 ![0] bcast_S64_S64x1x1_0 (iotaInDim S64 32 0)) (broadcastInDim S64x1x1 ![] bcast_S_S64x1x1 (constantI S_ 32 128#32))) (broadcastInDim S64x1x1 ![] bcast_S_S64x1x1 (constantI S_ 32 128#32)))) (broadcastInDim S64x1x384 ![0, 1, 2] bcast_S1x1x384_S64x1x384_0_1_2 (broadcastInDim S1x1x384 ![1, 2] bcast_S1x384_S1x1x384_1_2 (broadcastInDim S1x384 ![1] bcast_S384_S1x384_1 (iotaInDim S384 32 0))))) (broadcastInDim S64x1x384 ![] bcast_S_S64x1x384 (constantI S_ 32 0#32))))) (broadcastInDim S64x128x384 ![0, 1, 2] bcast_S64x1x384_S64x128x384_0_1_2 (cmpi .slt (addi (broadcastInDim S64x1x384 ![0, 1, 2] bcast_S64x1x1_S64x1x384_0_1_2 (subi (muli (broadcastInDim S64x1x1 ![0] bcast_S64_S64x1x1_0 (iotaInDim S64 32 0)) (broadcastInDim S64x1x1 ![] bcast_S_S64x1x1 (constantI S_ 32 128#32))) (broadcastInDim S64x1x1 ![] bcast_S_S64x1x1 (constantI S_ 32 128#32)))) (broadcastInDim S64x1x384 ![0, 1, 2] bcast_S1x1x384_S64x1x384_0_1_2 (broadcastInDim S1x1x384 ![1, 2] bcast_S1x384_S1x1x384_1_2 (broadcastInDim S1x384 ![1] bcast_S384_S1x384_1 (iotaInDim S384 32 0))))) (broadcastInDim S64x1x384 ![] bcast_S_S64x1x384 (constantI S_ 32 8192#32)))))))

/-- The products of queries with keys, minus infinity where a query may not look. -/
def scores (X : FVec F S16384x3072 .bf16) : FVec F S2x64x4x4x128x384 .f32 :=
  (select mask (transpose S2x64x4x4x128x384 [0, 1, 2, 5, 4, 3] (Host.dotGeneral dot_S2x64x384x4x128_S2x64x128x4x4x128_S2x64x4x384x128x4_4_5_2_24_013_013 none (windows 2048 slices_S16384x3072_S16384x512_0_2048 X) (shapeCast _ (shapeCast _ (extractStridedSlice S16384x2048 ![0, 0] (extf .f32 X bitsLt_bf16_f32) slices_S16384x3072_S16384x2048_0_0) shapeCasts_S16384x2048_S2x8192x16x128) shapeCasts_S2x8192x16x128_S2x64x128x4x4x128)) transposes_S2x64x4x384x128x4_S2x64x4x4x128x384_0_1_2_5_4_3) (broadcastInDim S2x64x4x4x128x384 ![] bcast_S_S2x64x4x4x128x384 (id (constant S_ .f32 0xFF800000#32))))

/-- The sink of each head. -/
def sinks (A : FVec F S1x16 .f32) : FVec F S2x64x4x4x128x1 .f32 :=
  (broadcastInDim S2x64x4x4x128x1 ![0, 1, 2, 3, 4, 5] bcast_S1x1x4x4x1x1_S2x64x4x4x128x1_0_1_2_3_4_5 (broadcastInDim S1x1x4x4x1x1 ![2, 3] bcast_S4x4_S1x1x4x4x1x1_2_3 (shapeCast _ (shapeCast _ A shapeCasts_S1x16_S16) shapeCasts_S16_S4x4)))

/-- The largest score of each query, or its head's sink where that is larger. -/
def tops (X : FVec F S16384x3072 .bf16) (A : FVec F S1x16 .f32) : FVec F S2x64x4x4x128x1 .f32 :=
  (maximumf (broadcastInDim S2x64x4x4x128x1 ![0, 1, 2, 3, 4] bcast_S2x64x4x4x128_S2x64x4x4x128x1_0_1_2_3_4 (Host.reduce FloatOps.maximumf (scores X) (constant S_ .f32 0xFF800000#32) reducesTo_S2x64x4x4x128x384_S2x64x4x4x128_d5 h_S_)) (sinks A))

/-- The exponential of every score less its query's largest. -/
def weights (X : FVec F S16384x3072 .bf16) (A : FVec F S1x16 .f32) : FVec F S2x64x4x4x128x384 .f32 :=
  (Host.exp (subf (scores X) (broadcastInDim S2x64x4x4x128x384 ![0, 1, 2, 3, 4, 5] bcast_S2x64x4x4x128x1_S2x64x4x4x128x384_0_1_2_3_4_5 (tops X A))))

/-- What the weights of a query add up to, its sink's included. -/
def totals (X : FVec F S16384x3072 .bf16) (A : FVec F S1x16 .f32) : FVec F S2x64x4x4x128x1 .f32 :=
  (addf (broadcastInDim S2x64x4x4x128x1 ![0, 1, 2, 3, 4] bcast_S2x64x4x4x128_S2x64x4x4x128x1_0_1_2_3_4 (Host.reduceAdd (weights X A) (constant S_ .f32 0x00000000#32) reducesTo_S2x64x4x4x128x384_S2x64x4x4x128_d5 h_S_)) (Host.exp (subf (sinks A) (tops X A))))

/-- The reference's result as a function of its two arguments. -/
def attnRef (X : FVec F S16384x3072 .bf16) (A : FVec F S1x16 .f32) : FVec F S16384x2048 .bf16 :=
  truncf .bf16 (shapeCast _ (transpose S2x64x128x4x4x128 [0, 1, 5, 2, 4, 3] (Host.dotGeneral dot_S2x64x384x4x128_S2x64x4x4x128x384_S2x64x4x128x4x128_2_5_4_34_013_012 none (windows 2560 slices_S16384x3072_S16384x512_0_2560 X) (Host.divf (weights X A) (broadcastInDim S2x64x4x4x128x384 ![0, 1, 2, 3, 4, 5] bcast_S2x64x4x4x128x1_S2x64x4x4x128x384_0_1_2_3_4_5 (totals X A)))) transposes_S2x64x4x128x4x128_S2x64x128x4x4x128_0_1_5_2_4_3) shapeCasts_S2x64x128x4x4x128_S16384x2048) bitsLt_bf16_f32

end Cert.AttnReferenceIdeal.Value

end
-- ==== Proof.AttnSteps.lean ====
/- The steps of the windowed attention's reference, read at an index. -/
module

public import proofs.«01_k».proof.Proof.AttnDefs
public import Idealize.ShloMosaic.Lib.Pipeline.ValueKit
public import Idealize.ShloMosaic.Lib.Pointwise

@[expose] public section

set_option maxRecDepth 16384

noncomputable section

namespace Cert.AttnReferenceIdeal.Value

open Cert.AttnReferenceIdeal Cert.AttnReferenceIdeal.Gen Idealize.ShloMosaic Idealize.ShloMosaic.TcCoe Idealize.SL.Sem
open Idealize.ShloMosaic.Pipeline (Dat)

variable (b : Fin 2) (n : Fin 64) (h g : Fin 4) (q : Fin 128) (k : Fin 384) (d : Fin 128)

/-- The fibre of the reduction of the last axis. -/
theorem fibre (i : S2x64x4x4x128x384.Idx) : reducesTo_S2x64x4x4x128x384_S2x64x4x4x128_d5.drop i = ix5 b n h g q ↔ ∃ k : Fin 384, ix6 b n h g q k = i := by
  constructor
  · intro e
    refine ⟨i 5, ?_⟩
    funext a
    refine Fin.ext ?_
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => exact (congrArg Fin.val (congrFun e 4)).symm
    | ⟨5, _⟩ => rfl
  · rintro ⟨k, rfl⟩
    funext a
    refine Fin.ext ?_
    match a with
    | ⟨0, _⟩ => rfl
    | ⟨1, _⟩ => rfl
    | ⟨2, _⟩ => rfl
    | ⟨3, _⟩ => rfl
    | ⟨4, _⟩ => rfl

theorem fibre_inj : Function.Injective fun k : Fin 384 => (ix6 b n h g q k : S2x64x4x4x128x384.Idx) := fun _ _ e => congrFun e 5

theorem neg_inf : Ideal.ofBits .f32 0xFF800000#32 = (⊥ : EReal) := by simp [Ideal.ofBits, Ideal.ieee]

theorem max_last (u : FVec Ideal S2x64x4x4x128x384 .f32) :
    Host.reduce FloatOps.maximumf u (constant S_ .f32 0xFF800000#32) reducesTo_S2x64x4x4x128x384_S2x64x4x4x128_d5 h_S_ (ix5 b n h g q)
    = Finset.univ.fold max (⊥ : EReal) fun k : Fin 384 => u (ix6 b n h g q k) := by
  refine Eq.trans ?_ (Finset.fold_filter_eq_fold_of_fiber max _ _ (fibre_inj b n h g q) (fibre b n h g q) ⊥ u)
  pointwise []
  rw [neg_inf]

theorem sum_last (u : FVec Ideal S2x64x4x4x128x384 .f32) :
    Host.reduceAdd u (constant S_ .f32 0x00000000#32) reducesTo_S2x64x4x4x128x384_S2x64x4x4x128_d5 h_S_ (ix5 b n h g q)
    = 0 + ∑ k : Fin 384, u (ix6 b n h g q k) := by
  refine Eq.trans ?_ (congrArg ((0 : EReal) + ·) (Finset.sum_filter_eq_sum_of_fiber _ _ (fibre_inj b n h g q) (fibre b n h g q) u))
  pointwise []
  exact zero_add _

theorem sinks_at (A : FVec Ideal S1x16 .f32) : sinks A (ix6 b n h g q 0) = A (ix2 0 (⟨h.val * 4 + g.val, by omega⟩ : Fin 16)) := by
  pointwise [sinks]

theorem exp_spread (u : FVec Ideal S2x64x4x4x128x384 .f32) (w : FVec Ideal S2x64x4x4x128x1 .f32) :
    Host.exp (subf u (broadcastInDim S2x64x4x4x128x384 ![0, 1, 2, 3, 4, 5] bcast_S2x64x4x4x128x1_S2x64x4x4x128x384_0_1_2_3_4_5 w)) (ix6 b n h g q k)
    = Ideal.exp (u (ix6 b n h g q k) - w (ix6 b n h g q 0)) := by
  pointwise []

theorem tops_spread (u : FVec Ideal S2x64x4x4x128 .f32) (w : FVec Ideal S2x64x4x4x128x1 .f32) :
    maximumf (broadcastInDim S2x64x4x4x128x1 ![0, 1, 2, 3, 4] bcast_S2x64x4x4x128_S2x64x4x4x128x1_0_1_2_3_4 u) w (ix6 b n h g q 0)
    = max (u (ix5 b n h g q)) (w (ix6 b n h g q 0)) := by
  pointwise []

theorem totals_spread (u : FVec Ideal S2x64x4x4x128 .f32) (v w : FVec Ideal S2x64x4x4x128x1 .f32) :
    addf (broadcastInDim S2x64x4x4x128x1 ![0, 1, 2, 3, 4] bcast_S2x64x4x4x128_S2x64x4x4x128x1_0_1_2_3_4 u) (Host.exp (subf v w)) (ix6 b n h g q 0)
    = u (ix5 b n h g q) + Ideal.exp (v (ix6 b n h g q 0) - w (ix6 b n h g q 0)) := by
  pointwise []

variable (X : FVec Ideal S16384x3072 .bf16) (A : FVec Ideal S1x16 .f32)

theorem tops_at : tops X A (ix6 b n h g q 0) = max (Finset.univ.fold max (⊥ : EReal) fun k : Fin 384 => scores X (ix6 b n h g q k)) (A (ix2 0 (⟨h.val * 4 + g.val, by omega⟩ : Fin 16))) := by
  refine (tops_spread b n h g q _ _).trans ?_
  rw [max_last, sinks_at]

theorem weights_at : weights X A (ix6 b n h g q k) = Ideal.exp (scores X (ix6 b n h g q k) - tops X A (ix6 b n h g q 0)) := exp_spread b n h g q k _ _

theorem totals_at : totals X A (ix6 b n h g q 0) = 0 + ∑ k : Fin 384, weights X A (ix6 b n h g q k) + Ideal.exp (A (ix2 0 (⟨h.val * 4 + g.val, by omega⟩ : Fin 16)) - tops X A (ix6 b n h g q 0)) := by
  refine (totals_spread b n h g q _ _ _).trans ?_
  rw [sum_last, sinks_at]

end Cert.AttnReferenceIdeal.Value

end
-- ==== Proof.AttnMask.lean ====
/- The keys that a query of the windowed attention may look at, and the rows that they are. -/
module

public import proofs.«01_k».proof.Proof.AttnDefs
public import Idealize.ShloMosaic.Lib.Pipeline.ValueKit
public import Idealize.ShloMosaic.Lib.Pointwise

@[expose] public section

set_option maxRecDepth 16384

noncomputable section

namespace Cert.AttnReferenceIdeal.Value

open Cert.AttnReferenceIdeal Cert.AttnReferenceIdeal.Gen Idealize.ShloMosaic Idealize.ShloMosaic.TcCoe Idealize.SL.Sem
open Idealize.ShloMosaic.Pipeline (Dat)

variable (b : Fin 2) (n : Fin 64) (h g : Fin 4) (q : Fin 128) (k : Fin 384) (d : Fin 128)

/-- Whether key `k` of the window around block `n` is one of the sequence's rows. -/
def inside (n : Fin 64) (k : Fin 384) : Prop := 128 ≤ n.val * 128 + k.val ∧ n.val * 128 + k.val < 8320

instance (n : Fin 64) (k : Fin 384) : Decidable (inside n k) := inferInstanceAs (Decidable (_ ∧ _))

/-- Whether query `q` may look at key `k` of its window, by distance. -/
def near (q : Fin 128) (k : Fin 384) : Prop := q.val ≤ k.val ∧ k.val ≤ q.val + 256

instance (q : Fin 128) (k : Fin 384) : Decidable (near q k) := inferInstanceAs (Decidable (_ ∧ _))

/-- The row of the sequence that key `k` of the window around block `n` is. -/
def rowOf (b : Fin 2) (n : Fin 64) (k : Fin 384) (hk : inside n k) : Fin 16384 :=
  ⟨b.val * 8192 + (n.val * 128 + k.val - 128), by have := hk.1; have := hk.2; omega⟩

theorem near_word : ∀ (q : Fin 128) (k : Fin 384), IntOp.cmpi .sle (IntOp.absi (IntOp.subi (IntOp.subi (BitVec.ofNat 32 k.val) 128#32) (BitVec.ofNat 32 q.val))) 128#32
    = if near q k then 1#1 else 0#1 := by decide +kernel

theorem inside_word : ∀ (n : Fin 64) (k : Fin 384), IntOp.andi
      (IntOp.cmpi .sge (IntOp.addi (IntOp.subi (IntOp.muli (BitVec.ofNat 32 n.val) 128#32) 128#32) (BitVec.ofNat 32 k.val)) 0#32)
      (IntOp.cmpi .slt (IntOp.addi (IntOp.subi (IntOp.muli (BitVec.ofNat 32 n.val) 128#32) 128#32) (BitVec.ofNat 32 k.val)) 8192#32)
    = if inside n k then 1#1 else 0#1 := by decide +kernel

theorem andi_assoc (x y z : BitVec 1) : IntOp.andi (IntOp.andi x y) z = IntOp.andi x (IntOp.andi y z) := BitVec.and_assoc x y z

theorem mask_at : mask (ix6 b n h g q k) = if near q k ∧ inside n k then 1#1 else 0#1 := by
  pointwise [mask]
  rw [andi_assoc, near_word, inside_word]
  by_cases h1 : near q k <;> by_cases h2 : inside n k <;> simp [h1, h2, IntOp.andi]

end Cert.AttnReferenceIdeal.Value

end
-- ==== Proof.AttnTile.lean ====
/- The steps of one tile of the windowed attention kernel: 128 queries of four heads against their 384 keys. -/
module

public import proofs.«01_k».proof.Proof.Gen.AttnKernelIdeal.Skeleton
public import proofs.«01_k».proof.Proof.AttnSteps
public import proofs.«01_k».proof.Proof.AttnMask
public import Idealize.ShloMosaic.Lib.Pipeline.ValueKit
public import Idealize.ShloMosaic.Lib.Pointwise

@[expose] public section

set_option maxRecDepth 16384

noncomputable section

namespace Cert.AttnKernelIdeal.Value

open Cert.AttnKernelIdeal Cert.AttnKernelIdeal.Gen Idealize.ShloMosaic Idealize.ShloMosaic.TcCoe Idealize.SL.Sem
open Idealize.ShloMosaic.Pipeline (Dat)

open Cert.AttnReferenceIdeal.Value (near neg_inf near_word)
/-- The products of the stacked queries with the keys of the window that begins at row `o`. -/
def prodG (o : ℕ) (hs : S2304x128.Slices ![o, 0] S384x128) (v3 : FVec Ideal S2304x128 .bf16) (q : Vec Ideal S128x512 .bf16) : FVec Ideal S512x384 .f32 :=
  matmul dot_S512x128_S384x128_S512x384_1_1_0_0_n_n none (k0_pay10 q) (extractStridedSlice S384x128 ![o, 0] v3 hs) (constant S512x384 .f32 0x00000000#32)

/-- The largest score of each query, or its sink. -/
def topG (s : FVec Ideal S512x384 .f32) (sk : FVec Ideal S512x128 .f32) : FVec Ideal S512x128 .f32 :=
  maximumf (broadcastTo S512x128 (shapeCast S512x1 (shapeCast S512x1 (multiReduction .maximumf [1] S512 s 0xFF800000#32 reduces_S512x384_S512 (.inl rfl) rfl) shapeCasts_S512_S512x1) shapeCasts_S512x1_S512x1) broadcasts_S512x1_S512x128) sk

/-- The exponentials of the scores less their largest. -/
def probG (s : FVec Ideal S512x384 .f32) (t : FVec Ideal S512x128 .f32) : FVec Ideal S512x384 .bf16 :=
  truncf .bf16 (concatenate S512x384 1 [⟨S512x128, exp (subf (extractStridedSlice S512x128 ![0, 0] s slices_S512x384_o0_0_S512x128) t)⟩, ⟨S512x128, exp (subf (extractStridedSlice S512x128 ![0, 128] s slices_S512x384_o0_128_S512x128) t)⟩, ⟨S512x128, exp (subf (extractStridedSlice S512x128 ![0, 256] s slices_S512x384_o0_256_S512x128) t)⟩] concatenates_S512x128_S512x128_S512x128_S512x384_d1) bitsLt_bf16_f32

/-- The weights times the window's values, and their sums. -/
def pvG (o : ℕ) (hs : S2304x256.Slices ![o, 0] S384x256) (v9 : FVec Ideal S2304x256 .bf16) (p : FVec Ideal S512x384 .bf16) : FVec Ideal S512x256 .f32 :=
  matmul dot_S512x384_S384x256_S512x256_1_0_0_1_n_n none p (extractStridedSlice S384x256 ![o, 0] v9 hs) (constant S512x256 .f32 0x00000000#32)

/-- The quotient, the four heads beside one another. -/
def outG (pv : FVec Ideal S512x256 .f32) (e : FVec Ideal S512x128 .f32) : FVec Ideal S128x512 .bf16 :=
  have v : FVec Ideal S512x128 .f32 := divf (extractStridedSlice S512x128 ![0, 0] pv slices_S512x256_o0_0_S512x128) (addf (extractStridedSlice S512x128 ![0, 128] pv slices_S512x256_o0_128_S512x128) e)
  truncf .bf16 (concatenate S128x512 1 [⟨S128x128, extractStridedSlice S128x128 ![0, 0] v slices_S512x128_o0_0_S128x128⟩, ⟨S128x128, extractStridedSlice S128x128 ![128, 0] v slices_S512x128_o128_0_S128x128⟩, ⟨S128x128, extractStridedSlice S128x128 ![256, 0] v slices_S512x128_o256_0_S128x128⟩, ⟨S128x128, extractStridedSlice S128x128 ![384, 0] v slices_S512x128_o384_0_S128x128⟩] concatenates_S128x128_S128x128_S128x128_S128x128_S128x512_d1) bitsLt_bf16_f32

/-- One tile, from its scores. -/
def rowG (o : ℕ) (hs : S2304x256.Slices ![o, 0] S384x256) (v9 : FVec Ideal S2304x256 .bf16) (s : FVec Ideal S512x384 .f32) (sk : FVec Ideal S512x128 .f32) : FVec Ideal S128x512 .bf16 :=
  outG (pvG o hs v9 (probG s (topG s sk))) (exp (subf sk (topG s sk)))

theorem prodG_at (o hs v3 q) (r : Fin 512) (k : Fin 384) (ho : o + 384 ≤ 2304) : prodG o hs v3 q (ix2 r k)
    = ∑ x : Fin 128, q (ix2 (⟨r.val % 128, by omega⟩ : Fin 128) (⟨r.val / 128 * 128 + x.val, by omega⟩ : Fin 512)) * v3 (ix2 (⟨o + k.val, by omega⟩ : Fin 2304) x) := by
  pointwise [prodG, k0_pay10]
  refine Finset.sum_congr rfl fun x _ => congrArg (· * _) ?_
  split_ifs <;> (refine congrArg q (congrArg₂ ix2 (Fin.ext ?_) (Fin.ext ?_)) <;> (simp only []; omega))

theorem topG_at (s sk) (r : Fin 512) (x : Fin 128) : topG s sk (ix2 r x) = max (Finset.univ.fold max (⊥ : EReal) fun k : Fin 384 => s (ix2 r k)) (sk (ix2 r x)) := by
  pointwise [topG]
  rw [neg_inf]

theorem probG_at (s t) (r : Fin 512) (k : Fin 384) : probG s t (ix2 r k) = Ideal.exp (s (ix2 r k) - t (ix2 r (⟨k.val % 128, by omega⟩ : Fin 128))) := by
  pointwise [probG]
  split_ifs <;> (refine congrArg Ideal.exp (congrArg₂ (· - ·) (congrArg s (congrArg (ix2 r) (Fin.ext ?_))) (congrArg t (congrArg (ix2 r) (Fin.ext ?_)))) <;> (simp only [] <;> omega))

theorem pvG_at (o hs v9 p) (r : Fin 512) (x : Fin 256) (ho : o + 384 ≤ 2304) : pvG o hs v9 p (ix2 r x)
    = ∑ k : Fin 384, p (ix2 r k) * v9 (ix2 (⟨o + k.val, by omega⟩ : Fin 2304) x) := by
  pointwise [pvG]

theorem outG_at (pv e) (a : Fin 128) (x : Fin 512) : outG pv e (ix2 a x)
    = Ideal.div (pv (ix2 (⟨x.val / 128 * 128 + a.val, by omega⟩ : Fin 512) (⟨x.val % 128, by omega⟩ : Fin 256)))
      (pv (ix2 (⟨x.val / 128 * 128 + a.val, by omega⟩ : Fin 512) (⟨128 + x.val % 128, by omega⟩ : Fin 256)) + e (ix2 (⟨x.val / 128 * 128 + a.val, by omega⟩ : Fin 512) (⟨x.val % 128, by omega⟩ : Fin 128))) := by
  pointwise [outG]
  split_ifs <;> (refine congrArg₂ Ideal.div (congrArg pv (congrArg₂ ix2 (Fin.ext ?_) (Fin.ext ?_))) (congrArg₂ (· + ·) (congrArg pv (congrArg₂ ix2 (Fin.ext ?_) (Fin.ext ?_))) (congrArg e (congrArg₂ ix2 (Fin.ext ?_) (Fin.ext ?_)))) <;> (simp only []; omega))

theorem rem_word : ∀ r : Fin 512, (Scalar.select
              (IntOp.andi
                (IntOp.xori
                  (IntOp.cmpi CmpIPredicate.slt
                    (IntOp.remsi ArithUnit.vector (BitVec.ofNat 32 r.val)
                      (Scalar.select (Scalar.cmpi CmpIPredicate.eq 128#32 0#32) 1#32 128#32))
                    0#32)
                  (Scalar.cmpi CmpIPredicate.slt (Scalar.select (Scalar.cmpi CmpIPredicate.eq 128#32 0#32) 1#32 128#32)
                    0#32))
                (IntOp.cmpi CmpIPredicate.ne
                  (IntOp.remsi ArithUnit.vector (BitVec.ofNat 32 r.val)
                    (Scalar.select (Scalar.cmpi CmpIPredicate.eq 128#32 0#32) 1#32 128#32))
                  0#32))
              (IntOp.addi
                (IntOp.remsi ArithUnit.vector (BitVec.ofNat 32 r.val)
                  (Scalar.select (Scalar.cmpi CmpIPredicate.eq 128#32 0#32) 1#32 128#32))
                (Scalar.select (Scalar.cmpi CmpIPredicate.eq 128#32 0#32) 1#32 128#32))
              (IntOp.remsi ArithUnit.vector (BitVec.ofNat 32 r.val)
                (Scalar.select (Scalar.cmpi CmpIPredicate.eq 128#32 0#32) 1#32 128#32))) = BitVec.ofNat 32 (r.val % 128) := by decide +kernel

theorem select_word (p : Prop) [Decidable p] (x y : EReal) : Scalar.select (if p then 1#1 else 0#1) x y = if p then x else y := by
  by_cases h : p <;> simp [h, Scalar.select]

/-- The distance mask, in each of the four stacked heads. -/
theorem band_at (r : Fin 512) (k : Fin 384) : k0_pay7 (F := Ideal) k0_pay6 (FloatOps.ofBits .f32 0x00000000#32) (FloatOps.ofBits .f32 0xFF800000#32) (ix2 r k)
    = if near (⟨r.val % 128, by omega⟩ : Fin 128) k then (0 : EReal) else ⊥ := by
  pointwise [k0_pay7, k0_pay6]
  rw [rem_word, neg_inf]
  exact (congrArg (fun w => Scalar.select w (0 : EReal) ⊥) (near_word (⟨r.val % 128, by omega⟩ : Fin 128) k)).trans (select_word _ _ _)

theorem range_word : ∀ (n : Fin 4) (k : Fin 2304), IntOp.andi
        (IntOp.cmpi CmpIPredicate.sge
          (IntOp.addi (Scalar.subi (Scalar.muli (BitVec.ofNat 32 n.val) 2048#32) 128#32) (BitVec.ofNat 32 k.val)) 0#32)
        (IntOp.cmpi CmpIPredicate.slt
          (IntOp.addi (Scalar.subi (Scalar.muli (BitVec.ofNat 32 n.val) 2048#32) 128#32) (BitVec.ofNat 32 k.val)) 8192#32)
    = if 128 ≤ n.val * 2048 + k.val ∧ n.val * 2048 + k.val < 8320 then 1#1 else 0#1 := by decide +kernel

/-- Which of a block's 2304 keys are rows of the sequence. -/
theorem range_at (n : Fin 4) (k : Fin 2304) : k0_pay8 (F := Ideal) (BitVec.ofNat 32 n.val) (ix2 0 k)
    = if 128 ≤ n.val * 2048 + k.val ∧ n.val * 2048 + k.val < 8320 then (0 : EReal) else ⊥ := by
  pointwise [k0_pay8]
  rw [range_word, neg_inf]
  exact select_word _ _ _

theorem sink_at (a b c d : Elt Ideal .f32) (r : Fin 512) (x : Fin 128) : k0_pay9 (F := Ideal) a b c d (ix2 r x) = if r.val < 128 then a else if r.val < 256 then b else if r.val < 384 then c else d := by
  pointwise [k0_pay9]
  split_ifs <;> first | rfl | (exfalso; omega)

theorem keys_at (a b c) (r : Fin 2304) (x : Fin 128) : k0_pay4 (F := Ideal) a b c (ix2 r x)
    = if h : r.val < 128 then a (ix2 (⟨r.val, h⟩ : Fin 128) x) else if h : r.val - 128 < 2048 then b (ix2 (⟨r.val - 128, h⟩ : Fin 2048) x) else c (ix2 (⟨r.val - 128 - 2048, by omega⟩ : Fin 128) x) := by
  pointwise [k0_pay4]

theorem vals_at (a b c) (r : Fin 2304) (x : Fin 128) : k0_pay5 (F := Ideal) a b c (ix2 r (⟨x.val, by omega⟩ : Fin 256)) = k0_pay4 (F := Ideal) a b c (ix2 r x) := by
  rw [keys_at]
  pointwise [k0_pay5]

theorem ones_at (a b c) (r : Fin 2304) (x : ℕ) (hx : x < 128) : k0_pay5 (F := Ideal) a b c (ix2 r (⟨128 + x, by omega⟩ : Fin 256)) = (1 : EReal) := by
  pointwise [k0_pay5]
  try rw [dif_neg (by omega)]

/-- The quotient of the weighted sum of `v` and the sum of the weights, for scores `s` and sink `a`. -/
def quot (s : Fin 384 → EReal) (a : EReal) (v : Fin 384 → EReal) : EReal :=
  Ideal.div (∑ k, Ideal.exp (s k - max (Finset.univ.fold max ⊥ s) a) * v k) (∑ k, Ideal.exp (s k - max (Finset.univ.fold max ⊥ s) a) * 1 + Ideal.exp (a - max (Finset.univ.fold max ⊥ s) a))

theorem rowG_at (o hs) (a b c : _) (s sk) (ho : o + 384 ≤ 2304) (y : Fin 128) (x : Fin 512) (w : EReal)
    (hw : ∀ x' : Fin 128, sk (ix2 (⟨x.val / 128 * 128 + y.val, by omega⟩ : Fin 512) x') = w) :
    rowG o hs (k0_pay5 (F := Ideal) a b c) s sk (ix2 y x)
    = quot (fun k => s (ix2 (⟨x.val / 128 * 128 + y.val, by omega⟩ : Fin 512) k)) w
        (fun k => k0_pay4 (F := Ideal) a b c (ix2 (⟨o + k.val, by omega⟩ : Fin 2304) (⟨x.val % 128, by omega⟩ : Fin 128))) := by
  have e : ∀ (u : FVec Ideal S512x128 .f32) (i : S512x128.Idx), exp (subf sk u) i = Ideal.exp (sk i - u i) := fun _ _ => rfl
  unfold rowG quot
  rw [outG_at, pvG_at _ _ _ _ _ _ ho, pvG_at _ _ _ _ _ _ ho, e]
  simp only [probG_at, topG_at, hw]
  refine congrArg₂ Ideal.div (Finset.sum_congr rfl fun k _ => ?_) (congrArg (· + _) (Finset.sum_congr rfl fun k _ => ?_))
  · exact congrArg (_ * ·) (vals_at a b c _ (⟨x.val % 128, by omega⟩ : Fin 128))
  · exact congrArg (_ * ·) (ones_at a b c _ _ (by omega))

end Cert.AttnKernelIdeal.Value

end
-- ==== Proof.AttnBlocks.lean ====
/- What the windowed attention kernel reads at a grid point: queries, keys, values and sinks as entries of the argument arrays. -/
module

public import proofs.«01_k».proof.Proof.Gen.AttnKernelIdeal.Value
public import proofs.«01_k».proof.Proof.AttnTile
public import Idealize.ShloMosaic.Lib.Pipeline.ValueKit
public import Idealize.ShloMosaic.Lib.Pointwise

@[expose] public section

set_option maxRecDepth 16384

noncomputable section

namespace Cert.AttnKernelIdeal.Value

open Cert.AttnKernelIdeal Cert.AttnKernelIdeal.Gen Idealize.ShloMosaic Idealize.ShloMosaic.TcCoe Idealize.SL.Sem
open Idealize.ShloMosaic.Pipeline (Dat)

theorem idx : ∀ t : Fin cfg0.N, win0_0.index t = ![0] ∧ win0_1.index t = ![t.val / 16 * 4 + t.val % 4, t.val / 4 % 4]
    ∧ win0_2.index t = ![t.val / 16 * 64 + (t.val % 4 * 16 - 1), 16 + t.val / 4 % 4] ∧ win0_3.index t = ![t.val / 16 * 4 + t.val % 4, 16 + t.val / 4 % 4]
    ∧ win0_4.index t = ![t.val / 16 * 64 + min ((t.val % 4 + 1) * 16) 63, 16 + t.val / 4 % 4]
    ∧ win0_5.index t = ![t.val / 16 * 64 + (t.val % 4 * 16 - 1), 20 + t.val / 4 % 4] ∧ win0_6.index t = ![t.val / 16 * 4 + t.val % 4, 20 + t.val / 4 % 4]
    ∧ win0_7.index t = ![t.val / 16 * 64 + min ((t.val % 4 + 1) * 16) 63, 20 + t.val / 4 % 4]
    ∧ win0_8.index t = ![t.val / 16 * 4 + t.val % 4, t.val / 4 % 4] :=
  (by decide +kernel : ∀ t : Fin grid0.N, _)

theorem coord2 : ∀ t : Fin cfg0.N, (grid0.coords t 2).val = t.val % 4 :=
  (by decide +kernel : ∀ t : Fin grid0.N, _)

theorem off : ∀ t : Fin cfg0.N, k0_off1 (grid0.coords t) 0#32 = ![t.val / 4 % 4 * 4 + 0] ∧ k0_off1 (grid0.coords t) 1#32 = ![t.val / 4 % 4 * 4 + 1]
    ∧ k0_off1 (grid0.coords t) 2#32 = ![t.val / 4 % 4 * 4 + 2] ∧ k0_off1 (grid0.coords t) 3#32 = ![t.val / 4 % 4 * 4 + 3] :=
  (by decide +kernel : ∀ t : Fin grid0.N, _)

variable (m : (ℓ : Loc nD τ sig) → Buf (Elt Ideal) ℓ)

theorem key_row (c : Dev nD) (t : Fin cfg0.N) (ht : t.val < 32) (r : Fin 2304) (x : Fin 128) (h1 : 128 ≤ t.val % 4 * 2048 + r.val) (h2 : t.val % 4 * 2048 + r.val < 8320) :
    k0_pay4 (F := Ideal) (iblk m c 2 t) (iblk m c 3 t) (iblk m c 4 t) (ix2 r x)
    = (m ((c : Thread nD τ).loc main_arg0)) (ix2 (⟨t.val / 16 * 8192 + (t.val % 4 * 2048 + r.val - 128), by omega⟩ : Fin 16384) (⟨2048 + (t.val / 4 % 4 * 128 + x.val), by omega⟩ : Fin 3072)) := by
  rw [keys_at]
  split_ifs with a b
  · blk_point [iblk, V, idx t]
  · blk_point [iblk, V, idx t]
  · blk_point [iblk, V, idx t]

theorem value_row (c : Dev nD) (t : Fin cfg0.N) (ht : t.val < 32) (r : Fin 2304) (x : Fin 128) (h1 : 128 ≤ t.val % 4 * 2048 + r.val) (h2 : t.val % 4 * 2048 + r.val < 8320) :
    k0_pay4 (F := Ideal) (iblk m c 5 t) (iblk m c 6 t) (iblk m c 7 t) (ix2 r x)
    = (m ((c : Thread nD τ).loc main_arg0)) (ix2 (⟨t.val / 16 * 8192 + (t.val % 4 * 2048 + r.val - 128), by omega⟩ : Fin 16384) (⟨2560 + (t.val / 4 % 4 * 128 + x.val), by omega⟩ : Fin 3072)) := by
  rw [keys_at]
  split_ifs with a b
  · blk_point [iblk, V, idx t]
  · blk_point [iblk, V, idx t]
  · blk_point [iblk, V, idx t]

theorem query_row (c : Dev nD) (t : Fin cfg0.N) (ht : t.val < 32) (o : ℕ) (hb) (a : Fin 128) (x : Fin 512) (ho : o + 128 ≤ 2048) :
    View.ld (iblk m c 1 t) (Rect.unit (s := S2048x512) ![o, 0] ![128, 512] hb) (ix2 a x)
    = (m ((c : Thread nD τ).loc main_arg0)) (ix2 (⟨t.val / 16 * 8192 + (t.val % 4 * 2048 + (o + a.val)), by omega⟩ : Fin 16384) (⟨t.val / 4 % 4 * 512 + x.val, by omega⟩ : Fin 3072)) := by
  blk_point [iblk, V, idx t]

theorem cast_at (x : FVec Ideal S1x16 .f32) (h) (i : S16.Idx) : shapeCast S16 x h i = x (ix2 0 (i 0)) := by
  idx_vars i
  pointwise []

theorem sink0 (c : Dev nD) (t : Fin cfg0.N) (ht : t.val < 32) (hb hn) : View.ld (iblk m c 0 t) (Rect.unit (s := S16) (k0_off1 (grid0.coords t) 0#32) ![1] hb) (Shape.Idx.first hn)
    = (m ((c : Thread nD τ).loc main_arg1)) (ix2 0 (⟨t.val / 4 % 4 * 4 + 0, by omega⟩ : Fin 16)) := by
  have hV : V m c (Pipeline.arrRef spec0 0) = shapeCast S16 (m ((c : Thread nD τ).loc main_arg1)) shapeCasts_S1x16_S16 := by
    unfold V
    rfl
  have hr : ∀ v : FVec Ideal S16 .f32, View.ld (View.read (Elt Ideal) ((cfg0.win 0).blk t).view v) (Rect.unit (s := S16) (k0_off1 (grid0.coords t) 0#32) ![1] hb) (Shape.Idx.first hn) = v (ix1 (⟨t.val / 4 % 4 * 4 + 0, by omega⟩ : Fin 16)) := by
    intro v
    refine congrArg v ?_
    blk_ext [idx t]
    refine Eq.trans (b := k0_off1 (grid0.coords t) 0#32 0) rfl ?_
    rw [(off t).1]
    rfl
  exact (hr _).trans ((congrFun hV _).trans (cast_at _ _ _))

theorem sink1 (c : Dev nD) (t : Fin cfg0.N) (ht : t.val < 32) (hb hn) : View.ld (iblk m c 0 t) (Rect.unit (s := S16) (k0_off1 (grid0.coords t) 1#32) ![1] hb) (Shape.Idx.first hn)
    = (m ((c : Thread nD τ).loc main_arg1)) (ix2 0 (⟨t.val / 4 % 4 * 4 + 1, by omega⟩ : Fin 16)) := by
  have hV : V m c (Pipeline.arrRef spec0 0) = shapeCast S16 (m ((c : Thread nD τ).loc main_arg1)) shapeCasts_S1x16_S16 := by
    unfold V
    rfl
  have hr : ∀ v : FVec Ideal S16 .f32, View.ld (View.read (Elt Ideal) ((cfg0.win 0).blk t).view v) (Rect.unit (s := S16) (k0_off1 (grid0.coords t) 1#32) ![1] hb) (Shape.Idx.first hn) = v (ix1 (⟨t.val / 4 % 4 * 4 + 1, by omega⟩ : Fin 16)) := by
    intro v
    refine congrArg v ?_
    blk_ext [idx t]
    refine Eq.trans (b := k0_off1 (grid0.coords t) 1#32 0) rfl ?_
    rw [(off t).2.1]
    rfl
  exact (hr _).trans ((congrFun hV _).trans (cast_at _ _ _))

theorem sink2 (c : Dev nD) (t : Fin cfg0.N) (ht : t.val < 32) (hb hn) : View.ld (iblk m c 0 t) (Rect.unit (s := S16) (k0_off1 (grid0.coords t) 2#32) ![1] hb) (Shape.Idx.first hn)
    = (m ((c : Thread nD τ).loc main_arg1)) (ix2 0 (⟨t.val / 4 % 4 * 4 + 2, by omega⟩ : Fin 16)) := by
  have hV : V m c (Pipeline.arrRef spec0 0) = shapeCast S16 (m ((c : Thread nD τ).loc main_arg1)) shapeCasts_S1x16_S16 := by
    unfold V
    rfl
  have hr : ∀ v : FVec Ideal S16 .f32, View.ld (View.read (Elt Ideal) ((cfg0.win 0).blk t).view v) (Rect.unit (s := S16) (k0_off1 (grid0.coords t) 2#32) ![1] hb) (Shape.Idx.first hn) = v (ix1 (⟨t.val / 4 % 4 * 4 + 2, by omega⟩ : Fin 16)) := by
    intro v
    refine congrArg v ?_
    blk_ext [idx t]
    refine Eq.trans (b := k0_off1 (grid0.coords t) 2#32 0) rfl ?_
    rw [(off t).2.2.1]
    rfl
  exact (hr _).trans ((congrFun hV _).trans (cast_at _ _ _))

theorem sink3 (c : Dev nD) (t : Fin cfg0.N) (ht : t.val < 32) (hb hn) : View.ld (iblk m c 0 t) (Rect.unit (s := S16) (k0_off1 (grid0.coords t) 3#32) ![1] hb) (Shape.Idx.first hn)
    = (m ((c : Thread nD τ).loc main_arg1)) (ix2 0 (⟨t.val / 4 % 4 * 4 + 3, by omega⟩ : Fin 16)) := by
  have hV : V m c (Pipeline.arrRef spec0 0) = shapeCast S16 (m ((c : Thread nD τ).loc main_arg1)) shapeCasts_S1x16_S16 := by
    unfold V
    rfl
  have hr : ∀ v : FVec Ideal S16 .f32, View.ld (View.read (Elt Ideal) ((cfg0.win 0).blk t).view v) (Rect.unit (s := S16) (k0_off1 (grid0.coords t) 3#32) ![1] hb) (Shape.Idx.first hn) = v (ix1 (⟨t.val / 4 % 4 * 4 + 3, by omega⟩ : Fin 16)) := by
    intro v
    refine congrArg v ?_
    blk_ext [idx t]
    refine Eq.trans (b := k0_off1 (grid0.coords t) 3#32 0) rfl ?_
    rw [(off t).2.2.2]
    rfl
  exact (hr _).trans ((congrFun hV _).trans (cast_at _ _ _))

end Cert.AttnKernelIdeal.Value

end
-- ==== Proof.AttnWin.lean ====
/- The window of keys or values of a block. -/
module

public import proofs.«01_k».proof.Proof.AttnDefs
public import proofs.«01_k».proof.Proof.AttnMask
public import Idealize.ShloMosaic.Lib.Pipeline.ValueKit
public import Idealize.ShloMosaic.Lib.Pointwise

@[expose] public section

set_option maxRecDepth 16384

noncomputable section

namespace Cert.AttnReferenceIdeal.Value

open Cert.AttnReferenceIdeal Cert.AttnReferenceIdeal.Gen Idealize.ShloMosaic Idealize.ShloMosaic.TcCoe Idealize.SL.Sem
open Idealize.ShloMosaic.Pipeline (Dat)

variable (b : Fin 2) (n : Fin 64) (h g : Fin 4) (q : Fin 128) (k : Fin 384) (d : Fin 128)

theorem zero_word : (FloatOps.sitofp (F := Ideal) .f32 0#32 : Ideal .f32) = (0 : EReal) := by
  change (((0#32 : BitVec 32).toInt : ℝ) : EReal) = 0
  simp

theorem windows_in (o : ℕ) (hs : S16384x3072.Slices ![0, o] S16384x512) (ho : o + 512 ≤ 3072) (X : FVec Ideal S16384x3072 .bf16) (hk : inside n k) :
    windows o hs X (ix5 b n k h d) = X (ix2 (rowOf b n k hk) (⟨o + (h.val * 128 + d.val), by omega⟩ : Fin 3072)) := by
  pointwise [windows]
  have h1 := hk.1
  have h2 := hk.2
  split_ifs <;> first
    | (exfalso; omega)
    | (refine congrArg X (congrArg₂ ix2 (Fin.ext ?_) (Fin.ext ?_)) <;> (simp only [rowOf] <;> omega))

theorem windows_out (o : ℕ) (hs : S16384x3072.Slices ![0, o] S16384x512) (ho : o + 512 ≤ 3072) (X : FVec Ideal S16384x3072 .bf16) (hk : ¬ inside n k) :
    windows o hs X (ix5 b n k h d) = (0 : EReal) := by
  pointwise [windows]
  unfold inside at hk
  split_ifs <;> first
    | exact zero_word
    | (exfalso; omega)

end Cert.AttnReferenceIdeal.Value

end
-- ==== Proof.AttnRead.lean ====
/- The windowed attention's reference, read at an index. -/
module

public import proofs.«01_k».proof.Proof.AttnDefs
public import proofs.«01_k».proof.Proof.AttnWin
public import proofs.«01_k».proof.Proof.AttnSteps
public import Idealize.ShloMosaic.Lib.Pipeline.ValueKit
public import Idealize.ShloMosaic.Lib.Pointwise

@[expose] public section

set_option maxRecDepth 16384

noncomputable section

namespace Cert.AttnReferenceIdeal.Value

open Cert.AttnReferenceIdeal Cert.AttnReferenceIdeal.Gen Idealize.ShloMosaic Idealize.ShloMosaic.TcCoe Idealize.SL.Sem
open Idealize.ShloMosaic.Pipeline (Dat)

variable (b : Fin 2) (n : Fin 64) (h g : Fin 4) (q : Fin 128) (k : Fin 384) (d : Fin 128)

/-- The row of query `q` of block `n`. -/
def queryRow (b : Fin 2) (n : Fin 64) (q : Fin 128) : Fin 16384 := ⟨b.val * 8192 + n.val * 128 + q.val, by omega⟩

/-- The product of a query with a key of its window, minus infinity where it may not look. -/
def score (X : FVec Ideal S16384x3072 .bf16) (b : Fin 2) (n : Fin 64) (h g : Fin 4) (q : Fin 128) (k : Fin 384) : EReal :=
  if hk : near q k ∧ inside n k then ∑ x : Fin 128, X (ix2 (rowOf b n k hk.2) (⟨2048 + (h.val * 128 + x.val), by omega⟩ : Fin 3072)) * X (ix2 (queryRow b n q) (⟨h.val * 512 + g.val * 128 + x.val, by omega⟩ : Fin 3072)) else ⊥

/-- Component `d` of a value of the window, zero outside the sequence. -/
def valueAt (X : FVec Ideal S16384x3072 .bf16) (b : Fin 2) (n : Fin 64) (h : Fin 4) (d : Fin 128) (k : Fin 384) : EReal :=
  if hk : inside n k then X (ix2 (rowOf b n k hk) (⟨2560 + (h.val * 128 + d.val), by omega⟩ : Fin 3072)) else 0

variable (X : FVec Ideal S16384x3072 .bf16) (A : FVec Ideal S1x16 .f32)

theorem scores_sum : scores X (ix6 b n h g q k) = Scalar.select (mask (ix6 b n h g q k))
    (∑ x : Fin 128, windows 2048 slices_S16384x3072_S16384x512_0_2048 X (ix5 b n k h x) * X (ix2 (queryRow b n q) (⟨h.val * 512 + g.val * 128 + x.val, by omega⟩ : Fin 3072))) (⊥ : EReal) := by
  pointwise [scores]
  exact congrArg (Scalar.select _ _) neg_inf

theorem scores_at : scores X (ix6 b n h g q k) = score X b n h g q k := by
  rw [scores_sum, mask_at]
  unfold score
  by_cases hk : near q k ∧ inside n k
  · rw [dif_pos hk, if_pos hk]
    refine (if_pos rfl).trans (Finset.sum_congr rfl fun x _ => congrArg (· * _) ?_)
    exact windows_in b n h k x 2048 _ (by omega) X hk.2
  · rw [dif_neg hk, if_neg hk]
    exact if_neg (by decide)

/-- The largest score of a query, or its sink. -/
def top (X : FVec Ideal S16384x3072 .bf16) (A : FVec Ideal S1x16 .f32) (b : Fin 2) (n : Fin 64) (h g : Fin 4) (q : Fin 128) : EReal :=
  max (Finset.univ.fold max (⊥ : EReal) (score X b n h g q)) (A (ix2 0 (⟨h.val * 4 + g.val, by omega⟩ : Fin 16)))

theorem tops_top : tops X A (ix6 b n h g q 0) = top X A b n h g q := by
  rw [tops_at]
  exact congrArg (fun f => max (Finset.univ.fold max (⊥ : EReal) f) _) (funext fun k => scores_at b n h g q k X)

/-- The reference's quotients. -/
def share (X : FVec Ideal S16384x3072 .bf16) (A : FVec Ideal S1x16 .f32) (b : Fin 2) (n : Fin 64) (h g : Fin 4) (q : Fin 128) (k : Fin 384) : EReal :=
  Ideal.div (Ideal.exp (score X b n h g q k - top X A b n h g q))
    (0 + ∑ k, Ideal.exp (score X b n h g q k - top X A b n h g q) + Ideal.exp (A (ix2 0 (⟨h.val * 4 + g.val, by omega⟩ : Fin 16)) - top X A b n h g q))

theorem values_at : windows 2560 slices_S16384x3072_S16384x512_0_2560 X (ix5 b n k h d) = valueAt X b n h d k := by
  unfold valueAt
  by_cases hk : inside n k
  · rw [dif_pos hk]; exact windows_in b n h k d 2560 _ (by omega) X hk
  · rw [dif_neg hk]; exact windows_out b n h k d 2560 _ (by omega) X hk

theorem share_at : Ideal.div (weights X A (ix6 b n h g q k)) (totals X A (ix6 b n h g q 0)) = share X A b n h g q k := by
  rw [totals_at]
  simp only [weights_at, tops_top, scores_at]
  rfl

theorem attnRef_at (i : Fin 16384) (j : Fin 2048) (hb : i.val / 8192 < 2) (hn : i.val / 128 % 64 < 64) (hh : j.val / 512 < 4) (hg : j.val / 128 % 4 < 4) (hq : i.val % 128 < 128) (hd : j.val % 128 < 128) : attnRef X A (ix2 i j)
    = ∑ k : Fin 384, valueAt X ⟨i.val / 8192, hb⟩ ⟨i.val / 128 % 64, hn⟩ ⟨j.val / 512, hh⟩ ⟨j.val % 128, hd⟩ k
      * share X A ⟨i.val / 8192, hb⟩ ⟨i.val / 128 % 64, hn⟩ ⟨j.val / 512, hh⟩ ⟨j.val / 128 % 4, hg⟩ ⟨i.val % 128, hq⟩ k := by
  pointwise [attnRef]
  refine Finset.sum_congr rfl fun k _ => congrArg₂ (· * ·) (values_at _ _ _ _ _ X) (share_at _ _ _ _ _ _ X A)

end Cert.AttnReferenceIdeal.Value

end
-- ==== Proof.AttnRow.lean ====
/- One row of an attention with a sink: the weights divided before or after the sum give the same. -/
module

public import Idealize.ShloMosaic.Lib.Pipeline.ValueKit
public import Idealize.ShloMosaic.Lib.Pointwise

@[expose] public section

set_option maxRecDepth 16384

noncomputable section

namespace Cert.AttnRow

open Cert Idealize.ShloMosaic Idealize.ShloMosaic.TcCoe Idealize.SL.Sem
open Idealize.ShloMosaic.Pipeline (Dat)

open Finset

/-- A sum times a nonnegative real is the sum of the products. -/
theorem sum_mul_real {ι : Type*} (t : Finset ι) (f : ι → EReal) (c : ℝ) (hc : 0 ≤ c) : (∑ k ∈ t, f k) * (c : EReal) = ∑ k ∈ t, f k * (c : EReal) := by
  classical
  induction t using Finset.induction_on with
  | empty => simp
  | insert a t ha ih =>
    rw [sum_insert ha, sum_insert ha, EReal.right_distrib_of_nonneg_of_ne_top (EReal.coe_nonneg.mpr hc) (EReal.coe_ne_top c), ih]

theorem sum_coe {ι : Type*} (t : Finset ι) (f : ι → ℝ) : ∑ k ∈ t, (f k : EReal) = ((∑ k ∈ t, f k : ℝ) : EReal) := by
  classical
  induction t using Finset.induction_on with
  | empty => simp
  | insert a t ha ih => rw [sum_insert ha, sum_insert ha, ih, EReal.coe_add]

theorem div_pos_real (x : EReal) (c : ℝ) (hc : 0 < c) : Ideal.div x (c : EReal) = x * ((c⁻¹ : ℝ) : EReal) := by
  have h : (c : EReal) ≠ 0 := by exact_mod_cast hc.ne'
  unfold Ideal.div
  rw [if_neg h, EReal.coe_inv]

/-- The kernel's quotient of sums is the reference's sum of quotients. -/
theorem row {ι : Type*} [Fintype ι] (s : ι → EReal) (sk : ℝ) (hs : ∀ k, s k ≠ ⊤) (v w : ι → EReal) (hv : ∀ k, s k = ⊥ ∨ v k = w k) (m : EReal)
    (hm : m = max (univ.fold max ⊥ s) (sk : EReal)) :
    Ideal.div (∑ k, Ideal.exp (s k - m) * v k) (∑ k, Ideal.exp (s k - m) * 1 + Ideal.exp ((sk : EReal) - m))
    = ∑ k, w k * Ideal.div (Ideal.exp (s k - m)) (0 + ∑ k, Ideal.exp (s k - m) + Ideal.exp ((sk : EReal) - m)) := by
  have h1 : m ≠ ⊤ := by
    rw [hm]
    refine (lt_top_iff_ne_top.mp (max_lt ?_ (EReal.coe_lt_top sk)))
    exact (Finset.fold_max_lt (c := (⊤ : EReal))).mpr ⟨bot_lt_top, fun k _ => lt_top_iff_ne_top.mpr (hs k)⟩
  have h2 : m ≠ ⊥ := by
    rw [hm]
    exact bot_lt_iff_ne_bot.mp (lt_of_lt_of_le (EReal.bot_lt_coe sk) (le_max_right _ _))
  lift m to ℝ using ⟨h1, h2⟩
  have hp : ∀ k, ∃ r : ℝ, 0 ≤ r ∧ Ideal.exp (s k - (m : EReal)) = r ∧ (s k = ⊥ → r = 0) := by
    intro k
    have := hs k
    induction hk : s k using EReal.rec with
    | bot => exact ⟨0, le_rfl, by rw [EReal.bot_sub]; rfl, fun _ => rfl⟩
    | top => exact absurd hk this
    | coe x => exact ⟨Real.exp (x - m), (Real.exp_pos _).le, by rw [← EReal.coe_sub]; rfl, fun h => absurd h (EReal.coe_ne_bot x)⟩
  choose p hp0 hpe hpb using hp
  have he : Ideal.exp ((sk : EReal) - (m : EReal)) = (Real.exp (sk - m) : ℝ) := by rw [← EReal.coe_sub]; rfl
  have hD : 0 < ∑ k, p k + Real.exp (sk - m) := add_pos_of_nonneg_of_pos (sum_nonneg fun k _ => hp0 k) (Real.exp_pos _)
  simp only [hpe, he, mul_one, zero_add, sum_coe, ← EReal.coe_add]
  simp only [div_pos_real _ _ hD]
  rw [sum_mul_real _ _ _ (inv_nonneg.mpr hD.le)]
  refine sum_congr rfl fun k _ => ?_
  rcases hv k with h | h
  · rw [hpb k h]; simp
  · rw [h, mul_comm (p k : EReal) (w k), mul_assoc]

end Cert.AttnRow

end
-- ==== Proof.AttnScore.lean ====
/- One tile of the windowed attention kernel is the reference at its rows and columns. -/
module

public import proofs.«01_k».proof.Proof.AttnBlocks
public import proofs.«01_k».proof.Proof.AttnRead
public import proofs.«01_k».proof.Proof.AttnRow
public import Idealize.ShloMosaic.Lib.Pipeline.ValueKit
public import Idealize.ShloMosaic.Lib.Pointwise

@[expose] public section

set_option maxRecDepth 16384

noncomputable section

namespace Cert.AttnKernelIdeal.Value

open Cert.AttnKernelIdeal Cert.AttnKernelIdeal.Gen Idealize.ShloMosaic Idealize.ShloMosaic.TcCoe Idealize.SL.Sem
open Idealize.ShloMosaic.Pipeline (Dat)

open Cert.AttnReferenceIdeal.Value (near inside rowOf queryRow score valueAt top share attnRef attnRef_at)

/-- The queries, the keys and the sinks are real numbers. -/
def Finite (X : FVec Ideal S16384x3072 .bf16) (A : FVec Ideal S1x16 .f32) : Prop :=
  (∀ (i : Fin 16384) (j : Fin 3072), j.val < 2560 → X (ix2 i j) ≠ (⊥ : EReal) ∧ X (ix2 i j) ≠ (⊤ : EReal)) ∧ ∀ j : Fin 16, A (ix2 0 j) ≠ (⊥ : EReal) ∧ A (ix2 0 j) ≠ (⊤ : EReal)

theorem sum_real {ι : Type*} [Fintype ι] (a b : ι → EReal) (ha : ∀ x, a x ≠ ⊥ ∧ a x ≠ ⊤) (hb : ∀ x, b x ≠ ⊥ ∧ b x ≠ ⊤) : ∑ x, a x * b x ≠ ⊤ := by
  have e : ∀ x, a x * b x = (((a x).toReal * (b x).toReal : ℝ) : EReal) := by
    intro x
    rw [EReal.coe_mul, EReal.coe_toReal (ha x).2 (ha x).1, EReal.coe_toReal (hb x).2 (hb x).1]
  simp only [e]
  rw [Cert.AttnRow.sum_coe]
  exact EReal.coe_ne_top _

theorem score_ne_top (X A) (hf : Finite X A) (b n h g q k) : score X b n h g q k ≠ ⊤ := by
  unfold score
  split_ifs with hk
  · refine sum_real _ _ (fun x => hf.1 _ _ ?_) (fun x => hf.1 _ _ ?_)
    · show 2048 + (h.val * 128 + x.val) < 2560
      omega
    · show h.val * 512 + g.val * 128 + x.val < 2560
      omega
  · exact bot_ne_top

theorem attnRef_row (X A) (b : Fin 2) (n : Fin 64) (h g : Fin 4) (q d : Fin 128) (i : Fin 16384) (j : Fin 2048) (hi : i.val = b.val * 8192 + n.val * 128 + q.val) (hj : j.val = h.val * 512 + g.val * 128 + d.val) :
    attnRef X A (ix2 i j) = ∑ k : Fin 384, valueAt X b n h d k * share X A b n h g q k := by
  refine (attnRef_at X A i j (by omega) (by omega) (by omega) (by omega) (by omega) (by omega)).trans ?_
  refine Finset.sum_congr rfl fun k _ => congrArg₂ (· * ·) ?_ ?_
  · congr 1 <;> (apply Fin.ext; simp only []; omega)
  · congr 1 <;> (apply Fin.ext; simp only []; omega)

/-- A quotient of sums with the reference's scores is the reference. -/
theorem quot_ref (X A) (hf : Finite X A) (b : Fin 2) (n : Fin 64) (h g : Fin 4) (q d : Fin 128) (s : Fin 384 → EReal) (hs : ∀ k, s k = score X b n h g q k)
    (v : Fin 384 → EReal) (hv : ∀ k, inside n k → v k = valueAt X b n h d k) :
    quot s (A (ix2 0 (⟨h.val * 4 + g.val, by omega⟩ : Fin 16))) v = ∑ k : Fin 384, valueAt X b n h d k * share X A b n h g q k := by
  obtain rfl : s = score X b n h g q := funext hs
  have ha := hf.2 (⟨h.val * 4 + g.val, by omega⟩ : Fin 16)
  unfold quot share top
  generalize A (ix2 0 (⟨h.val * 4 + g.val, by omega⟩ : Fin 16)) = a at ha ⊢
  lift a to ℝ using ⟨ha.2, ha.1⟩
  refine Cert.AttnRow.row (score X b n h g q) a (score_ne_top X A hf b n h g q) v (valueAt X b n h d) (fun k => ?_) _ rfl
  by_cases hk : inside n k
  · exact Or.inr (hv k hk)
  · refine Or.inl ?_
    unfold score
    exact dif_neg fun hh => hk hh.2

/-- The product of a query with a key of its window. -/
def prodAt (X : FVec Ideal S16384x3072 .bf16) (b : Fin 2) (n : Fin 64) (h g : Fin 4) (q : Fin 128) (k : Fin 384) (hk : inside n k) : EReal :=
  ∑ x : Fin 128, X (ix2 (rowOf b n k hk) (⟨2048 + (h.val * 128 + x.val), by omega⟩ : Fin 3072)) * X (ix2 (queryRow b n q) (⟨h.val * 512 + g.val * 128 + x.val, by omega⟩ : Fin 3072))

/-- The added row for the distance, as a name. -/
def band : FVec Ideal S512x384 .f32 := k0_pay7 (F := Ideal) k0_pay6 (FloatOps.ofBits .f32 0x00000000#32) (FloatOps.ofBits .f32 0xFF800000#32)

variable (m : (ℓ : Loc nD τ sig) → Buf (Elt Ideal) ℓ) (c : Dev nD) (t : Fin cfg0.N) (ht : t.val < 32)
include ht

theorem prod_row (j o : ℕ) (hj : j < 16) (ho : o = 128 * j) (hs hb) (r : Fin 512) (k : Fin 384) (hn : t.val % 4 * 16 + j < 64)
    (hk : inside (⟨t.val % 4 * 16 + j, hn⟩ : Fin 64) k) :
    prodG o hs (k0_pay4 (F := Ideal) (iblk m c 2 t) (iblk m c 3 t) (iblk m c 4 t)) (View.ld (iblk m c 1 t) (Rect.unit (s := S2048x512) ![o, 0] ![128, 512] hb)) (ix2 r k)
    = prodAt (m ((c : Thread nD τ).loc main_arg0)) (⟨t.val / 16, by omega⟩ : Fin 2) (⟨t.val % 4 * 16 + j, hn⟩ : Fin 64) (⟨t.val / 4 % 4, by omega⟩ : Fin 4) (⟨r.val / 128, by omega⟩ : Fin 4) (⟨r.val % 128, by omega⟩ : Fin 128) k hk := by
  unfold prodAt
  rw [prodG_at _ _ _ _ _ _ (by omega)]
  have h1 := hk.1
  have h2 := hk.2
  simp only [] at h1 h2
  refine Finset.sum_congr rfl fun x _ => ?_
  refine Eq.trans ?_ (mul_comm _ _)
  refine congrArg₂ (· * ·) ?_ ?_
  · refine (query_row m c t ht o hb _ _ (by omega)).trans ?_
    refine congrArg (m ((c : Thread nD τ).loc main_arg0)) (congrArg₂ ix2 (Fin.ext ?_) (Fin.ext ?_)) <;> (simp only [queryRow] <;> omega)
  · refine (key_row m c t ht _ _ ?_ ?_).trans ?_
    · simp only []; omega
    · simp only []; omega
    · refine congrArg (m ((c : Thread nD τ).loc main_arg0)) (congrArg₂ ix2 (Fin.ext ?_) (Fin.ext ?_)) <;> (simp only [rowOf] <;> omega)

theorem mid_score (j o : ℕ) (hj : j < 15) (hj' : 1 ≤ j) (ho : o = 128 * j) (hs hb) (r : Fin 512) (k : Fin 384) (hn : t.val % 4 * 16 + j < 64) :
    addf (prodG o hs (k0_pay4 (F := Ideal) (iblk m c 2 t) (iblk m c 3 t) (iblk m c 4 t)) (View.ld (iblk m c 1 t) (Rect.unit (s := S2048x512) ![o, 0] ![128, 512] hb))) band (ix2 r k)
    = score (m ((c : Thread nD τ).loc main_arg0)) (⟨t.val / 16, by omega⟩ : Fin 2) (⟨t.val % 4 * 16 + j, hn⟩ : Fin 64) (⟨t.val / 4 % 4, by omega⟩ : Fin 4) (⟨r.val / 128, by omega⟩ : Fin 4) (⟨r.val % 128, by omega⟩ : Fin 128) k := by
  have hk : inside (⟨t.val % 4 * 16 + j, hn⟩ : Fin 64) k := by
    constructor <;> (simp only []; omega)
  refine (congrArg₂ (fun a b : EReal => a + b) (prod_row m c t ht j o (by omega) ho hs hb r k hn hk) (band_at r k)).trans ?_
  unfold score
  by_cases hd : near (⟨r.val % 128, by omega⟩ : Fin 128) k
  · rw [if_pos hd, dif_pos ⟨hd, hk⟩]
    exact add_zero (M := EReal) _
  · rw [if_neg hd, dif_neg fun hh => hd hh.1]
    exact EReal.add_bot _

theorem edge_score (j o : ℕ) (hj : j < 16) (ho : o = 128 * j) (hs hb hr) (r : Fin 512) (k : Fin 384) (hn : t.val % 4 * 16 + j < 64) :
    addf (addf (prodG o hs (k0_pay4 (F := Ideal) (iblk m c 2 t) (iblk m c 3 t) (iblk m c 4 t)) (View.ld (iblk m c 1 t) (Rect.unit (s := S2048x512) ![o, 0] ![128, 512] hb))) band)
      (broadcastTo S512x384 (extractStridedSlice S1x384 ![0, o] (k0_pay8 (F := Ideal) (BitVec.ofNat 32 (grid0.coords t 2).val)) hr) broadcasts_S1x384_S512x384) (ix2 r k)
    = score (m ((c : Thread nD τ).loc main_arg0)) (⟨t.val / 16, by omega⟩ : Fin 2) (⟨t.val % 4 * 16 + j, hn⟩ : Fin 64) (⟨t.val / 4 % 4, by omega⟩ : Fin 4) (⟨r.val / 128, by omega⟩ : Fin 4) (⟨r.val % 128, by omega⟩ : Fin 128) k := by
  have hR : broadcastTo S512x384 (extractStridedSlice S1x384 ![0, o] (k0_pay8 (F := Ideal) (BitVec.ofNat 32 (grid0.coords t 2).val)) hr) broadcasts_S1x384_S512x384 (ix2 r k)
      = if inside (⟨t.val % 4 * 16 + j, hn⟩ : Fin 64) k then (0 : EReal) else ⊥ := by
    have e : ∀ w : FVec Ideal S1x2304 .f32, broadcastTo S512x384 (extractStridedSlice S1x384 ![0, o] w hr) broadcasts_S1x384_S512x384 (ix2 r k) = w (ix2 0 (⟨o + k.val, by omega⟩ : Fin 2304)) := by
      intro w
      pointwise []
    rw [e, coord2 t]
    refine (range_at (⟨t.val % 4, by omega⟩ : Fin 4) _).trans ?_
    refine if_congr ?_ rfl rfl
    unfold inside
    simp only []
    constructor <;> (intro hh; constructor <;> omega)
  unfold score
  by_cases hk : inside (⟨t.val % 4 * 16 + j, hn⟩ : Fin 64) k
  · refine (congrArg₂ (fun a b : EReal => a + b) (congrArg₂ (fun a b : EReal => a + b) (prod_row m c t ht j o hj ho hs hb r k hn hk) (band_at r k)) hR).trans ?_
    rw [if_pos hk]
    by_cases hd : near (⟨r.val % 128, by omega⟩ : Fin 128) k
    · rw [if_pos hd, dif_pos ⟨hd, hk⟩]
      exact (add_zero (M := EReal) _).trans (add_zero (M := EReal) _)
    · rw [if_neg hd, dif_neg fun hh => hd hh.1]
      exact (add_zero (M := EReal) _).trans (EReal.add_bot _)
  · refine (congrArg (fun b : EReal => _ + b) hR).trans ?_
    rw [if_neg hk, dif_neg fun hh => hk hh.2]
    exact EReal.add_bot _

/-- The four sinks of a head, by column group. -/
def sinks (w0 : ∀ a, k0_off1 (grid0.coords t) 0#32 a + ![1] a ≤ S16.size a) (w1 : ∀ a, k0_off1 (grid0.coords t) 1#32 a + ![1] a ≤ S16.size a) (w2 : ∀ a, k0_off1 (grid0.coords t) 2#32 a + ![1] a ≤ S16.size a) (w3 : ∀ a, k0_off1 (grid0.coords t) 3#32 a + ![1] a ≤ S16.size a) (n0 : 0 < (Rect.unit (s := S16) (k0_off1 (grid0.coords t) 0#32) ![1] w0).shape.numel) (n1 : 0 < (Rect.unit (s := S16) (k0_off1 (grid0.coords t) 1#32) ![1] w1).shape.numel) (n2 : 0 < (Rect.unit (s := S16) (k0_off1 (grid0.coords t) 2#32) ![1] w2).shape.numel) (n3 : 0 < (Rect.unit (s := S16) (k0_off1 (grid0.coords t) 3#32) ![1] w3).shape.numel) : FVec Ideal S512x128 .f32 :=
  k0_pay9 (F := Ideal) (View.ld (iblk m c 0 t) (Rect.unit (s := S16) (k0_off1 (grid0.coords t) 0#32) ![1] w0) (Shape.Idx.first n0))
    (View.ld (iblk m c 0 t) (Rect.unit (s := S16) (k0_off1 (grid0.coords t) 1#32) ![1] w1) (Shape.Idx.first n1))
    (View.ld (iblk m c 0 t) (Rect.unit (s := S16) (k0_off1 (grid0.coords t) 2#32) ![1] w2) (Shape.Idx.first n2))
    (View.ld (iblk m c 0 t) (Rect.unit (s := S16) (k0_off1 (grid0.coords t) 3#32) ![1] w3) (Shape.Idx.first n3))

theorem sinks_at (w0 w1 w2 w3 n0 n1 n2 n3) (r : Fin 512) (x : Fin 128) : sinks m c t w0 w1 w2 w3 n0 n1 n2 n3 (ix2 r x) = (m ((c : Thread nD τ).loc main_arg1)) (ix2 0 (⟨t.val / 4 % 4 * 4 + r.val / 128, by omega⟩ : Fin 16)) := by
  unfold sinks
  rw [sink_at, sink0 m c t ht, sink1 m c t ht, sink2 m c t ht, sink3 m c t ht]
  split_ifs <;> (refine congrArg (m ((c : Thread nD τ).loc main_arg1)) (congrArg₂ ix2 rfl (Fin.ext ?_)); simp only []; omega)

omit ht in
theorem row_sum (a t o j i : ℕ) (ho : o = 128 * j) (ha : a = t / 16 * 8192 + (t % 4 * 2048 + (o + i))) : a = t / 16 * 8192 + (t % 4 * 16 + j) * 128 + i := by
  subst ho
  rw [ha]
  ring

omit ht in
theorem col_sum (b t i : ℕ) (hb : b = t / 4 % 4 * 512 + i) : b = t / 4 % 4 * 512 + i / 128 * 128 + i % 128 := by omega

/-- A tile whose scores are the reference's. -/
theorem tile (hf : Finite (m ((c : Thread nD τ).loc main_arg0)) (m ((c : Thread nD τ).loc main_arg1))) (j o : ℕ) (hj : j < 16) (ho : o = 128 * j) (hs) (hn : t.val % 4 * 16 + j < 64) (s sk : _)
    (hsc : ∀ (r : Fin 512) (k : Fin 384), s (ix2 r k) = score (m ((c : Thread nD τ).loc main_arg0)) (⟨t.val / 16, by omega⟩ : Fin 2) (⟨t.val % 4 * 16 + j, hn⟩ : Fin 64) (⟨t.val / 4 % 4, by omega⟩ : Fin 4) (⟨r.val / 128, by omega⟩ : Fin 4) (⟨r.val % 128, by omega⟩ : Fin 128) k)
    (hsk : ∀ (r : Fin 512) (x : Fin 128), sk (ix2 r x) = (m ((c : Thread nD τ).loc main_arg1)) (ix2 0 (⟨t.val / 4 % 4 * 4 + r.val / 128, by omega⟩ : Fin 16)))
    (i : S128x512.Idx) (a : Fin 16384) (b : Fin 2048) (ha : a.val = t.val / 16 * 8192 + (t.val % 4 * 2048 + (o + (i 0).val))) (hb : b.val = t.val / 4 % 4 * 512 + (i 1).val) :
    rowG o hs (k0_pay5 (F := Ideal) (iblk m c 5 t) (iblk m c 6 t) (iblk m c 7 t)) s sk i = attnRef (m ((c : Thread nD τ).loc main_arg0)) (m ((c : Thread nD τ).loc main_arg1)) (ix2 a b) := by
  idx_vars i
  replace ha : a.val = t.val / 16 * 8192 + (t.val % 4 * 2048 + (o + i0.val)) := ha
  replace hb : b.val = t.val / 4 % 4 * 512 + i1.val := hb
  have e1 : (i1.val / 128 * 128 + i0.val) / 128 = i1.val / 128 := by omega
  have e2 : (i1.val / 128 * 128 + i0.val) % 128 = i0.val := by omega
  refine (rowG_at o hs _ _ _ s sk (by omega) i0 i1 ((m ((c : Thread nD τ).loc main_arg1)) (ix2 0 (⟨t.val / 4 % 4 * 4 + i1.val / 128, by omega⟩ : Fin 16))) fun x' => ?_).trans ?_
  · refine (hsk _ _).trans (congrArg (m ((c : Thread nD τ).loc main_arg1)) (congrArg₂ ix2 rfl (Fin.ext ?_)))
    simp only []
    omega
  refine (quot_ref (m ((c : Thread nD τ).loc main_arg0)) (m ((c : Thread nD τ).loc main_arg1)) hf (⟨t.val / 16, by omega⟩ : Fin 2) (⟨t.val % 4 * 16 + j, hn⟩ : Fin 64) (⟨t.val / 4 % 4, by omega⟩ : Fin 4) (⟨i1.val / 128, by omega⟩ : Fin 4) i0 (⟨i1.val % 128, by omega⟩ : Fin 128) _ (fun k => ?_) _ (fun k hk => ?_)).trans ?_
  · refine (hsc _ _).trans ?_
    congr 1 <;> (apply Fin.ext; simp only []; omega)
  · have h1 := hk.1
    have h2 := hk.2
    simp only [] at h1 h2
    refine (value_row m c t ht _ _ ?_ ?_).trans ?_
    · simp only []; omega
    · simp only []; omega
    unfold valueAt
    rw [dif_pos hk]
    refine congrArg (m ((c : Thread nD τ).loc main_arg0)) (congrArg₂ ix2 (Fin.ext ?_) (Fin.ext ?_)) <;> (simp only [rowOf] <;> omega)
  · refine (attnRef_row (m ((c : Thread nD τ).loc main_arg0)) (m ((c : Thread nD τ).loc main_arg1)) (⟨t.val / 16, by omega⟩ : Fin 2) (⟨t.val % 4 * 16 + j, hn⟩ : Fin 64) (⟨t.val / 4 % 4, by omega⟩ : Fin 4) (⟨i1.val / 128, by omega⟩ : Fin 4) i0 (⟨i1.val % 128, by omega⟩ : Fin 128) a b ?_ ?_).symm
    · exact row_sum _ _ _ _ _ ho ha
    · exact col_sum _ _ _ hb

end Cert.AttnKernelIdeal.Value

end
-- ==== Proof.AttnPay.lean ====
/- The tiles of the windowed attention kernel are the same function of their scores. -/
module

public import proofs.«01_k».proof.Proof.AttnTile
public import Idealize.ShloMosaic.Lib.Pipeline.ValueKit
public import Idealize.ShloMosaic.Lib.Pointwise

@[expose] public section

set_option maxRecDepth 16384

noncomputable section

namespace Cert.AttnKernelIdeal.Value

open Cert.AttnKernelIdeal Cert.AttnKernelIdeal.Gen Idealize.ShloMosaic Idealize.ShloMosaic.TcCoe Idealize.SL.Sem
open Idealize.ShloMosaic.Pipeline (Dat)

variable (v9 : FVec Ideal S2304x256 .bf16) (b : FVec Ideal S512x384 .f32) (rng : FVec Ideal S1x2304 .f32) (sk : FVec Ideal S512x128 .f32) (v3 : FVec Ideal S2304x128 .bf16) (q : Vec Ideal S128x512 .bf16)

theorem pay_0 : k0_pay98 v9 (k0_pay32 (k0_pay29 b rng (k0_pay12 (k0_pay10 q) (k0_pay11 v3))) (k0_pay30 b rng sk (k0_pay12 (k0_pay10 q) (k0_pay11 v3))) (k0_pay31 b rng sk (k0_pay12 (k0_pay10 q) (k0_pay11 v3)))) (k0_pay33 sk (k0_pay30 b rng sk (k0_pay12 (k0_pay10 q) (k0_pay11 v3))))
    = rowG 0 slices_S2304x256_o0_0_S384x256 v9 (addf (addf (prodG 0 slices_S2304x128_o0_0_S384x128 v3 q) b) (broadcastTo S512x384 (extractStridedSlice S1x384 ![0, 0] rng slices_S1x2304_o0_0_S1x384) broadcasts_S1x384_S512x384)) sk := rfl

theorem pay_1 : k0_pay99 v9 (k0_pay36 b sk (k0_pay13 v3 q)) (k0_pay37 b sk (k0_pay13 v3 q))
    = rowG 128 slices_S2304x256_o128_0_S384x256 v9 (addf (prodG 128 slices_S2304x128_o128_0_S384x128 v3 q) b) sk := rfl

theorem pay_2 : k0_pay100 v9 (k0_pay40 b sk (k0_pay14 v3 q)) (k0_pay41 b sk (k0_pay14 v3 q))
    = rowG 256 slices_S2304x256_o256_0_S384x256 v9 (addf (prodG 256 slices_S2304x128_o256_0_S384x128 v3 q) b) sk := rfl

theorem pay_3 : k0_pay101 v9 (k0_pay45 (k0_pay42 b (k0_pay15 v3 q)) (k0_pay43 b sk (k0_pay15 v3 q)) (k0_pay44 b sk (k0_pay15 v3 q))) (k0_pay46 sk (k0_pay43 b sk (k0_pay15 v3 q)))
    = rowG 384 slices_S2304x256_o384_0_S384x256 v9 (addf (prodG 384 slices_S2304x128_o384_0_S384x128 v3 q) b) sk := rfl

theorem pay_4 : k0_pay102 v9 (k0_pay49 b sk (k0_pay16 v3 q)) (k0_pay50 b sk (k0_pay16 v3 q))
    = rowG 512 slices_S2304x256_o512_0_S384x256 v9 (addf (prodG 512 slices_S2304x128_o512_0_S384x128 v3 q) b) sk := rfl

theorem pay_5 : k0_pay103 v9 (k0_pay53 b sk (k0_pay17 v3 q)) (k0_pay54 b sk (k0_pay17 v3 q))
    = rowG 640 slices_S2304x256_o640_0_S384x256 v9 (addf (prodG 640 slices_S2304x128_o640_0_S384x128 v3 q) b) sk := rfl

theorem pay_6 : k0_pay107 (k0_pay59 sk (k0_pay56 b sk (k0_pay18 v3 q))) (k0_pay105 v9 (k0_pay58 (k0_pay55 b (k0_pay18 v3 q)) (k0_pay56 b sk (k0_pay18 v3 q)) (k0_pay57 b sk (k0_pay18 v3 q)))) (k0_pay106 v9 (k0_pay58 (k0_pay55 b (k0_pay18 v3 q)) (k0_pay56 b sk (k0_pay18 v3 q)) (k0_pay57 b sk (k0_pay18 v3 q))))
    = rowG 768 slices_S2304x256_o768_0_S384x256 v9 (addf (prodG 768 slices_S2304x128_o768_0_S384x128 v3 q) b) sk := rfl

theorem pay_7 : k0_pay108 v9 (k0_pay62 b sk (k0_pay19 v3 q)) (k0_pay63 b sk (k0_pay19 v3 q))
    = rowG 896 slices_S2304x256_o896_0_S384x256 v9 (addf (prodG 896 slices_S2304x128_o896_0_S384x128 v3 q) b) sk := rfl

theorem pay_8 : k0_pay109 v9 (k0_pay66 b sk (k0_pay20 v3 q)) (k0_pay67 b sk (k0_pay20 v3 q))
    = rowG 1024 slices_S2304x256_o1024_0_S384x256 v9 (addf (prodG 1024 slices_S2304x128_o1024_0_S384x128 v3 q) b) sk := rfl

theorem pay_9 : k0_pay110 v9 (k0_pay71 (k0_pay68 b (k0_pay21 v3 q)) (k0_pay69 b sk (k0_pay21 v3 q)) (k0_pay70 b sk (k0_pay21 v3 q))) (k0_pay72 sk (k0_pay69 b sk (k0_pay21 v3 q)))
    = rowG 1152 slices_S2304x256_o1152_0_S384x256 v9 (addf (prodG 1152 slices_S2304x128_o1152_0_S384x128 v3 q) b) sk := rfl

theorem pay_10 : k0_pay111 v9 (k0_pay75 b sk (k0_pay22 v3 q)) (k0_pay76 b sk (k0_pay22 v3 q))
    = rowG 1280 slices_S2304x256_o1280_0_S384x256 v9 (addf (prodG 1280 slices_S2304x128_o1280_0_S384x128 v3 q) b) sk := rfl

theorem pay_11 : k0_pay112 v9 (k0_pay79 b sk (k0_pay24 v3 (k0_pay23 q))) (k0_pay80 b sk (k0_pay24 v3 (k0_pay23 q)))
    = rowG 1408 slices_S2304x256_o1408_0_S384x256 v9 (addf (prodG 1408 slices_S2304x128_o1408_0_S384x128 v3 q) b) sk := rfl

theorem pay_12 : k0_pay113 v9 (k0_pay84 (k0_pay81 b (k0_pay25 v3 q)) (k0_pay82 b sk (k0_pay25 v3 q)) (k0_pay83 b sk (k0_pay25 v3 q))) (k0_pay85 sk (k0_pay82 b sk (k0_pay25 v3 q)))
    = rowG 1536 slices_S2304x256_o1536_0_S384x256 v9 (addf (prodG 1536 slices_S2304x128_o1536_0_S384x128 v3 q) b) sk := rfl

theorem pay_13 : k0_pay1 (k0_pay115 v9 (k0_pay88 b sk (k0_pay26 v3 q))) (k0_pay116 v9 (k0_pay88 b sk (k0_pay26 v3 q)) (k0_pay89 b sk (k0_pay26 v3 q)))
    = rowG 1664 slices_S2304x256_o1664_0_S384x256 v9 (addf (prodG 1664 slices_S2304x128_o1664_0_S384x128 v3 q) b) sk := rfl

theorem pay_14 : k0_pay2 v9 (k0_pay92 b sk (k0_pay27 v3 q)) (k0_pay93 b sk (k0_pay27 v3 q))
    = rowG 1792 slices_S2304x256_o1792_0_S384x256 v9 (addf (prodG 1792 slices_S2304x128_o1792_0_S384x128 v3 q) b) sk := rfl

theorem pay_15 : k0_pay3 v9 (k0_pay96 (k0_pay94 b rng (k0_pay28 v3 q)) (k0_pay95 b rng sk (k0_pay28 v3 q))) (k0_pay97 sk (k0_pay95 b rng sk (k0_pay28 v3 q)))
    = rowG 1920 slices_S2304x256_o1920_0_S384x256 v9 (addf (addf (prodG 1920 slices_S2304x128_o1920_0_S384x128 v3 q) b) (broadcastTo S512x384 (extractStridedSlice S1x384 ![0, 1920] rng slices_S1x2304_o0_1920_S1x384) broadcasts_S1x384_S512x384)) sk := rfl

end Cert.AttnKernelIdeal.Value

end
-- ==== Proof.AttnValue.lean ====
/- The windowed attention kernel computes the reference on real queries, keys and sinks. -/
module

public import proofs.«01_k».proof.Proof.AttnScore
public import proofs.«01_k».proof.Proof.AttnPay
public import proofs.«01_k».proof.Proof.Gen.Pre_finite
public import Idealize.ShloMosaic.Lib.Pipeline.ValueKit
public import Idealize.ShloMosaic.Lib.Pointwise

@[expose] public section

set_option maxRecDepth 16384

noncomputable section

namespace Cert.AttnKernelIdeal.Value

open Cert.AttnKernelIdeal Cert.AttnKernelIdeal.Gen Idealize.ShloMosaic Idealize.ShloMosaic.TcCoe Idealize.SL.Sem
open Idealize.ShloMosaic.Pipeline (Dat)

open Cert.AttnReferenceIdeal.Value (attnRef)

theorem inf_bits : Ideal.ofBits .f32 0x7F800000#32 = (⊤ : EReal) := by simp [Ideal.ofBits, Ideal.ieee]

theorem real_of (x : EReal) (h : IntOp.andi (BitVec.ofBool (decide (Ideal.ofBits .f32 0xFF800000#32 < x))) (BitVec.ofBool (decide (x < Ideal.ofBits .f32 0x7F800000#32))) = 1#1) : x ≠ ⊥ ∧ x ≠ ⊤ := by
  rw [inf_bits, Cert.AttnReferenceIdeal.Value.neg_inf] at h
  constructor
  · rintro rfl
    revert h
    simp [IntOp.andi]
  · rintro rfl
    revert h
    simp [IntOp.andi]

theorem finite_of (X : FVec Ideal S16384x3072 .bf16) (A : FVec Ideal S1x16 .f32)
    (h : (Cert.Pre_finite.fn (F := Ideal) X A).1 = (fun _ => 1#1) ∧ (Cert.Pre_finite.fn (F := Ideal) X A).2 = (fun _ => 1#1)) : Finite X A := by
  refine ⟨fun i j hj => real_of _ ?_, fun j => real_of _ ?_⟩
  · refine Eq.trans ?_ (congrFun h.1 (ix2 i (⟨j.val, hj⟩ : Fin 2560)))
    pointwise [Cert.Pre_finite.fn]
  · refine Eq.trans ?_ (congrFun h.2 (ix2 0 j))
    pointwise [Cert.Pre_finite.fn]

variable (m : (ℓ : Loc nD τ sig) → Buf (Elt Ideal) ℓ)

set_option maxHeartbeats 2000000 in
theorem block (c : Dev nD) (t : Fin cfg0.N) (ht : t.val < 32) (hf : Finite (m ((c : Thread nD τ).loc main_arg0)) (m ((c : Thread nD τ).loc main_arg1))) (y : S2048x512.Idx) (a : Fin 16384) (b : Fin 2048)
    (ha : a.val = t.val / 16 * 8192 + (t.val % 4 * 2048 + (y 0).val)) (hb : b.val = t.val / 4 % 4 * 512 + (y 1).val) :
    (dats m 0 c).after 8 t y = attnRef (F := Ideal) (m ((c : Thread nD τ).loc main_arg0)) (m ((c : Thread nD τ).loc main_arg1)) (ix2 a b) := by
  rw [after0_8]
  unfold outsAt0
  frame_out
  canon_tiles i h
  case piece15 =>
    have hn : t.val % 4 * 16 + 0 < 64 := by omega
    refine (congrFun (pay_0 _ _ _ _ _ _) i).trans ?_
    exact tile m c t ht hf 0 0 (by omega) rfl _ hn _ _ (fun r k => edge_score m c t ht 0 0 (by omega) rfl _ _ _ r k hn) (fun r x => sinks_at m c t ht _ _ _ _ _ _ _ _ r x) i a b (by rw [ha, h0]; omega) (by rw [hb, h1])
  case piece14 =>
    have hn : t.val % 4 * 16 + 1 < 64 := by omega
    refine (congrFun (pay_1 _ _ _ _ _) i).trans ?_
    exact tile m c t ht hf 1 128 (by omega) rfl _ hn _ _ (fun r k => mid_score m c t ht 1 128 (by omega) (by omega) rfl _ _ r k hn) (fun r x => sinks_at m c t ht _ _ _ _ _ _ _ _ r x) i a b (by rw [ha, h0]) (by rw [hb, h1])
  case piece13 =>
    have hn : t.val % 4 * 16 + 2 < 64 := by omega
    refine (congrFun (pay_2 _ _ _ _ _) i).trans ?_
    exact tile m c t ht hf 2 256 (by omega) rfl _ hn _ _ (fun r k => mid_score m c t ht 2 256 (by omega) (by omega) rfl _ _ r k hn) (fun r x => sinks_at m c t ht _ _ _ _ _ _ _ _ r x) i a b (by rw [ha, h0]) (by rw [hb, h1])
  case piece12 =>
    have hn : t.val % 4 * 16 + 3 < 64 := by omega
    refine (congrFun (pay_3 _ _ _ _ _) i).trans ?_
    exact tile m c t ht hf 3 384 (by omega) rfl _ hn _ _ (fun r k => mid_score m c t ht 3 384 (by omega) (by omega) rfl _ _ r k hn) (fun r x => sinks_at m c t ht _ _ _ _ _ _ _ _ r x) i a b (by rw [ha, h0]) (by rw [hb, h1])
  case piece11 =>
    have hn : t.val % 4 * 16 + 4 < 64 := by omega
    refine (congrFun (pay_4 _ _ _ _ _) i).trans ?_
    exact tile m c t ht hf 4 512 (by omega) rfl _ hn _ _ (fun r k => mid_score m c t ht 4 512 (by omega) (by omega) rfl _ _ r k hn) (fun r x => sinks_at m c t ht _ _ _ _ _ _ _ _ r x) i a b (by rw [ha, h0]) (by rw [hb, h1])
  case piece10 =>
    have hn : t.val % 4 * 16 + 5 < 64 := by omega
    refine (congrFun (pay_5 _ _ _ _ _) i).trans ?_
    exact tile m c t ht hf 5 640 (by omega) rfl _ hn _ _ (fun r k => mid_score m c t ht 5 640 (by omega) (by omega) rfl _ _ r k hn) (fun r x => sinks_at m c t ht _ _ _ _ _ _ _ _ r x) i a b (by rw [ha, h0]) (by rw [hb, h1])
  case piece9 =>
    have hn : t.val % 4 * 16 + 6 < 64 := by omega
    refine (congrFun (pay_6 _ _ _ _ _) i).trans ?_
    exact tile m c t ht hf 6 768 (by omega) rfl _ hn _ _ (fun r k => mid_score m c t ht 6 768 (by omega) (by omega) rfl _ _ r k hn) (fun r x => sinks_at m c t ht _ _ _ _ _ _ _ _ r x) i a b (by rw [ha, h0]) (by rw [hb, h1])
  case piece8 =>
    have hn : t.val % 4 * 16 + 7 < 64 := by omega
    refine (congrFun (pay_7 _ _ _ _ _) i).trans ?_
    exact tile m c t ht hf 7 896 (by omega) rfl _ hn _ _ (fun r k => mid_score m c t ht 7 896 (by omega) (by omega) rfl _ _ r k hn) (fun r x => sinks_at m c t ht _ _ _ _ _ _ _ _ r x) i a b (by rw [ha, h0]) (by rw [hb, h1])
  case piece7 =>
    have hn : t.val % 4 * 16 + 8 < 64 := by omega
    refine (congrFun (pay_8 _ _ _ _ _) i).trans ?_
    exact tile m c t ht hf 8 1024 (by omega) rfl _ hn _ _ (fun r k => mid_score m c t ht 8 1024 (by omega) (by omega) rfl _ _ r k hn) (fun r x => sinks_at m c t ht _ _ _ _ _ _ _ _ r x) i a b (by rw [ha, h0]) (by rw [hb, h1])
  case piece6 =>
    have hn : t.val % 4 * 16 + 9 < 64 := by omega
    refine (congrFun (pay_9 _ _ _ _ _) i).trans ?_
    exact tile m c t ht hf 9 1152 (by omega) rfl _ hn _ _ (fun r k => mid_score m c t ht 9 1152 (by omega) (by omega) rfl _ _ r k hn) (fun r x => sinks_at m c t ht _ _ _ _ _ _ _ _ r x) i a b (by rw [ha, h0]) (by rw [hb, h1])
  case piece5 =>
    have hn : t.val % 4 * 16 + 10 < 64 := by omega
    refine (congrFun (pay_10 _ _ _ _ _) i).trans ?_
    exact tile m c t ht hf 10 1280 (by omega) rfl _ hn _ _ (fun r k => mid_score m c t ht 10 1280 (by omega) (by omega) rfl _ _ r k hn) (fun r x => sinks_at m c t ht _ _ _ _ _ _ _ _ r x) i a b (by rw [ha, h0]) (by rw [hb, h1])
  case piece4 =>
    have hn : t.val % 4 * 16 + 11 < 64 := by omega
    refine (congrFun (pay_11 _ _ _ _ _) i).trans ?_
    exact tile m c t ht hf 11 1408 (by omega) rfl _ hn _ _ (fun r k => mid_score m c t ht 11 1408 (by omega) (by omega) rfl _ _ r k hn) (fun r x => sinks_at m c t ht _ _ _ _ _ _ _ _ r x) i a b (by rw [ha, h0]) (by rw [hb, h1])
  case piece3 =>
    have hn : t.val % 4 * 16 + 12 < 64 := by omega
    refine (congrFun (pay_12 _ _ _ _ _) i).trans ?_
    exact tile m c t ht hf 12 1536 (by omega) rfl _ hn _ _ (fun r k => mid_score m c t ht 12 1536 (by omega) (by omega) rfl _ _ r k hn) (fun r x => sinks_at m c t ht _ _ _ _ _ _ _ _ r x) i a b (by rw [ha, h0]) (by rw [hb, h1])
  case piece2 =>
    have hn : t.val % 4 * 16 + 13 < 64 := by omega
    refine (congrFun (pay_13 _ _ _ _ _) i).trans ?_
    exact tile m c t ht hf 13 1664 (by omega) rfl _ hn _ _ (fun r k => mid_score m c t ht 13 1664 (by omega) (by omega) rfl _ _ r k hn) (fun r x => sinks_at m c t ht _ _ _ _ _ _ _ _ r x) i a b (by rw [ha, h0]) (by rw [hb, h1])
  case piece1 =>
    have hn : t.val % 4 * 16 + 14 < 64 := by omega
    refine (congrFun (pay_14 _ _ _ _ _) i).trans ?_
    exact tile m c t ht hf 14 1792 (by omega) rfl _ hn _ _ (fun r k => mid_score m c t ht 14 1792 (by omega) (by omega) rfl _ _ r k hn) (fun r x => sinks_at m c t ht _ _ _ _ _ _ _ _ r x) i a b (by rw [ha, h0]) (by rw [hb, h1])
  case piece0 =>
    have hn : t.val % 4 * 16 + 15 < 64 := by omega
    refine (congrFun (pay_15 _ _ _ _ _ _) i).trans ?_
    exact tile m c t ht hf 15 1920 (by omega) rfl _ hn _ _ (fun r k => edge_score m c t ht 15 1920 (by omega) rfl _ _ _ r k hn) (fun r x => sinks_at m c t ht _ _ _ _ _ _ _ _ r x) i a b (by rw [ha, h0]) (by rw [hb, h1])

theorem value (c : Dev nD) (h : ∀ c : Dev nD, (Cert.Pre_finite.fn (F := Ideal) (m ((c : Thread nD τ).loc main_arg0)) (m ((c : Thread nD τ).loc main_arg1))).1 = (fun _ => 1#1) ∧ (Cert.Pre_finite.fn (F := Ideal) (m ((c : Thread nD τ).loc main_arg0)) (m ((c : Thread nD τ).loc main_arg1))).2 = (fun _ => 1#1)) : (dats m 0 c).arrAt 8 (cfgs 0).N = attnRef (F := Ideal) (m ((c : Thread nD τ).loc main_arg0)) (m ((c : Thread nD τ).loc main_arg1)) := by
  have hf : Finite (m ((c : Thread nD τ).loc main_arg0)) (m ((c : Thread nD τ).loc main_arg1)) := finite_of _ _ (h c)
  refine (dats m 0 c).arrAt_eq_of_covers 8 _ (by decide +kernel) fun t hh y => ?_
  idx_vars y
  blk_simp
  have ht : t.val < 32 := lt_of_lt_of_eq t.isLt N_0
  have e : (win0_8.blk t).view.emb (ix2 y0 y1) = ix2 (⟨(t.val / 16 * 4 + t.val % 4) * 2048 + y0.val, by omega⟩ : Fin 16384) (⟨t.val / 4 % 4 * 512 + y1.val, by omega⟩ : Fin 2048) := by
    blk_ext [idx t]
  refine Eq.trans ?_ (congrArg _ e).symm
  refine block m c t ht hf (ix2 y0 y1) _ _ ?_ rfl
  show (t.val / 16 * 4 + t.val % 4) * 2048 + y0.val = t.val / 16 * 8192 + (t.val % 4 * 2048 + y0.val)
  ring

end Cert.AttnKernelIdeal.Value

end
-- ==== Proof.GatesValue.lean ====
/- The values of the gates and of the weights cast beside them: every tile of the gates is computed in four pieces of 256 columns. -/
module

public import proofs.«01_k».proof.Proof.Gen.GatesKernelIdeal.Value
public import proofs.«01_k».proof.Proof.Gen.GatesReferenceIdeal
public import Idealize.ShloMosaic.Lib.Pipeline.ValueKit
public import Idealize.ShloMosaic.Lib.Pointwise

@[expose] public section

set_option maxRecDepth 16384

noncomputable section

namespace Cert.GatesKernelIdeal.Value

open Cert.GatesKernelIdeal Cert.GatesKernelIdeal.Gen Idealize.ShloMosaic Idealize.ShloMosaic.TcCoe Idealize.SL.Sem
open Idealize.ShloMosaic.Pipeline (Dat)

/-- The reference's first result as a function of its two arguments. -/
def gateRef (x : FVec Ideal Cert.GatesReferenceIdeal.S16384x4096 .bf16) (w : FVec Ideal Cert.GatesReferenceIdeal.S4096x11264 .bf16) : FVec Ideal Cert.GatesReferenceIdeal.S16384x8192 .bf16 :=
  truncf .bf16 (Host.divf (broadcastInDim Cert.GatesReferenceIdeal.S16384x8192 ![] Cert.GatesReferenceIdeal.Gen.bcast_S_S16384x8192 (constant Cert.GatesReferenceIdeal.S_ .f32 0x3F800000#32)) (addf (broadcastInDim Cert.GatesReferenceIdeal.S16384x8192 ![] Cert.GatesReferenceIdeal.Gen.bcast_S_S16384x8192 (constant Cert.GatesReferenceIdeal.S_ .f32 0x3F800000#32)) (Host.exp (Host.negf (Host.dotGeneral Cert.GatesReferenceIdeal.dot_S16384x4096_S4096x8192_S16384x8192_1_0_0_1_n_n none (extf .f32 x Cert.GatesReferenceIdeal.Gen.bitsLt_bf16_f32) (extractStridedSlice Cert.GatesReferenceIdeal.S4096x8192 ![0, 3072] (extf .f32 w Cert.GatesReferenceIdeal.Gen.bitsLt_bf16_f32) Cert.GatesReferenceIdeal.Gen.slices_S4096x11264_S4096x8192_0_3072)))))) Cert.GatesReferenceIdeal.Gen.bitsLt_bf16_f32

/-- The logistic function, as the kernel spells it. -/
abbrev logistic (s : EReal) : EReal := Ideal.div 1 (1 + Ideal.exp (0 - s))

theorem ref_at (x w) (a : Fin 16384) (b : Fin 8192) : gateRef x w (ix2 a b) = logistic (∑ d : Fin 4096, x (ix2 a d) * w (ix2 d ⟨3072 + b.val, by omega⟩)) := by
  rw [logistic, zero_sub]
  pointwise [gateRef]

/-- One block of gates. -/
def block (x : Vec Ideal S1024x4096 .bf16) (w : Vec Ideal S4096x1024 .bf16) : S1024x1024.Idx → EReal :=
  fun y => logistic (∑ d : Fin 4096, x (ix2 (y 0) d) * w (ix2 d (y 1)))

theorem out_block (x : Vec Ideal S1024x4096 .bf16) (w : Vec Ideal S4096x1024 .bf16) (x2 x3 x4 x5 x6 x7) (y : S1024x1024.Idx) :
    out0_8 x w x2 x3 x4 x5 x6 x7 y = block x w y := by
  unfold out0_8
  canon_tiles i h
  all_goals (open_payloads; pointwise [block, logistic]; blk_point [])

theorem idx : ∀ t : Fin cfg0.N, win0_0.index t = ![t.val / 8, 0] ∧ win0_1.index t = ![0, 3 + t.val % 8] ∧ win0_8.index t = ![t.val / 8, t.val % 8]
    ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0]
    ∧ win0_9.index t = ![t.val, 0] ∧ win0_10.index t = ![t.val, 0] ∧ win0_11.index t = ![t.val, 0] ∧ win0_12.index t = ![t.val, 0] ∧ win0_13.index t = ![t.val, 0] ∧ win0_14.index t = ![t.val, 0] :=
  (by decide +kernel : ∀ t : Fin grid0.N, _)

variable (m : (ℓ : Loc nD τ sig) → Buf (Elt Ideal) ℓ)

theorem value8 (c : Dev nD) : (dats m 0 c).arrAt 8 (cfgs 0).N = gateRef (m ((c : Thread nD τ).loc main_arg0)) (m ((c : Thread nD τ).loc main_arg1)) := by
  refine (dats m 0 c).arrAt_eq_of_covers 8 _ (by decide +kernel) fun t hf y => ?_
  idx_vars y
  blk_simp
  rw [after0_8]
  have ht : t.val < 128 := lt_of_lt_of_eq t.isLt N_0
  have e : (win0_8.blk t).view.emb (ix2 y0 y1) = ix2 (⟨t.val / 8 * 1024 + y0.val, by omega⟩ : Fin 16384) (⟨t.val % 8 * 1024 + y1.val, by omega⟩ : Fin 8192) := by
    blk_ext [idx t]
  refine Eq.trans ?_ (congrArg _ e).symm
  refine Eq.trans ?_ (ref_at _ _ _ _).symm
  refine (out_block _ _ _ _ _ _ _ _ _).trans ?_
  unfold block
  blk_point [iblk, V, idx t]

/-- The reference's result 1: one weight, cast. -/
def castRef9 (w : FVec Ideal Cert.GatesReferenceIdeal.S1x4096x4096 .f32) : FVec Ideal Cert.GatesReferenceIdeal.S4096x4096 .bf16 :=
  truncf .bf16 (shapeCast _ w Cert.GatesReferenceIdeal.Gen.shapeCasts_S1x4096x4096_S4096x4096) Cert.GatesReferenceIdeal.Gen.bitsLt_bf16_f32

theorem value9 (c : Dev nD) : (dats m 0 c).arrAt 9 (cfgs 0).N = castRef9 (m ((c : Thread nD τ).loc main_arg2)) := by
  refine (dats m 0 c).arrAt_eq_of_covers 9 _ (by decide +kernel) fun t hf y => ?_
  idx_vars y
  blk_simp
  rw [after0_9]
  have ht : t.val < 128 := lt_of_lt_of_eq t.isLt N_0
  have e : (win0_9.blk t).view.emb (ix2 y0 y1) = ix2 (⟨t.val * 32 + y0.val, by omega⟩ : Fin 4096) y1 := by
    blk_ext [idx t]
  refine Eq.trans ?_ (congrArg _ e).symm
  unfold out0_9
  canon_tiles i h
  all_goals (have h0' : y0.val = (i 0).val := h0; have h1' : y1.val = (i 1).val := h1; open_payloads; pointwise [castRef9]; blk_point [iblk, V, idx t])

/-- The reference's result 2: one weight, cast. -/
def castRef10 (w : FVec Ideal Cert.GatesReferenceIdeal.S1x4096x16384 .f32) : FVec Ideal Cert.GatesReferenceIdeal.S4096x16384 .bf16 :=
  truncf .bf16 (shapeCast _ w Cert.GatesReferenceIdeal.Gen.shapeCasts_S1x4096x16384_S4096x16384) Cert.GatesReferenceIdeal.Gen.bitsLt_bf16_f32

theorem value10 (c : Dev nD) : (dats m 0 c).arrAt 10 (cfgs 0).N = castRef10 (m ((c : Thread nD τ).loc main_arg3)) := by
  refine (dats m 0 c).arrAt_eq_of_covers 10 _ (by decide +kernel) fun t hf y => ?_
  idx_vars y
  blk_simp
  rw [after0_10]
  have ht : t.val < 128 := lt_of_lt_of_eq t.isLt N_0
  have e : (win0_10.blk t).view.emb (ix2 y0 y1) = ix2 (⟨t.val * 32 + y0.val, by omega⟩ : Fin 4096) y1 := by
    blk_ext [idx t]
  refine Eq.trans ?_ (congrArg _ e).symm
  unfold out0_10
  canon_tiles i h
  all_goals (have h0' : y0.val = (i 0).val := h0; have h1' : y1.val = (i 1).val := h1; open_payloads; pointwise [castRef10]; blk_point [iblk, V, idx t])

/-- The reference's result 3: one weight, cast. -/
def castRef11 (w : FVec Ideal Cert.GatesReferenceIdeal.S1x16384x4096 .f32) : FVec Ideal Cert.GatesReferenceIdeal.S16384x4096 .bf16 :=
  truncf .bf16 (shapeCast _ w Cert.GatesReferenceIdeal.Gen.shapeCasts_S1x16384x4096_S16384x4096) Cert.GatesReferenceIdeal.Gen.bitsLt_bf16_f32

theorem value11 (c : Dev nD) : (dats m 0 c).arrAt 11 (cfgs 0).N = castRef11 (m ((c : Thread nD τ).loc main_arg4)) := by
  refine (dats m 0 c).arrAt_eq_of_covers 11 _ (by decide +kernel) fun t hf y => ?_
  idx_vars y
  blk_simp
  rw [after0_11]
  have ht : t.val < 128 := lt_of_lt_of_eq t.isLt N_0
  have e : (win0_11.blk t).view.emb (ix2 y0 y1) = ix2 (⟨t.val * 128 + y0.val, by omega⟩ : Fin 16384) y1 := by
    blk_ext [idx t]
  refine Eq.trans ?_ (congrArg _ e).symm
  unfold out0_11
  canon_tiles i h
  all_goals (have h0' : y0.val = (i 0).val := h0; have h1' : y1.val = (i 1).val := h1; open_payloads; pointwise [castRef11]; blk_point [iblk, V, idx t])

/-- The reference's result 4: one weight, cast. -/
def castRef12 (w : FVec Ideal Cert.GatesReferenceIdeal.S1x4096x4096 .f32) : FVec Ideal Cert.GatesReferenceIdeal.S4096x4096 .bf16 :=
  truncf .bf16 (shapeCast _ w Cert.GatesReferenceIdeal.Gen.shapeCasts_S1x4096x4096_S4096x4096) Cert.GatesReferenceIdeal.Gen.bitsLt_bf16_f32

theorem value12 (c : Dev nD) : (dats m 0 c).arrAt 12 (cfgs 0).N = castRef12 (m ((c : Thread nD τ).loc main_arg5)) := by
  refine (dats m 0 c).arrAt_eq_of_covers 12 _ (by decide +kernel) fun t hf y => ?_
  idx_vars y
  blk_simp
  rw [after0_12]
  have ht : t.val < 128 := lt_of_lt_of_eq t.isLt N_0
  have e : (win0_12.blk t).view.emb (ix2 y0 y1) = ix2 (⟨t.val * 32 + y0.val, by omega⟩ : Fin 4096) y1 := by
    blk_ext [idx t]
  refine Eq.trans ?_ (congrArg _ e).symm
  unfold out0_12
  canon_tiles i h
  all_goals (have h0' : y0.val = (i 0).val := h0; have h1' : y1.val = (i 1).val := h1; open_payloads; pointwise [castRef12]; blk_point [iblk, V, idx t])

/-- The reference's result 5: one weight, cast. -/
def castRef13 (w : FVec Ideal Cert.GatesReferenceIdeal.S1x2048x4096 .f32) : FVec Ideal Cert.GatesReferenceIdeal.S2048x4096 .bf16 :=
  truncf .bf16 (shapeCast _ w Cert.GatesReferenceIdeal.Gen.shapeCasts_S1x2048x4096_S2048x4096) Cert.GatesReferenceIdeal.Gen.bitsLt_bf16_f32

theorem value13 (c : Dev nD) : (dats m 0 c).arrAt 13 (cfgs 0).N = castRef13 (m ((c : Thread nD τ).loc main_arg6)) := by
  refine (dats m 0 c).arrAt_eq_of_covers 13 _ (by decide +kernel) fun t hf y => ?_
  idx_vars y
  blk_simp
  rw [after0_13]
  have ht : t.val < 128 := lt_of_lt_of_eq t.isLt N_0
  have e : (win0_13.blk t).view.emb (ix2 y0 y1) = ix2 (⟨t.val * 16 + y0.val, by omega⟩ : Fin 2048) y1 := by
    blk_ext [idx t]
  refine Eq.trans ?_ (congrArg _ e).symm
  unfold out0_13
  canon_tiles i h
  all_goals (have h0' : y0.val = (i 0).val := h0; have h1' : y1.val = (i 1).val := h1; open_payloads; pointwise [castRef13]; blk_point [iblk, V, idx t])

/-- The reference's result 6: one weight, cast. -/
def castRef14 (w : FVec Ideal Cert.GatesReferenceIdeal.S1x2048x4096 .f32) : FVec Ideal Cert.GatesReferenceIdeal.S2048x4096 .bf16 :=
  truncf .bf16 (shapeCast _ w Cert.GatesReferenceIdeal.Gen.shapeCasts_S1x2048x4096_S2048x4096) Cert.GatesReferenceIdeal.Gen.bitsLt_bf16_f32

theorem value14 (c : Dev nD) : (dats m 0 c).arrAt 14 (cfgs 0).N = castRef14 (m ((c : Thread nD τ).loc main_arg7)) := by
  refine (dats m 0 c).arrAt_eq_of_covers 14 _ (by decide +kernel) fun t hf y => ?_
  idx_vars y
  blk_simp
  rw [after0_14]
  have ht : t.val < 128 := lt_of_lt_of_eq t.isLt N_0
  have e : (win0_14.blk t).view.emb (ix2 y0 y1) = ix2 (⟨t.val * 16 + y0.val, by omega⟩ : Fin 2048) y1 := by
    blk_ext [idx t]
  refine Eq.trans ?_ (congrArg _ e).symm
  unfold out0_14
  canon_tiles i h
  all_goals (have h0' : y0.val = (i 0).val := h0; have h1' : y1.val = (i 1).val := h1; open_payloads; pointwise [castRef14]; blk_point [iblk, V, idx t])

end Cert.GatesKernelIdeal.Value

end
-- ==== Proof.QkvPay.lean ====
/- The tiles of the kernel of queries, keys and values are the same function of their products. -/
module

public import proofs.«01_k».proof.Proof.Gen.QkvKernelIdeal.Value
public import Idealize.ShloMosaic.Lib.Pipeline.ValueKit
public import Idealize.ShloMosaic.Lib.Pointwise

@[expose] public section

set_option maxRecDepth 16384

noncomputable section

namespace Cert.QkvKernelIdeal.Value

open Cert.QkvKernelIdeal Cert.QkvKernelIdeal.Gen Idealize.ShloMosaic Idealize.ShloMosaic.TcCoe Idealize.SL.Sem
open Idealize.ShloMosaic.Pipeline (Dat)

/-- A head turned by its angles. -/
def turn (P C S : FVec Ideal S1024x128 .f32) : FVec Ideal S1024x128 .f32 :=
  addf (mulf P (shapeCast S1024x128 C shapeCasts_S1024x128_S1024x128)) (mulf (dynamicRotate 1 64#32 none P rotates_S1024x128_d1) (shapeCast S1024x128 S shapeCasts_S1024x128_S1024x128))

/-- A head as it is stored: a query turned and scaled, a key turned, a value as it is; `n` is its first column. -/
def headV (n : BitVec 32) (P C S : FVec Ideal S1024x128 .f32) : FVec Ideal S1024x128 .f32 :=
  Scalar.select (Scalar.cmpi .slt n 2560#32) (mulf (turn P C S) (broadcast S1024x128 (Scalar.select (Scalar.cmpi .slt n 2048#32) (Scalar.ofBits (F := Ideal) .f32 0x3DB504F3#32) (Scalar.ofBits (F := Ideal) .f32 0x3F800000#32)))) P

/-- The product of a block of rows with 256 columns. -/
def prodV (x : FVec Ideal S1024x4096 .bf16) (w : FVec Ideal S4096x256 .bf16) : FVec Ideal S1024x256 .f32 :=
  matmul dot_S1024x4096_S4096x256_S1024x256_1_0_0_1_n_n none x w (constant S1024x256 .f32 0x00000000#32)

/-- A tile: two heads side by side. -/
def tileV (n0 n1 : BitVec 32) (Q : FVec Ideal S1024x256 .f32) (C S : FVec Ideal S1024x128 .f32) : FVec Ideal S1024x256 .bf16 :=
  truncf .bf16 (concatenate S1024x256 1 [⟨S1024x128, headV n0 (extractStridedSlice S1024x128 ![0, 0] Q slices_S1024x256_o0_0_S1024x128) C S⟩, ⟨S1024x128, headV n1 (extractStridedSlice S1024x128 ![0, 128] Q slices_S1024x256_o0_128_S1024x128) C S⟩] concatenates_S1024x128_S1024x128_S1024x256_d1) bitsLt_bf16_f32

/-- The first column of a head: of column block `j`, its offset there `o + e`. -/
def col (j o e : BitVec 32) : BitVec 32 := Scalar.addi (Scalar.addi (Scalar.muli j 1024#32) o) e

variable (i : grid0.Coords) (x : Vec Ideal S1024x4096 .bf16) (w : Vec Ideal S4096x256 .bf16) (C S : Vec Ideal S1024x128 .f32)

theorem tile_0 : k0_pay8 (k0_pay5 i x w C S) (Scalar.addi (Scalar.addi (Scalar.muli (BitVec.ofNat 32 (i 1).val) 1024#32) 0#32) 128#32) (k0_pay6 x w) (k0_pay7 i x w C S) 2560#32
    = tileV (col (BitVec.ofNat 32 (i 1).val) 0#32 0#32) (col (BitVec.ofNat 32 (i 1).val) 0#32 128#32) (prodV x w) C S := rfl

theorem tile_1 : k0_pay16 (k0_pay12 (BitVec.ofNat 32 (i 1).val) x w C S) (Scalar.addi (Scalar.addi (Scalar.muli (BitVec.ofNat 32 (i 1).val) 1024#32) 256#32) 128#32) (k0_pay13 x w) (k0_pay14 x w C S) (k0_pay15 (F := Ideal) (BitVec.ofNat 32 (i 1).val))
    = tileV (col (BitVec.ofNat 32 (i 1).val) 256#32 0#32) (col (BitVec.ofNat 32 (i 1).val) 256#32 128#32) (prodV x w) C S := rfl

theorem tile_2 : k0_pay23 (k0_pay20 (BitVec.ofNat 32 (i 1).val) x w C S) (Scalar.addi (Scalar.addi (Scalar.muli (BitVec.ofNat 32 (i 1).val) 1024#32) 512#32) 128#32) (k0_pay21 x w) (k0_pay22 x w C S) (Scalar.cmpi .slt (Scalar.addi (Scalar.addi (Scalar.muli (BitVec.ofNat 32 (i 1).val) 1024#32) 512#32) 128#32) 2048#32)
    = tileV (col (BitVec.ofNat 32 (i 1).val) 512#32 0#32) (col (BitVec.ofNat 32 (i 1).val) 512#32 128#32) (prodV x w) C S := rfl

theorem tile_3 : k0_pay1 (k0_pay27 (BitVec.ofNat 32 (i 1).val) x w C S) (Scalar.addi (Scalar.addi (Scalar.muli (BitVec.ofNat 32 (i 1).val) 1024#32) 768#32) 128#32) (k0_pay28 x w) (k0_pay29 x w C) (k0_pay30 x w S)
    = tileV (col (BitVec.ofNat 32 (i 1).val) 768#32 0#32) (col (BitVec.ofNat 32 (i 1).val) 768#32 128#32) (prodV x w) C S := rfl

theorem prod_at (a : Fin 1024) (b : Fin 256) : prodV x w (ix2 a b) = ∑ d : Fin 4096, x (ix2 a d) * w (ix2 d b) := by
  pointwise [prodV]

theorem turn_lo (P : FVec Ideal S1024x128 .f32) (a : Fin 1024) (d : Fin 128) (h : d.val < 64) :
    turn P C S (ix2 a d) = P (ix2 a d) * C (ix2 a d) + P (ix2 a (⟨d.val + 64, by omega⟩ : Fin 128)) * S (ix2 a d) := by
  pointwise [turn]
  have e : (d.val + 128 - 64) % 128 = d.val + 64 := by omega
  simp only [e]

theorem turn_hi (P : FVec Ideal S1024x128 .f32) (a : Fin 1024) (d : Fin 128) (h : 64 ≤ d.val) :
    turn P C S (ix2 a d) = P (ix2 a d) * C (ix2 a d) + P (ix2 a (⟨d.val - 64, by omega⟩ : Fin 128)) * S (ix2 a d) := by
  pointwise [turn]
  have e : (d.val + 128 - 64) % 128 = d.val - 64 := by omega
  simp only [e]

theorem tile_lo (n0 n1 : BitVec 32) (Q : FVec Ideal S1024x256 .f32) (a : Fin 1024) (d : Fin 256) (h : d.val < 128) :
    tileV n0 n1 Q C S (ix2 a d) = headV n0 (extractStridedSlice S1024x128 ![0, 0] Q slices_S1024x256_o0_0_S1024x128) C S (ix2 a (⟨d.val, h⟩ : Fin 128)) := by
  pointwise [tileV]
  rw [dif_pos h]

theorem tile_hi (n0 n1 : BitVec 32) (Q : FVec Ideal S1024x256 .f32) (a : Fin 1024) (d : Fin 256) (h : ¬ d.val < 128) :
    tileV n0 n1 Q C S (ix2 a d) = headV n1 (extractStridedSlice S1024x128 ![0, 128] Q slices_S1024x256_o0_128_S1024x128) C S (ix2 a (⟨d.val - 128, by omega⟩ : Fin 128)) := by
  pointwise [tileV]
  rw [dif_neg h]

theorem head_q (n : BitVec 32) (P : FVec Ideal S1024x128 .f32) (y : S1024x128.Idx) (h : Scalar.cmpi .slt n 2560#32 = 1#1) (h' : Scalar.cmpi .slt n 2048#32 = 1#1) :
    headV n P C S y = turn P C S y * Scalar.ofBits (F := Ideal) .f32 0x3DB504F3#32 := by
  unfold headV
  rw [h, h']
  rfl

theorem head_k (n : BitVec 32) (P : FVec Ideal S1024x128 .f32) (y : S1024x128.Idx) (h : Scalar.cmpi .slt n 2560#32 = 1#1) (h' : Scalar.cmpi .slt n 2048#32 = 0#1) :
    headV n P C S y = turn P C S y := by
  unfold headV
  rw [h, h']
  pointwise []

theorem head_v (n : BitVec 32) (P : FVec Ideal S1024x128 .f32) (y : S1024x128.Idx) (h : Scalar.cmpi .slt n 2560#32 = 0#1) :
    headV n P C S y = P y := by
  unfold headV
  rw [h]
  rfl

end Cert.QkvKernelIdeal.Value

end
-- ==== Proof.QkvDefs.lean ====
/- The reference of the queries, keys and values as a function of its arguments. -/
module

public import proofs.«01_k».proof.Proof.Gen.QkvReferenceIdeal.Run
public import proofs.«01_k».proof.Proof.Gen.QkvReferenceIdeal
public import Idealize.ShloMosaic.Lib.Pipeline.ValueKit
public import Idealize.ShloMosaic.Lib.Pointwise

@[expose] public section

set_option maxRecDepth 16384

noncomputable section

namespace Cert.QkvReferenceIdeal.Value

open Cert.QkvReferenceIdeal Cert.QkvReferenceIdeal.Gen Idealize.ShloMosaic Idealize.ShloMosaic.TcCoe Idealize.SL.Sem
open Idealize.ShloMosaic.Pipeline (Dat)

variable {F : FTy → Type} [FloatOps F]

/-- The angle by which each pair of a head turns, at every position of a sequence. -/
def angles  : FVec F S8192x64 .f32 :=
  (mulf (broadcastInDim S8192x64 ![0, 1] bcast_S8192x1_S8192x64_0_1 (broadcastInDim S8192x1 ![0] bcast_S8192_S8192x1_0 (sitofp .f32 (iotaInDim S8192 32 0)))) (broadcastInDim S8192x64 ![0, 1] bcast_S1x64_S8192x64_0_1 (broadcastInDim S1x64 ![1] bcast_S64_S1x64_1 (Host.powf (broadcastInDim S64 ![] bcast_S_S64 (constant S_ .f32 0x461C4000#32)) (Host.divf (Host.negf (addf (broadcastInDim S64 ![] bcast_S_S64 (constant S_ .f32 0x00000000#32)) (mulf (broadcastInDim S64 ![] bcast_S_S64 (constant S_ .f32 0x40000000#32)) (sitofp .f32 (iotaInDim S64 32 0))))) (broadcastInDim S64 ![] bcast_S_S64 (constant S_ .f32 0x43000000#32)))))))

/-- The projection of the rows onto the columns of queries, keys and values. -/
def proj (X : FVec F S16384x4096 .bf16) (W : FVec F S4096x11264 .bf16) : FVec F S16384x3072 .f32 :=
  (Host.dotGeneral dot_S16384x4096_S4096x3072_S16384x3072_1_0_0_1_n_n none (extf .f32 X bitsLt_bf16_f32) (extractStridedSlice S4096x3072 ![0, 0] (extf .f32 W bitsLt_bf16_f32) slices_S4096x11264_S4096x3072_0_0))

/-- The queries, head by head. -/
def queries (X : FVec F S16384x4096 .bf16) (W : FVec F S4096x11264 .bf16) : FVec F S2x8192x16x128 .f32 :=
  (shapeCast _ (extractStridedSlice S16384x2048 ![0, 0] (proj X W) slices_S16384x3072_S16384x2048_0_0) shapeCasts_S16384x2048_S2x8192x16x128)

/-- The keys, head by head. -/
def keys (X : FVec F S16384x4096 .bf16) (W : FVec F S4096x11264 .bf16) : FVec F S2x8192x4x128 .f32 :=
  (shapeCast _ (extractStridedSlice S16384x512 ![0, 2048] (proj X W) slices_S16384x3072_S16384x512_0_2048) shapeCasts_S16384x512_S2x8192x4x128)

/-- The queries turned by their angles and scaled. -/
def turnQ (P : FVec F S2x8192x16x128 .f32) : FVec F S2x8192x16x128 .f32 :=
  (mulf (concatenate S2x8192x16x128 3 [⟨S2x8192x16x64, (subf (mulf (extractStridedSlice S2x8192x16x64 ![0, 0, 0, 0] P slices_S2x8192x16x128_S2x8192x16x64_0_0_0_0) (broadcastInDim S2x8192x16x64 ![0, 1, 2, 3] bcast_S1x8192x1x64_S2x8192x16x64_0_1_2_3 (broadcastInDim S1x8192x1x64 ![1, 3] bcast_S8192x64_S1x8192x1x64_1_3 (Host.cos angles)))) (mulf (extractStridedSlice S2x8192x16x64 ![0, 0, 0, 64] P slices_S2x8192x16x128_S2x8192x16x64_0_0_0_64) (broadcastInDim S2x8192x16x64 ![0, 1, 2, 3] bcast_S1x8192x1x64_S2x8192x16x64_0_1_2_3 (broadcastInDim S1x8192x1x64 ![1, 3] bcast_S8192x64_S1x8192x1x64_1_3 (Host.sin angles)))))⟩, ⟨S2x8192x16x64, (addf (mulf (extractStridedSlice S2x8192x16x64 ![0, 0, 0, 64] P slices_S2x8192x16x128_S2x8192x16x64_0_0_0_64) (broadcastInDim S2x8192x16x64 ![0, 1, 2, 3] bcast_S1x8192x1x64_S2x8192x16x64_0_1_2_3 (broadcastInDim S1x8192x1x64 ![1, 3] bcast_S8192x64_S1x8192x1x64_1_3 (Host.cos angles)))) (mulf (extractStridedSlice S2x8192x16x64 ![0, 0, 0, 0] P slices_S2x8192x16x128_S2x8192x16x64_0_0_0_0) (broadcastInDim S2x8192x16x64 ![0, 1, 2, 3] bcast_S1x8192x1x64_S2x8192x16x64_0_1_2_3 (broadcastInDim S1x8192x1x64 ![1, 3] bcast_S8192x64_S1x8192x1x64_1_3 (Host.sin angles)))))⟩] concatenates_S2x8192x16x64_S2x8192x16x64_S2x8192x16x128_d3) (broadcastInDim S2x8192x16x128 ![] bcast_S_S2x8192x16x128 (constant S_ .f32 0x3DB504F3#32)))

/-- The keys turned by their angles. -/
def turnK (K : FVec F S2x8192x4x128 .f32) : FVec F S2x8192x4x128 .f32 :=
  (concatenate S2x8192x4x128 3 [⟨S2x8192x4x64, (subf (mulf (extractStridedSlice S2x8192x4x64 ![0, 0, 0, 0] K slices_S2x8192x4x128_S2x8192x4x64_0_0_0_0) (broadcastInDim S2x8192x4x64 ![0, 1, 2, 3] bcast_S1x8192x1x64_S2x8192x4x64_0_1_2_3 (broadcastInDim S1x8192x1x64 ![1, 3] bcast_S8192x64_S1x8192x1x64_1_3 (Host.cos angles)))) (mulf (extractStridedSlice S2x8192x4x64 ![0, 0, 0, 64] K slices_S2x8192x4x128_S2x8192x4x64_0_0_0_64) (broadcastInDim S2x8192x4x64 ![0, 1, 2, 3] bcast_S1x8192x1x64_S2x8192x4x64_0_1_2_3 (broadcastInDim S1x8192x1x64 ![1, 3] bcast_S8192x64_S1x8192x1x64_1_3 (Host.sin angles)))))⟩, ⟨S2x8192x4x64, (addf (mulf (extractStridedSlice S2x8192x4x64 ![0, 0, 0, 64] K slices_S2x8192x4x128_S2x8192x4x64_0_0_0_64) (broadcastInDim S2x8192x4x64 ![0, 1, 2, 3] bcast_S1x8192x1x64_S2x8192x4x64_0_1_2_3 (broadcastInDim S1x8192x1x64 ![1, 3] bcast_S8192x64_S1x8192x1x64_1_3 (Host.cos angles)))) (mulf (extractStridedSlice S2x8192x4x64 ![0, 0, 0, 0] K slices_S2x8192x4x128_S2x8192x4x64_0_0_0_0) (broadcastInDim S2x8192x4x64 ![0, 1, 2, 3] bcast_S1x8192x1x64_S2x8192x4x64_0_1_2_3 (broadcastInDim S1x8192x1x64 ![1, 3] bcast_S8192x64_S1x8192x1x64_1_3 (Host.sin angles)))))⟩] concatenates_S2x8192x4x64_S2x8192x4x64_S2x8192x4x128_d3)

/-- The reference's result as a function of its two arguments. -/
def qkvRef (X : FVec F S16384x4096 .bf16) (W : FVec F S4096x11264 .bf16) : FVec F S16384x3072 .bf16 :=
  truncf .bf16 ((concatenate S16384x3072 1 [⟨S16384x2048, ((shapeCast _ (turnQ (queries X W)) shapeCasts_S2x8192x16x128_S16384x2048) : (⟨S16384x2048, .f32⟩ : BufTy).Contents (Elt F))⟩, ⟨S16384x512, ((shapeCast _ (turnK (keys X W)) shapeCasts_S2x8192x4x128_S16384x512) : (⟨S16384x512, .f32⟩ : BufTy).Contents (Elt F))⟩, ⟨S16384x512, ((extractStridedSlice S16384x512 ![0, 2560] (proj X W) slices_S16384x3072_S16384x512_0_2560) : (⟨S16384x512, .f32⟩ : BufTy).Contents (Elt F))⟩] concatenates_S16384x2048_S16384x512_S16384x512_S16384x3072_d1 : (⟨S16384x3072, .f32⟩ : BufTy).Contents (Elt F))) bitsLt_bf16_f32

/-- The named result of the reference's run is that function of its arguments. -/
theorem res_eq (m : (ℓ : Loc nD τ sig) → Buf (Elt F) ℓ) (c : Dev nD) :
    res_main_v79 m c = qkvRef (m ((c.tc : Thread nD τ).loc main_arg0)) (m ((c.tc : Thread nD τ).loc main_arg1)) := rfl

end Cert.QkvReferenceIdeal.Value

end
-- ==== Proof.QkvRef.lean ====
/- The reference of the queries, keys and values, entry by entry. -/
module

public import proofs.«01_k».proof.Proof.QkvDefs
public import Idealize.ShloMosaic.Lib.Pipeline.ValueKit
public import Idealize.ShloMosaic.Lib.Pointwise

@[expose] public section

set_option maxRecDepth 16384

noncomputable section

namespace Cert.QkvReferenceIdeal.Value

open Cert.QkvReferenceIdeal Cert.QkvReferenceIdeal.Gen Idealize.ShloMosaic Idealize.ShloMosaic.TcCoe Idealize.SL.Sem
open Idealize.ShloMosaic.Pipeline (Dat)

theorem proj_at (X : FVec Ideal S16384x4096 .bf16) (W : FVec Ideal S4096x11264 .bf16) (a : Fin 16384) (b : Fin 3072) :
    proj (F := Ideal) X W (ix2 a b) = ∑ d : Fin 4096, X (ix2 a d) * W (ix2 d (⟨b.val, by omega⟩ : Fin 11264)) := by
  pointwise [proj]

theorem queries_at (X : FVec Ideal S16384x4096 .bf16) (W : FVec Ideal S4096x11264 .bf16) (b : Fin 2) (s : Fin 8192) (h : Fin 16) (d : Fin 128) :
    queries (F := Ideal) X W (ix4 b s h d) = proj (F := Ideal) X W (ix2 (⟨b.val * 8192 + s.val, by omega⟩ : Fin 16384) (⟨h.val * 128 + d.val, by omega⟩ : Fin 3072)) := by
  pointwise [queries]

theorem keys_at (X : FVec Ideal S16384x4096 .bf16) (W : FVec Ideal S4096x11264 .bf16) (b : Fin 2) (s : Fin 8192) (h : Fin 4) (d : Fin 128) :
    keys (F := Ideal) X W (ix4 b s h d) = proj (F := Ideal) X W (ix2 (⟨b.val * 8192 + s.val, by omega⟩ : Fin 16384) (⟨2048 + (h.val * 128 + d.val), by omega⟩ : Fin 3072)) := by
  pointwise [keys]

/-- A head's row turned by the angles of its position. -/
def turned (T : Fin 128 → EReal) (s : Fin 8192) (d : Fin 128) : EReal :=
  if h : d.val < 64 then
    T d * Ideal.cos (angles (F := Ideal) (ix2 s (⟨d.val, h⟩ : Fin 64))) - T ⟨d.val + 64, by omega⟩ * Ideal.sin (angles (F := Ideal) (ix2 s (⟨d.val, h⟩ : Fin 64)))
  else
    T d * Ideal.cos (angles (F := Ideal) (ix2 s (⟨d.val - 64, by omega⟩ : Fin 64))) + T ⟨d.val - 64, by omega⟩ * Ideal.sin (angles (F := Ideal) (ix2 s (⟨d.val - 64, by omega⟩ : Fin 64)))

theorem turnQ_at (P : FVec Ideal S2x8192x16x128 .f32) (b : Fin 2) (s : Fin 8192) (h : Fin 16) (d : Fin 128) :
    turnQ (F := Ideal) P (ix4 b s h d) = turned (fun d => P (ix4 b s h d)) s d * Ideal.ofBits .f32 0x3DB504F3#32 := by
  unfold turned
  pointwise [turnQ]
  refine congrArg (· * _) ?_
  by_cases hd : d.val < 64
  · rw [dif_pos hd, dif_pos hd]
    simp only [Nat.add_comm 64]
  · rw [dif_neg hd, dif_neg hd]
    have e : 64 + (d.val - 64) = d.val := by omega
    simp only [e]

theorem turnK_at (K : FVec Ideal S2x8192x4x128 .f32) (b : Fin 2) (s : Fin 8192) (h : Fin 4) (d : Fin 128) :
    turnK (F := Ideal) K (ix4 b s h d) = turned (fun d => K (ix4 b s h d)) s d := by
  unfold turned
  pointwise [turnK]
  by_cases hd : d.val < 64
  · rw [dif_pos hd, dif_pos hd]
    simp only [Nat.add_comm 64]
  · rw [dif_neg hd, dif_neg hd]
    have e : 64 + (d.val - 64) = d.val := by omega
    simp only [e]

/-- The head of the projection to which a column belongs. -/
def headRow (X : FVec Ideal S16384x4096 .bf16) (W : FVec Ideal S4096x11264 .bf16) (a : Fin 16384) (b : Fin 3072) : Fin 128 → EReal :=
  fun d => proj (F := Ideal) X W (ix2 a (⟨b.val / 128 * 128 + d.val, by omega⟩ : Fin 3072))

theorem ref_q (X : FVec Ideal S16384x4096 .bf16) (W : FVec Ideal S4096x11264 .bf16) (a : Fin 16384) (b : Fin 3072) (h : b.val < 2048) :
    qkvRef (F := Ideal) X W (ix2 a b) = turned (headRow X W a b) (⟨a.val % 8192, by omega⟩ : Fin 8192) (⟨b.val % 128, by omega⟩ : Fin 128) * Ideal.ofBits .f32 0x3DB504F3#32 := by
  pointwise [qkvRef]
  rw [dif_pos h]
  refine (turnQ_at _ _ _ _ _).trans ?_
  refine congrArg (fun T => turned T _ _ * _) (funext fun d => ?_)
  refine (queries_at _ _ _ _ _ _).trans ?_
  unfold headRow
  have e : a.val / 8192 * 8192 + a.val % 8192 = a.val := by omega
  simp only [e]

theorem ref_k (X : FVec Ideal S16384x4096 .bf16) (W : FVec Ideal S4096x11264 .bf16) (a : Fin 16384) (b : Fin 3072) (h : ¬ b.val < 2048) (h' : b.val < 2560) :
    qkvRef (F := Ideal) X W (ix2 a b) = turned (headRow X W a b) (⟨a.val % 8192, by omega⟩ : Fin 8192) (⟨b.val % 128, by omega⟩ : Fin 128) := by
  pointwise [qkvRef]
  rw [dif_neg h, dif_pos (by omega)]
  refine (turnK_at _ _ _ _ _).trans ?_
  have e' : (⟨(b.val - 2048) % 128, by omega⟩ : Fin 128) = ⟨b.val % 128, by omega⟩ := Fin.ext (by show (b.val - 2048) % 128 = b.val % 128; omega)
  refine (congrArg (turned _ _) e').trans ?_
  refine congrArg (fun T => turned T _ _) (funext fun d => ?_)
  refine (keys_at _ _ _ _ _ _).trans ?_
  unfold headRow
  have e : a.val / 8192 * 8192 + a.val % 8192 = a.val := by omega
  have e2 : 2048 + ((b.val - 2048) / 128 * 128 + d.val) = b.val / 128 * 128 + d.val := by omega
  simp only [e, e2]

theorem ref_v (X : FVec Ideal S16384x4096 .bf16) (W : FVec Ideal S4096x11264 .bf16) (a : Fin 16384) (b : Fin 3072) (h : ¬ b.val < 2560) :
    qkvRef (F := Ideal) X W (ix2 a b) = headRow X W a b (⟨b.val % 128, by omega⟩ : Fin 128) := by
  pointwise [qkvRef]
  rw [dif_neg (by omega), dif_neg (by omega)]
  unfold headRow
  have e : 2560 + (b.val - 2048 - 512) = b.val / 128 * 128 + b.val % 128 := by omega
  simp only [e]

end Cert.QkvReferenceIdeal.Value

end
-- ==== Proof.QkvValue.lean ====
/- The value of the call of the queries, keys and values. -/
module

public import proofs.«01_k».proof.Proof.QkvPay
public import proofs.«01_k».proof.Proof.QkvRef
public import Idealize.ShloMosaic.Lib.Pipeline.ValueKit
public import Idealize.ShloMosaic.Lib.Pointwise

@[expose] public section

set_option maxRecDepth 16384

noncomputable section

namespace Cert.QkvKernelIdeal.Value

open Cert.QkvKernelIdeal Cert.QkvKernelIdeal.Gen Idealize.ShloMosaic Idealize.ShloMosaic.TcCoe Idealize.SL.Sem
open Idealize.ShloMosaic.Pipeline (Dat)

/-- The head of a block's products to which the column `b` of the block belongs. -/
def headP (x : FVec Ideal S1024x4096 .bf16) (w : FVec Ideal S4096x1024 .bf16) (b : Fin 1024) : FVec Ideal S1024x128 .f32 :=
  fun z => ∑ d : Fin 4096, x (ix2 (z 0) d) * w (ix2 d (⟨b.val / 128 * 128 + (z 1).val, by have h : (z 1).val < 128 := (z 1).isLt; omega⟩ : Fin 1024))

theorem headP_at (x : FVec Ideal S1024x4096 .bf16) (w : FVec Ideal S4096x1024 .bf16) (b : Fin 1024) (z0 : Fin 1024) (z1 : Fin 128) :
    headP x w b (ix2 z0 z1) = ∑ d : Fin 4096, x (ix2 z0 d) * w (ix2 d (⟨b.val / 128 * 128 + z1.val, by omega⟩ : Fin 1024)) := rfl

theorem ld_at {s : Shape} {e : EltTy} (v : Vec Ideal s e) (r : Rect s) (z : r.shape.Idx) : View.ld v r z = v (r.idx z) := rfl

theorem ld_x (x : Vec Ideal S1024x4096 .bf16) (a : Fin 1024) (k : Fin 4096) : View.ld x r0_0 (ix2 a k) = x (ix2 a k) := by
  refine congrArg x ?_
  unfold r0_0
  blk_ext []
  · exact (by omega : 0 + 1 * a.val = a.val)
  · exact (by omega : 0 + 1 * k.val = k.val)

theorem ld_t (C : Vec Ideal S1024x128 .f32) : View.ld C r0_2 = C := by
  funext z
  refine congrArg C ?_
  idx_vars z
  unfold r0_2
  blk_ext []
  · exact (by omega : 0 + 1 * z0.val = z0.val)
  · exact (by omega : 0 + 1 * z1.val = z1.val)

theorem ld_w0 (w : Vec Ideal S4096x1024 .bf16) (k : Fin 4096) (b : Fin 256) : View.ld w r0_1 (ix2 k b) = w (ix2 k (⟨0 + b.val, by omega⟩ : Fin 1024)) := by
  refine congrArg w ?_
  unfold r0_1
  blk_ext []
  · exact (by omega : 0 + 1 * k.val = k.val)
  · exact (by omega : 0 + 1 * b.val = b.val)

theorem ld_w1 (w : Vec Ideal S4096x1024 .bf16) (k : Fin 4096) (b : Fin 256) : View.ld w r0_4 (ix2 k b) = w (ix2 k (⟨256 + b.val, by omega⟩ : Fin 1024)) := by
  refine congrArg w ?_
  unfold r0_4
  blk_ext []
  · exact (by omega : 0 + 1 * k.val = k.val)
  · exact (by omega : 256 + 1 * b.val = 256 + b.val)

theorem ld_w2 (w : Vec Ideal S4096x1024 .bf16) (k : Fin 4096) (b : Fin 256) : View.ld w r0_6 (ix2 k b) = w (ix2 k (⟨512 + b.val, by omega⟩ : Fin 1024)) := by
  refine congrArg w ?_
  unfold r0_6
  blk_ext []
  · exact (by omega : 0 + 1 * k.val = k.val)
  · exact (by omega : 512 + 1 * b.val = 512 + b.val)

theorem ld_w3 (w : Vec Ideal S4096x1024 .bf16) (k : Fin 4096) (b : Fin 256) : View.ld w r0_8 (ix2 k b) = w (ix2 k (⟨768 + b.val, by omega⟩ : Fin 1024)) := by
  refine congrArg w ?_
  unfold r0_8
  blk_ext []
  · exact (by omega : 0 + 1 * k.val = k.val)
  · exact (by omega : 768 + 1 * b.val = 768 + b.val)

/-- The first column of a head, of the heads numbered in order. -/
def first (q : ℕ) : BitVec 32 := BitVec.ofNat 32 (q * 128)

theorem col_00 : ∀ j : Fin 3, col (BitVec.ofNat 32 j.val) 0#32 0#32 = first (j.val * 8 + 0) := by decide

theorem col_01 : ∀ j : Fin 3, col (BitVec.ofNat 32 j.val) 0#32 128#32 = first (j.val * 8 + 1) := by decide

theorem col_10 : ∀ j : Fin 3, col (BitVec.ofNat 32 j.val) 256#32 0#32 = first (j.val * 8 + 2) := by decide

theorem col_11 : ∀ j : Fin 3, col (BitVec.ofNat 32 j.val) 256#32 128#32 = first (j.val * 8 + 3) := by decide

theorem col_20 : ∀ j : Fin 3, col (BitVec.ofNat 32 j.val) 512#32 0#32 = first (j.val * 8 + 4) := by decide

theorem col_21 : ∀ j : Fin 3, col (BitVec.ofNat 32 j.val) 512#32 128#32 = first (j.val * 8 + 5) := by decide

theorem col_30 : ∀ j : Fin 3, col (BitVec.ofNat 32 j.val) 768#32 0#32 = first (j.val * 8 + 6) := by decide

theorem col_31 : ∀ j : Fin 3, col (BitVec.ofNat 32 j.val) 768#32 128#32 = first (j.val * 8 + 7) := by decide

theorem cmp_q : ∀ q : Fin 24, (q.val < 16 → Scalar.cmpi .slt (first q.val) 2560#32 = 1#1 ∧ Scalar.cmpi .slt (first q.val) 2048#32 = 1#1) ∧ (¬ q.val < 16 → q.val < 20 → Scalar.cmpi .slt (first q.val) 2560#32 = 1#1 ∧ Scalar.cmpi .slt (first q.val) 2048#32 = 0#1) ∧ (¬ q.val < 20 → Scalar.cmpi .slt (first q.val) 2560#32 = 0#1) := by decide

theorem part_0 (x : Vec Ideal S1024x4096 .bf16) (w : Vec Ideal S4096x1024 .bf16) (C S : Vec Ideal S1024x128 .f32) (j : Fin 3) (a : Fin 1024) (d : Fin 256) (b : Fin 1024) (hb : b.val = 0 + d.val) :
    tileV (col (BitVec.ofNat 32 j.val) 0#32 0#32) (col (BitVec.ofNat 32 j.val) 0#32 128#32) (prodV (View.ld x r0_0) (View.ld w r0_1)) (View.ld C r0_2) (View.ld S r0_2) (ix2 a d)
      = headV (first (j.val * 8 + b.val / 128)) (headP x w b) C S (ix2 a (⟨b.val % 128, by omega⟩ : Fin 128)) := by
  rw [ld_t, ld_t]
  by_cases hd : d.val < 128
  · rw [tile_lo _ _ _ _ _ _ _ hd, col_00]
    have eq : b.val / 128 = 0 := by omega
    have er : (⟨b.val % 128, by omega⟩ : Fin 128) = ⟨d.val, hd⟩ := Fin.ext (by show b.val % 128 = d.val; omega)
    rw [eq, er]
    refine congrArg (fun P => headV _ P C S _) (funext fun z => ?_)
    idx_vars z
    pointwise []
    refine (prod_at _ _ _ _).trans ?_
    refine Eq.trans ?_ (headP_at _ _ _ _ _).symm
    refine Fin.sum_fin_congr fun k => ?_
    have e2 : b.val / 128 * 128 + z1.val = 0 + z1.val := by omega
    rw [ld_x, ld_w0]
    simp only [e2]
  · rw [tile_hi _ _ _ _ _ _ _ hd, col_01]
    have eq : b.val / 128 = 1 := by omega
    have er : (⟨b.val % 128, by omega⟩ : Fin 128) = ⟨d.val - 128, by omega⟩ := Fin.ext (by show b.val % 128 = d.val - 128; omega)
    rw [eq, er]
    refine congrArg (fun P => headV _ P C S _) (funext fun z => ?_)
    idx_vars z
    pointwise []
    refine (prod_at _ _ _ _).trans ?_
    refine Eq.trans ?_ (headP_at _ _ _ _ _).symm
    refine Fin.sum_fin_congr fun k => ?_
    have e2 : b.val / 128 * 128 + z1.val = 0 + (128 + z1.val) := by omega
    rw [ld_x, ld_w0]
    simp only [e2]

theorem part_1 (x : Vec Ideal S1024x4096 .bf16) (w : Vec Ideal S4096x1024 .bf16) (C S : Vec Ideal S1024x128 .f32) (j : Fin 3) (a : Fin 1024) (d : Fin 256) (b : Fin 1024) (hb : b.val = 256 + d.val) :
    tileV (col (BitVec.ofNat 32 j.val) 256#32 0#32) (col (BitVec.ofNat 32 j.val) 256#32 128#32) (prodV (View.ld x r0_0) (View.ld w r0_4)) (View.ld C r0_2) (View.ld S r0_2) (ix2 a d)
      = headV (first (j.val * 8 + b.val / 128)) (headP x w b) C S (ix2 a (⟨b.val % 128, by omega⟩ : Fin 128)) := by
  rw [ld_t, ld_t]
  by_cases hd : d.val < 128
  · rw [tile_lo _ _ _ _ _ _ _ hd, col_10]
    have eq : b.val / 128 = 2 := by omega
    have er : (⟨b.val % 128, by omega⟩ : Fin 128) = ⟨d.val, hd⟩ := Fin.ext (by show b.val % 128 = d.val; omega)
    rw [eq, er]
    refine congrArg (fun P => headV _ P C S _) (funext fun z => ?_)
    idx_vars z
    pointwise []
    refine (prod_at _ _ _ _).trans ?_
    refine Eq.trans ?_ (headP_at _ _ _ _ _).symm
    refine Fin.sum_fin_congr fun k => ?_
    have e2 : b.val / 128 * 128 + z1.val = 256 + z1.val := by omega
    rw [ld_x, ld_w1]
    simp only [e2]
  · rw [tile_hi _ _ _ _ _ _ _ hd, col_11]
    have eq : b.val / 128 = 3 := by omega
    have er : (⟨b.val % 128, by omega⟩ : Fin 128) = ⟨d.val - 128, by omega⟩ := Fin.ext (by show b.val % 128 = d.val - 128; omega)
    rw [eq, er]
    refine congrArg (fun P => headV _ P C S _) (funext fun z => ?_)
    idx_vars z
    pointwise []
    refine (prod_at _ _ _ _).trans ?_
    refine Eq.trans ?_ (headP_at _ _ _ _ _).symm
    refine Fin.sum_fin_congr fun k => ?_
    have e2 : b.val / 128 * 128 + z1.val = 256 + (128 + z1.val) := by omega
    rw [ld_x, ld_w1]
    simp only [e2]

theorem part_2 (x : Vec Ideal S1024x4096 .bf16) (w : Vec Ideal S4096x1024 .bf16) (C S : Vec Ideal S1024x128 .f32) (j : Fin 3) (a : Fin 1024) (d : Fin 256) (b : Fin 1024) (hb : b.val = 512 + d.val) :
    tileV (col (BitVec.ofNat 32 j.val) 512#32 0#32) (col (BitVec.ofNat 32 j.val) 512#32 128#32) (prodV (View.ld x r0_0) (View.ld w r0_6)) (View.ld C r0_2) (View.ld S r0_2) (ix2 a d)
      = headV (first (j.val * 8 + b.val / 128)) (headP x w b) C S (ix2 a (⟨b.val % 128, by omega⟩ : Fin 128)) := by
  rw [ld_t, ld_t]
  by_cases hd : d.val < 128
  · rw [tile_lo _ _ _ _ _ _ _ hd, col_20]
    have eq : b.val / 128 = 4 := by omega
    have er : (⟨b.val % 128, by omega⟩ : Fin 128) = ⟨d.val, hd⟩ := Fin.ext (by show b.val % 128 = d.val; omega)
    rw [eq, er]
    refine congrArg (fun P => headV _ P C S _) (funext fun z => ?_)
    idx_vars z
    pointwise []
    refine (prod_at _ _ _ _).trans ?_
    refine Eq.trans ?_ (headP_at _ _ _ _ _).symm
    refine Fin.sum_fin_congr fun k => ?_
    have e2 : b.val / 128 * 128 + z1.val = 512 + z1.val := by omega
    rw [ld_x, ld_w2]
    simp only [e2]
  · rw [tile_hi _ _ _ _ _ _ _ hd, col_21]
    have eq : b.val / 128 = 5 := by omega
    have er : (⟨b.val % 128, by omega⟩ : Fin 128) = ⟨d.val - 128, by omega⟩ := Fin.ext (by show b.val % 128 = d.val - 128; omega)
    rw [eq, er]
    refine congrArg (fun P => headV _ P C S _) (funext fun z => ?_)
    idx_vars z
    pointwise []
    refine (prod_at _ _ _ _).trans ?_
    refine Eq.trans ?_ (headP_at _ _ _ _ _).symm
    refine Fin.sum_fin_congr fun k => ?_
    have e2 : b.val / 128 * 128 + z1.val = 512 + (128 + z1.val) := by omega
    rw [ld_x, ld_w2]
    simp only [e2]

theorem part_3 (x : Vec Ideal S1024x4096 .bf16) (w : Vec Ideal S4096x1024 .bf16) (C S : Vec Ideal S1024x128 .f32) (j : Fin 3) (a : Fin 1024) (d : Fin 256) (b : Fin 1024) (hb : b.val = 768 + d.val) :
    tileV (col (BitVec.ofNat 32 j.val) 768#32 0#32) (col (BitVec.ofNat 32 j.val) 768#32 128#32) (prodV (View.ld x r0_0) (View.ld w r0_8)) (View.ld C r0_2) (View.ld S r0_2) (ix2 a d)
      = headV (first (j.val * 8 + b.val / 128)) (headP x w b) C S (ix2 a (⟨b.val % 128, by omega⟩ : Fin 128)) := by
  rw [ld_t, ld_t]
  by_cases hd : d.val < 128
  · rw [tile_lo _ _ _ _ _ _ _ hd, col_30]
    have eq : b.val / 128 = 6 := by omega
    have er : (⟨b.val % 128, by omega⟩ : Fin 128) = ⟨d.val, hd⟩ := Fin.ext (by show b.val % 128 = d.val; omega)
    rw [eq, er]
    refine congrArg (fun P => headV _ P C S _) (funext fun z => ?_)
    idx_vars z
    pointwise []
    refine (prod_at _ _ _ _).trans ?_
    refine Eq.trans ?_ (headP_at _ _ _ _ _).symm
    refine Fin.sum_fin_congr fun k => ?_
    have e2 : b.val / 128 * 128 + z1.val = 768 + z1.val := by omega
    rw [ld_x, ld_w3]
    simp only [e2]
  · rw [tile_hi _ _ _ _ _ _ _ hd, col_31]
    have eq : b.val / 128 = 7 := by omega
    have er : (⟨b.val % 128, by omega⟩ : Fin 128) = ⟨d.val - 128, by omega⟩ := Fin.ext (by show b.val % 128 = d.val - 128; omega)
    rw [eq, er]
    refine congrArg (fun P => headV _ P C S _) (funext fun z => ?_)
    idx_vars z
    pointwise []
    refine (prod_at _ _ _ _).trans ?_
    refine Eq.trans ?_ (headP_at _ _ _ _ _).symm
    refine Fin.sum_fin_congr fun k => ?_
    have e2 : b.val / 128 * 128 + z1.val = 768 + (128 + z1.val) := by omega
    rw [ld_x, ld_w3]
    simp only [e2]

theorem out_at (i : grid0.Coords) (x : Vec Ideal S1024x4096 .bf16) (w : Vec Ideal S4096x1024 .bf16) (C S : Vec Ideal S1024x128 .f32) (y : S1024x1024.Idx) :
    out0_4 (F := Ideal) i x w C S y = headV (first ((i 1).val * 8 + (y 1).val / 128)) (headP x w (y 1)) C S (ix2 (y 0) (⟨(y 1).val % 128, Nat.mod_lt _ (by norm_num)⟩ : Fin 128)) := by
  unfold out0_4
  rw [tile_0, tile_1, tile_2, tile_3]
  canon_tiles z h
  · idx_vars z
    have e0 : y 0 = z0 := Fin.ext h0
    rw [e0]
    exact part_3 _ _ _ _ (i 1) _ _ _ h1
  · idx_vars z
    have e0 : y 0 = z0 := Fin.ext h0
    rw [e0]
    exact part_2 _ _ _ _ (i 1) _ _ _ h1
  · idx_vars z
    have e0 : y 0 = z0 := Fin.ext h0
    rw [e0]
    exact part_1 _ _ _ _ (i 1) _ _ _ h1
  · idx_vars z
    have e0 : y 0 = z0 := Fin.ext h0
    rw [e0]
    exact part_0 _ _ _ _ (i 1) _ _ _ (h1.trans (Nat.zero_add _).symm)

/-- The table of cosines: both halves of a head turn by the same angles. -/
def tabC : FVec Ideal S8192x128 .f32 :=
  concatenate S8192x128 1 [⟨S8192x64, (Host.cos (Cert.QkvReferenceIdeal.Value.angles (F := Ideal)) : FVec Ideal S8192x64 .f32)⟩, ⟨S8192x64, (Host.cos (Cert.QkvReferenceIdeal.Value.angles (F := Ideal)) : FVec Ideal S8192x64 .f32)⟩] concatenates_S8192x64_S8192x64_S8192x128_d1

/-- The table of sines, of the first half of a head negated. -/
def tabS : FVec Ideal S8192x128 .f32 :=
  concatenate S8192x128 1 [⟨S8192x64, Host.negf (Host.sin (Cert.QkvReferenceIdeal.Value.angles (F := Ideal)) : FVec Ideal S8192x64 .f32)⟩, ⟨S8192x64, (Host.sin (Cert.QkvReferenceIdeal.Value.angles (F := Ideal)) : FVec Ideal S8192x64 .f32)⟩] concatenates_S8192x64_S8192x64_S8192x128_d1

theorem turn_eq (P C S : FVec Ideal S1024x128 .f32) (T : Fin 128 → EReal) (s : Fin 8192) (a : Fin 1024)
    (hP : ∀ d : Fin 128, P (ix2 a d) = T d) (hC : ∀ d : Fin 128, C (ix2 a d) = tabC (ix2 s d)) (hS : ∀ d : Fin 128, S (ix2 a d) = tabS (ix2 s d)) (d : Fin 128) :
    turn P C S (ix2 a d) = Cert.QkvReferenceIdeal.Value.turned T s d := by
  unfold Cert.QkvReferenceIdeal.Value.turned
  by_cases h : d.val < 64
  · rw [dif_pos h, turn_lo C S P a d h, hP, hP, hC, hS]
    have eC : tabC (ix2 s d) = Ideal.cos (Cert.QkvReferenceIdeal.Value.angles (F := Ideal) (ix2 s (⟨d.val, h⟩ : Fin 64))) := by
      pointwise [tabC]
      rw [dif_pos h]
    have eS : tabS (ix2 s d) = - Ideal.sin (Cert.QkvReferenceIdeal.Value.angles (F := Ideal) (ix2 s (⟨d.val, h⟩ : Fin 64))) := by
      pointwise [tabS]
      rw [dif_pos h]
    rw [eC, eS, mul_neg, ← sub_eq_add_neg]
  · rw [dif_neg h, turn_hi C S P a d (by omega), hP, hP, hC, hS]
    have eC : tabC (ix2 s d) = Ideal.cos (Cert.QkvReferenceIdeal.Value.angles (F := Ideal) (ix2 s (⟨d.val - 64, by omega⟩ : Fin 64))) := by
      pointwise [tabC]
      rw [dif_neg h]
    have eS : tabS (ix2 s d) = Ideal.sin (Cert.QkvReferenceIdeal.Value.angles (F := Ideal) (ix2 s (⟨d.val - 64, by omega⟩ : Fin 64))) := by
      pointwise [tabS]
      rw [dif_neg h]
    rw [eC, eS]

theorem idx : ∀ t : Fin cfg0.N, win0_0.index t = ![t.val / 3, 0] ∧ win0_1.index t = ![0, t.val % 3] ∧ win0_2.index t = ![t.val / 3 % 8, 0] ∧ win0_3.index t = ![t.val / 3 % 8, 0] ∧ win0_4.index t = ![t.val / 3, t.val % 3] ∧ ((grid0.coords t) 1).val = t.val % 3 :=
  (by decide +kernel : ∀ t : Fin grid0.N, _)

variable (m : (ℓ : Loc nD τ sig) → Buf (Elt Ideal) ℓ)

theorem blk_C (c : Dev nD) (t : Fin cfg0.N) (ht : t.val < 48) (a : Fin 1024) (d : Fin 128) :
    iblk m c 2 t (ix2 a d) = tabC (ix2 (⟨t.val / 3 % 8 * 1024 + a.val, by omega⟩ : Fin 8192) d) := by
  have hV : V m c (Pipeline.arrRef spec0 2) = tabC := by
    unfold V
    rfl
  have hr : ∀ v : FVec Ideal S8192x128 .f32, View.read (Elt Ideal) ((cfg0.win 2).blk t).view v (ix2 a d) = v (ix2 (⟨t.val / 3 % 8 * 1024 + a.val, by omega⟩ : Fin 8192) d) := by
    intro v
    refine congrArg v ?_
    blk_ext [idx t]
  exact (hr (V m c (Pipeline.arrRef spec0 2))).trans (congrFun hV _)

theorem blk_S (c : Dev nD) (t : Fin cfg0.N) (ht : t.val < 48) (a : Fin 1024) (d : Fin 128) :
    iblk m c 3 t (ix2 a d) = tabS (ix2 (⟨t.val / 3 % 8 * 1024 + a.val, by omega⟩ : Fin 8192) d) := by
  have hV : V m c (Pipeline.arrRef spec0 3) = tabS := by
    unfold V
    rfl
  have hr : ∀ v : FVec Ideal S8192x128 .f32, View.read (Elt Ideal) ((cfg0.win 3).blk t).view v (ix2 a d) = v (ix2 (⟨t.val / 3 % 8 * 1024 + a.val, by omega⟩ : Fin 8192) d) := by
    intro v
    refine congrArg v ?_
    blk_ext [idx t]
  exact (hr (V m c (Pipeline.arrRef spec0 3))).trans (congrFun hV _)

theorem blk_x (c : Dev nD) (t : Fin cfg0.N) (ht : t.val < 48) (a : Fin 1024) (d : Fin 4096) :
    iblk m c 0 t (ix2 a d) = m ((c : Thread nD τ).loc main_arg0) (ix2 (⟨t.val / 3 * 1024 + a.val, by omega⟩ : Fin 16384) d) := by
  blk_point [iblk, V, idx t]

theorem blk_w (c : Dev nD) (t : Fin cfg0.N) (ht : t.val < 48) (d : Fin 4096) (b : Fin 1024) :
    iblk m c 1 t (ix2 d b) = m ((c : Thread nD τ).loc main_arg1) (ix2 d (⟨t.val % 3 * 1024 + b.val, by omega⟩ : Fin 11264)) := by
  blk_point [iblk, V, idx t]

theorem blk_head (c : Dev nD) (t : Fin cfg0.N) (ht : t.val < 48) (y0 : Fin 1024) (y1 : Fin 1024) (d : Fin 128) :
    headP (iblk m c 0 t) (iblk m c 1 t) y1 (ix2 y0 d)
      = Cert.QkvReferenceIdeal.Value.headRow (m ((c : Thread nD τ).loc main_arg0)) (m ((c : Thread nD τ).loc main_arg1)) (⟨t.val / 3 * 1024 + y0.val, by omega⟩ : Fin 16384) (⟨t.val % 3 * 1024 + y1.val, by omega⟩ : Fin 3072) d := by
  refine (headP_at _ _ _ _ _).trans ?_
  unfold Cert.QkvReferenceIdeal.Value.headRow
  refine Eq.trans ?_ (Cert.QkvReferenceIdeal.Value.proj_at _ _ _ _).symm
  refine Fin.sum_fin_congr fun k => ?_
  refine (congrArg₂ (fun u v : EReal => u * v) (blk_x m c t ht _ _) (blk_w m c t ht _ _)).trans ?_
  have e : t.val % 3 * 1024 + (y1.val / 128 * 128 + d.val) = (t.val % 3 * 1024 + y1.val) / 128 * 128 + d.val := by omega
  simp only [e]

theorem value (c : Dev nD) : (dats m 0 c).arrAt 4 (cfgs 0).N = Cert.QkvReferenceIdeal.Value.qkvRef (F := Ideal) (m ((c : Thread nD τ).loc main_arg0)) (m ((c : Thread nD τ).loc main_arg1)) := by
  refine (dats m 0 c).arrAt_eq_of_covers 4 _ (by decide +kernel) fun t hf y => ?_
  idx_vars y
  blk_simp
  rw [after0_4]
  have ht : t.val < 48 := lt_of_lt_of_eq t.isLt N_0
  have e : (win0_4.blk t).view.emb (ix2 y0 y1) = ix2 (⟨t.val / 3 * 1024 + y0.val, by omega⟩ : Fin 16384) (⟨t.val % 3 * 1024 + y1.val, by omega⟩ : Fin 3072) := by
    blk_ext [idx t]
  refine Eq.trans ?_ (congrArg _ e).symm
  refine (out_at _ _ _ _ _ _).trans ?_
  have hq : ((grid0.coords t) 1).val * 8 + y1.val / 128 = (t.val % 3 * 1024 + y1.val) / 128 := by
    rw [(idx t).2.2.2.2.2]
    omega
  have hd : (⟨(t.val % 3 * 1024 + y1.val) % 128, by omega⟩ : Fin 128) = ⟨y1.val % 128, by omega⟩ := Fin.ext (by show (t.val % 3 * 1024 + y1.val) % 128 = y1.val % 128; omega)
  have hs : (⟨(t.val / 3 * 1024 + y0.val) % 8192, by omega⟩ : Fin 8192) = ⟨t.val / 3 % 8 * 1024 + y0.val, by omega⟩ := Fin.ext (by show (t.val / 3 * 1024 + y0.val) % 8192 = t.val / 3 % 8 * 1024 + y0.val; omega)
  have hn : first (((grid0.coords t) 1).val * 8 + y1.val / 128) = first ((t.val % 3 * 1024 + y1.val) / 128) := congrArg first hq
  refine (congrArg (fun n => headV n _ _ _ _) hn).trans ?_
  have hc := cmp_q (⟨(t.val % 3 * 1024 + y1.val) / 128, by omega⟩ : Fin 24)
  by_cases h : t.val % 3 * 1024 + y1.val < 2048
  · have h1 := hc.1 (by show (t.val % 3 * 1024 + y1.val) / 128 < 16; omega)
    refine (head_q _ _ _ _ _ h1.1 h1.2).trans ?_
    refine Eq.trans ?_ (Cert.QkvReferenceIdeal.Value.ref_q _ _ _ _ h).symm
    refine congrArg (fun u : EReal => u * _) ?_
    refine Eq.trans ?_ (congrArg₂ (Cert.QkvReferenceIdeal.Value.turned _) hs hd).symm
    exact turn_eq _ _ _ _ _ _ (blk_head m c t ht y0 y1) (blk_C m c t ht y0) (blk_S m c t ht y0) _
  · by_cases h' : t.val % 3 * 1024 + y1.val < 2560
    · have h1 := hc.2.1 (by show ¬ (t.val % 3 * 1024 + y1.val) / 128 < 16; omega) (by show (t.val % 3 * 1024 + y1.val) / 128 < 20; omega)
      refine (head_k _ _ _ _ _ h1.1 h1.2).trans ?_
      refine Eq.trans ?_ (Cert.QkvReferenceIdeal.Value.ref_k _ _ _ _ h h').symm
      refine Eq.trans ?_ (congrArg₂ (Cert.QkvReferenceIdeal.Value.turned _) hs hd).symm
      exact turn_eq _ _ _ _ _ _ (blk_head m c t ht y0 y1) (blk_C m c t ht y0) (blk_S m c t ht y0) _
    · have h1 := hc.2.2 (by show ¬ (t.val % 3 * 1024 + y1.val) / 128 < 20; omega)
      refine (head_v _ _ _ _ _ h1).trans ?_
      refine Eq.trans ?_ (Cert.QkvReferenceIdeal.Value.ref_v _ _ _ _ h').symm
      refine Eq.trans ?_ (congrArg (Cert.QkvReferenceIdeal.Value.headRow _ _ _ _) hd).symm
      exact blk_head m c t ht y0 y1 _

end Cert.QkvKernelIdeal.Value

end
-- ==== Proof.MergeValue.lean ====
/- The value of the gated sum of the two projections: every tile of the kernel is computed in four pieces of 256 columns. -/
module

public import proofs.«01_k».proof.Proof.Gen.MergeKernelIdeal.Value
public import proofs.«01_k».proof.Proof.Gen.MergeReferenceIdeal
public import Idealize.ShloMosaic.Lib.Pipeline.ValueKit
public import Idealize.ShloMosaic.Lib.Pointwise

@[expose] public section

set_option maxRecDepth 16384

noncomputable section

namespace Cert.MergeKernelIdeal.Value

open Cert.MergeKernelIdeal Cert.MergeKernelIdeal.Gen Idealize.ShloMosaic Idealize.ShloMosaic.TcCoe Idealize.SL.Sem
open Idealize.ShloMosaic.Pipeline (Dat)

/-- The reference's result as a function of its five arguments. -/
def mergeRef (x : FVec Ideal Cert.MergeReferenceIdeal.S16384x2048 .bf16) (z : FVec Ideal Cert.MergeReferenceIdeal.S16384x2048 .bf16) (u : FVec Ideal Cert.MergeReferenceIdeal.S2048x4096 .bf16) (w : FVec Ideal Cert.MergeReferenceIdeal.S2048x4096 .bf16) (g : FVec Ideal Cert.MergeReferenceIdeal.S16384x8192 .bf16) : FVec Ideal Cert.MergeReferenceIdeal.S16384x4096 .bf16 :=
  truncf .bf16 (addf (mulf (extractStridedSlice Cert.MergeReferenceIdeal.S16384x4096 ![0, 0] (extf .f32 g Cert.MergeReferenceIdeal.Gen.bitsLt_bf16_f32) Cert.MergeReferenceIdeal.Gen.slices_S16384x8192_S16384x4096_0_0) (Host.dotGeneral Cert.MergeReferenceIdeal.dot_S16384x2048_S2048x4096_S16384x4096_1_0_0_1_n_n none (extf .f32 x Cert.MergeReferenceIdeal.Gen.bitsLt_bf16_f32) (extf .f32 u Cert.MergeReferenceIdeal.Gen.bitsLt_bf16_f32))) (mulf (extractStridedSlice Cert.MergeReferenceIdeal.S16384x4096 ![0, 4096] (extf .f32 g Cert.MergeReferenceIdeal.Gen.bitsLt_bf16_f32) Cert.MergeReferenceIdeal.Gen.slices_S16384x8192_S16384x4096_0_4096) (Host.dotGeneral Cert.MergeReferenceIdeal.dot_S16384x2048_S2048x4096_S16384x4096_1_0_0_1_n_n none (extf .f32 z Cert.MergeReferenceIdeal.Gen.bitsLt_bf16_f32) (extf .f32 w Cert.MergeReferenceIdeal.Gen.bitsLt_bf16_f32)))) Cert.MergeReferenceIdeal.Gen.bitsLt_bf16_f32

theorem ref_at (x z u w g) (a : Fin 16384) (b : Fin 4096) : mergeRef x z u w g (ix2 a b)
    = g (ix2 a ⟨b.val, by omega⟩) * (∑ d : Fin 2048, x (ix2 a d) * u (ix2 d b)) + g (ix2 a ⟨4096 + b.val, by omega⟩) * (∑ d : Fin 2048, z (ix2 a d) * w (ix2 d b)) := by
  pointwise [mergeRef]

/-- One block of the result from the blocks it is computed from. -/
def block (x z : Vec Ideal S1024x2048 .bf16) (u w : Vec Ideal S2048x1024 .bf16) (g g' : Vec Ideal S1024x1024 .bf16) : S1024x1024.Idx → EReal :=
  fun y => g (ix2 (y 0) (y 1)) * (∑ d : Fin 2048, x (ix2 (y 0) d) * u (ix2 d (y 1))) + g' (ix2 (y 0) (y 1)) * (∑ d : Fin 2048, z (ix2 (y 0) d) * w (ix2 d (y 1)))

theorem out_block (x z : Vec Ideal S1024x2048 .bf16) (u w : Vec Ideal S2048x1024 .bf16) (g g' : Vec Ideal S1024x1024 .bf16) (y : S1024x1024.Idx) :
    out0_6 x z u w g g' y = block x z u w g g' y := by
  unfold out0_6
  canon_tiles i h
  all_goals (open_payloads; pointwise [block]; blk_point [])

theorem idx : ∀ t : Fin cfg0.N, win0_0.index t = ![t.val / 4, 0] ∧ win0_1.index t = ![t.val / 4, 0] ∧ win0_2.index t = ![0, t.val % 4] ∧ win0_3.index t = ![0, t.val % 4]
    ∧ win0_4.index t = ![t.val / 4, t.val % 4] ∧ win0_5.index t = ![t.val / 4, 4 + t.val % 4] ∧ win0_6.index t = ![t.val / 4, t.val % 4] :=
  (by decide +kernel : ∀ t : Fin grid0.N, _)

variable (m : (ℓ : Loc nD τ sig) → Buf (Elt Ideal) ℓ)

theorem value (c : Dev nD) : (dats m 0 c).arrAt 6 (cfgs 0).N = mergeRef (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  idx_vars y
  blk_simp
  rw [after0_6]
  have ht : t.val < 64 := lt_of_lt_of_eq t.isLt N_0
  have e : (win0_6.blk t).view.emb (ix2 y0 y1) = ix2 (⟨t.val / 4 * 1024 + y0.val, by omega⟩ : Fin 16384) (⟨t.val % 4 * 1024 + y1.val, by omega⟩ : Fin 4096) := by
    blk_ext [idx t]
  refine Eq.trans ?_ (congrArg _ e).symm
  refine Eq.trans ?_ (ref_at _ _ _ _ _ _ _).symm
  refine (out_block _ _ _ _ _ _ _).trans ?_
  unfold block
  blk_point [iblk, V, idx t]

end Cert.MergeKernelIdeal.Value

end
-- ==== Proof.OutValue.lean ====
/- The value of the output projection: every tile of the kernel is four products over 256 columns; the reference is one product. -/
module

public import proofs.«01_k».proof.Proof.Gen.OutKernelIdeal.Value
public import proofs.«01_k».proof.Proof.Gen.OutReferenceIdeal
public import Idealize.ShloMosaic.Lib.Pipeline.ValueKit
public import Idealize.ShloMosaic.Lib.Pointwise

@[expose] public section

set_option maxRecDepth 16384

noncomputable section

namespace Cert.OutKernelIdeal.Value

open Cert.OutKernelIdeal Cert.OutKernelIdeal.Gen Idealize.ShloMosaic Idealize.ShloMosaic.TcCoe Idealize.SL.Sem
open Idealize.ShloMosaic.Pipeline (Dat)

/-- The reference's result as a function of its two arguments. -/
def outRef (x : FVec Ideal Cert.OutReferenceIdeal.S16384x4096 .bf16) (w : FVec Ideal Cert.OutReferenceIdeal.S4096x4096 .bf16) : FVec Ideal Cert.OutReferenceIdeal.S16384x4096 .f32 :=
  Host.dotGeneral Cert.OutReferenceIdeal.dot_S16384x4096_S4096x4096_S16384x4096_1_0_0_1_n_n none (extf .f32 x Cert.OutReferenceIdeal.Gen.bitsLt_bf16_f32) (extf .f32 w Cert.OutReferenceIdeal.Gen.bitsLt_bf16_f32)

theorem ref_at (x w) (a : Fin 16384) (b : Fin 4096) : outRef x w (ix2 a b) = ∑ d : Fin 4096, x (ix2 a d) * w (ix2 d b) := by
  pointwise [outRef]

/-- The product of a block of rows with a block of columns. -/
def prod (x : Vec Ideal S1024x4096 .bf16) (w : Vec Ideal S4096x1024 .bf16) : S1024x1024.Idx → EReal :=
  fun y => ∑ d : Fin 4096, x (ix2 (y 0) d) * w (ix2 d (y 1))

theorem out_prod (x : Vec Ideal S1024x4096 .bf16) (w : Vec Ideal S4096x1024 .bf16) (y : S1024x1024.Idx) : out0_2 x w y = prod x w y := by
  unfold out0_2
  canon_tiles i h
  all_goals (open_payloads; pointwise [prod]; blk_point [])

theorem idx : ∀ t : Fin cfg0.N, win0_0.index t = ![t.val / 4, 0] ∧ win0_1.index t = ![0, t.val % 4] ∧ win0_2.index t = ![t.val / 4, t.val % 4] :=
  (by decide +kernel : ∀ t : Fin grid0.N, _)

variable (m : (ℓ : Loc nD τ sig) → Buf (Elt Ideal) ℓ)

theorem value (c : Dev nD) : (dats m 0 c).arrAt 2 (cfgs 0).N = outRef (m ((c : Thread nD τ).loc main_arg0)) (m ((c : Thread nD τ).loc main_arg1)) := by
  refine (dats m 0 c).arrAt_eq_of_covers 2 _ (by decide +kernel) fun t hf y => ?_
  idx_vars y
  blk_simp
  rw [after0_2]
  have ht : t.val < 64 := lt_of_lt_of_eq t.isLt N_0
  have e : (win0_2.blk t).view.emb (ix2 y0 y1) = ix2 (⟨t.val / 4 * 1024 + y0.val, by omega⟩ : Fin 16384) (⟨t.val % 4 * 1024 + y1.val, by omega⟩ : Fin 4096) := by
    blk_ext [idx t]
  refine Eq.trans ?_ (congrArg _ e).symm
  refine Eq.trans ?_ (ref_at _ _ _ _).symm
  refine (out_prod _ _ _).trans ?_
  unfold prod
  refine Fin.sum_fin_congr fun d => ?_
  blk_point [iblk, V, idx t]

end Cert.OutKernelIdeal.Value

end
-- ==== Proof.ResidValue.lean ====
/- The value of the second residual: each grid point adds 512 normalised rows. -/
module

public import proofs.«01_k».proof.Proof.Gen.ResidKernelIdeal.Value
public import proofs.«01_k».proof.Proof.Gen.ResidReferenceIdeal
public import Idealize.ShloMosaic.Lib.Pipeline.ValueKit
public import Idealize.ShloMosaic.Lib.Pointwise

@[expose] public section

set_option maxRecDepth 16384

noncomputable section

namespace Cert.ResidKernelIdeal.Value

open Cert.ResidKernelIdeal Cert.ResidKernelIdeal.Gen Idealize.ShloMosaic Idealize.ShloMosaic.TcCoe Idealize.SL.Sem
open Idealize.ShloMosaic.Pipeline (Dat)

/-- The reference's result as a function of its three arguments. -/
def residRef (x : FVec Ideal Cert.ResidReferenceIdeal.S16384x4096 .f32) (d : FVec Ideal Cert.ResidReferenceIdeal.S16384x4096 .f32) (w : FVec Ideal Cert.ResidReferenceIdeal.S1x4096 .f32) : FVec Ideal Cert.ResidReferenceIdeal.S16384x4096 .f32 :=
  addf x (mulf (mulf d (broadcastInDim Cert.ResidReferenceIdeal.S16384x4096 ![0, 1] Cert.ResidReferenceIdeal.Gen.bcast_S16384x1_S16384x4096_0_1 (Host.rsqrt (addf (Host.divf (broadcastInDim Cert.ResidReferenceIdeal.S16384x1 ![0] Cert.ResidReferenceIdeal.Gen.bcast_S16384_S16384x1_0 (Host.reduceAdd (mulf d d) (constant Cert.ResidReferenceIdeal.S_ .f32 0x00000000#32) Cert.ResidReferenceIdeal.Gen.reducesTo_S16384x4096_S16384_d1 Cert.ResidReferenceIdeal.Gen.h_S_)) (broadcastInDim Cert.ResidReferenceIdeal.S16384x1 ![] Cert.ResidReferenceIdeal.Gen.bcast_S_S16384x1 (constant Cert.ResidReferenceIdeal.S_ .f32 0x45800000#32))) (broadcastInDim Cert.ResidReferenceIdeal.S16384x1 ![] Cert.ResidReferenceIdeal.Gen.bcast_S_S16384x1 (constant Cert.ResidReferenceIdeal.S_ .f32 0x358637BD#32)))))) (broadcastInDim Cert.ResidReferenceIdeal.S16384x4096 ![0, 1] Cert.ResidReferenceIdeal.Gen.bcast_S1x4096_S16384x4096_0_1 (broadcastInDim Cert.ResidReferenceIdeal.S1x4096 ![1] Cert.ResidReferenceIdeal.Gen.bcast_S4096_S1x4096_1 (shapeCast _ w Cert.ResidReferenceIdeal.Gen.shapeCasts_S1x4096_S4096))))

theorem idx : ∀ t : Fin cfg0.N, win0_0.index t = ![t.val, 0] ∧ win0_1.index t = ![t.val, 0] ∧ win0_2.index t = ![0, 0] ∧ win0_3.index t = ![t.val, 0] :=
  (by decide +kernel : ∀ t : Fin grid0.N, _)

variable (m : (ℓ : Loc nD τ sig) → Buf (Elt Ideal) ℓ)

theorem value (c : Dev nD) : (dats m 0 c).arrAt 3 (cfgs 0).N = residRef (m ((c : Thread nD τ).loc main_arg0)) (m ((c : Thread nD τ).loc main_arg1)) (m ((c : Thread nD τ).loc main_arg2)) := by
  refine (dats m 0 c).arrAt_eq_of_covers 3 _ (by decide +kernel) fun t hf y => ?_
  idx_vars y
  blk_simp
  rw [after0_3]
  have ht : t.val < 32 := lt_of_lt_of_eq t.isLt N_0
  have e : (win0_3.blk t).view.emb (ix2 y0 y1) = ix2 (⟨t.val * 512 + y0.val, by omega⟩ : Fin 16384) y1 := by
    blk_ext [idx t]
  refine Eq.trans ?_ (congrArg _ e).symm
  unfold out0_3
  canon_tiles i h
  all_goals (have h0' : y0.val = (i 0).val := h0; have h1' : y1.val = (i 1).val := h1; open_payloads; pointwise [residRef]; blk_point [iblk, V, idx t])

end Cert.ResidKernelIdeal.Value

end
-- ==== Proof.ResidNormValue.lean ====
/- The value of the first residual and the normalisation after it: each grid point does 256 rows. -/
module

public import proofs.«01_k».proof.Proof.Gen.ResidNormKernelIdeal.Value
public import proofs.«01_k».proof.Proof.Gen.ResidNormReferenceIdeal
public import Idealize.ShloMosaic.Lib.Pipeline.ValueKit
public import Idealize.ShloMosaic.Lib.Pointwise

@[expose] public section

set_option maxRecDepth 16384

noncomputable section

namespace Cert.ResidNormKernelIdeal.Value

open Cert.ResidNormKernelIdeal Cert.ResidNormKernelIdeal.Gen Idealize.ShloMosaic Idealize.ShloMosaic.TcCoe Idealize.SL.Sem
open Idealize.ShloMosaic.Pipeline (Dat)

/-- The reference's first result as a function of its arguments. -/
def residRef (x : FVec Ideal Cert.ResidNormReferenceIdeal.S2x8192x4096 .f32) (d : FVec Ideal Cert.ResidNormReferenceIdeal.S16384x4096 .f32) (w : FVec Ideal Cert.ResidNormReferenceIdeal.S1x4096 .f32) : FVec Ideal Cert.ResidNormReferenceIdeal.S16384x4096 .f32 :=
  addf (shapeCast _ x Cert.ResidNormReferenceIdeal.Gen.shapeCasts_S2x8192x4096_S16384x4096) (mulf (mulf d (broadcastInDim Cert.ResidNormReferenceIdeal.S16384x4096 ![0, 1] Cert.ResidNormReferenceIdeal.Gen.bcast_S16384x1_S16384x4096_0_1 (Host.rsqrt (addf (Host.divf (broadcastInDim Cert.ResidNormReferenceIdeal.S16384x1 ![0] Cert.ResidNormReferenceIdeal.Gen.bcast_S16384_S16384x1_0 (Host.reduceAdd (mulf d d) (constant Cert.ResidNormReferenceIdeal.S_ .f32 0x00000000#32) Cert.ResidNormReferenceIdeal.Gen.reducesTo_S16384x4096_S16384_d1 Cert.ResidNormReferenceIdeal.Gen.h_S_)) (broadcastInDim Cert.ResidNormReferenceIdeal.S16384x1 ![] Cert.ResidNormReferenceIdeal.Gen.bcast_S_S16384x1 (constant Cert.ResidNormReferenceIdeal.S_ .f32 0x45800000#32))) (broadcastInDim Cert.ResidNormReferenceIdeal.S16384x1 ![] Cert.ResidNormReferenceIdeal.Gen.bcast_S_S16384x1 (constant Cert.ResidNormReferenceIdeal.S_ .f32 0x358637BD#32)))))) (broadcastInDim Cert.ResidNormReferenceIdeal.S16384x4096 ![0, 1] Cert.ResidNormReferenceIdeal.Gen.bcast_S1x4096_S16384x4096_0_1 (broadcastInDim Cert.ResidNormReferenceIdeal.S1x4096 ![1] Cert.ResidNormReferenceIdeal.Gen.bcast_S4096_S1x4096_1 (shapeCast _ w Cert.ResidNormReferenceIdeal.Gen.shapeCasts_S1x4096_S4096))))

/-- The reference's second result as a function of its arguments. -/
def normRef (x : FVec Ideal Cert.ResidNormReferenceIdeal.S2x8192x4096 .f32) (d : FVec Ideal Cert.ResidNormReferenceIdeal.S16384x4096 .f32) (w : FVec Ideal Cert.ResidNormReferenceIdeal.S1x4096 .f32) (u : FVec Ideal Cert.ResidNormReferenceIdeal.S1x4096 .f32) : FVec Ideal Cert.ResidNormReferenceIdeal.S16384x4096 .bf16 :=
  truncf .bf16 (mulf (mulf (residRef x d w) (broadcastInDim Cert.ResidNormReferenceIdeal.S16384x4096 ![0, 1] Cert.ResidNormReferenceIdeal.Gen.bcast_S16384x1_S16384x4096_0_1 (Host.rsqrt (addf (Host.divf (broadcastInDim Cert.ResidNormReferenceIdeal.S16384x1 ![0] Cert.ResidNormReferenceIdeal.Gen.bcast_S16384_S16384x1_0 (Host.reduceAdd (mulf (residRef x d w) (residRef x d w)) (constant Cert.ResidNormReferenceIdeal.S_ .f32 0x00000000#32) Cert.ResidNormReferenceIdeal.Gen.reducesTo_S16384x4096_S16384_d1 Cert.ResidNormReferenceIdeal.Gen.h_S_)) (broadcastInDim Cert.ResidNormReferenceIdeal.S16384x1 ![] Cert.ResidNormReferenceIdeal.Gen.bcast_S_S16384x1 (constant Cert.ResidNormReferenceIdeal.S_ .f32 0x45800000#32))) (broadcastInDim Cert.ResidNormReferenceIdeal.S16384x1 ![] Cert.ResidNormReferenceIdeal.Gen.bcast_S_S16384x1 (constant Cert.ResidNormReferenceIdeal.S_ .f32 0x358637BD#32)))))) (broadcastInDim Cert.ResidNormReferenceIdeal.S16384x4096 ![0, 1] Cert.ResidNormReferenceIdeal.Gen.bcast_S1x4096_S16384x4096_0_1 (broadcastInDim Cert.ResidNormReferenceIdeal.S1x4096 ![1] Cert.ResidNormReferenceIdeal.Gen.bcast_S4096_S1x4096_1 (shapeCast _ u Cert.ResidNormReferenceIdeal.Gen.shapeCasts_S1x4096_S4096)))) Cert.ResidNormReferenceIdeal.Gen.bitsLt_bf16_f32

theorem idx : ∀ t : Fin cfg0.N, win0_0.index t = ![t.val, 0] ∧ win0_1.index t = ![t.val, 0] ∧ win0_2.index t = ![0, 0] ∧ win0_3.index t = ![0, 0]
    ∧ win0_4.index t = ![t.val, 0] ∧ win0_5.index t = ![t.val, 0] :=
  (by decide +kernel : ∀ t : Fin grid0.N, _)

variable (m : (ℓ : Loc nD τ sig) → Buf (Elt Ideal) ℓ)

theorem value4 (c : Dev nD) : (dats m 0 c).arrAt 4 (cfgs 0).N = residRef (m ((c : Thread nD τ).loc main_arg0)) (m ((c : Thread nD τ).loc main_arg1)) (m ((c : Thread nD τ).loc main_arg2)) := by
  refine (dats m 0 c).arrAt_eq_of_covers 4 _ (by decide +kernel) fun t hf y => ?_
  idx_vars y
  blk_simp
  rw [after0_4]
  have ht : t.val < 64 := lt_of_lt_of_eq t.isLt N_0
  have e : (win0_4.blk t).view.emb (ix2 y0 y1) = ix2 (⟨t.val * 256 + y0.val, by omega⟩ : Fin 16384) y1 := by
    blk_ext [idx t]
  refine Eq.trans ?_ (congrArg _ e).symm
  unfold out0_4
  canon_tiles i h
  all_goals (have h0' : y0.val = (i 0).val := h0; have h1' : y1.val = (i 1).val := h1; open_payloads; pointwise [residRef]; blk_point [iblk, V, idx t])

theorem value5 (c : Dev nD) : (dats m 0 c).arrAt 5 (cfgs 0).N = normRef (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  idx_vars y
  blk_simp
  rw [after0_5]
  have ht : t.val < 64 := lt_of_lt_of_eq t.isLt N_0
  have e : (win0_5.blk t).view.emb (ix2 y0 y1) = ix2 (⟨t.val * 256 + y0.val, by omega⟩ : Fin 16384) y1 := by
    blk_ext [idx t]
  refine Eq.trans ?_ (congrArg _ e).symm
  unfold out0_5
  canon_tiles i h
  all_goals (have h0' : y0.val = (i 0).val := h0; have h1' : y1.val = (i 1).val := h1; open_payloads; pointwise [normRef, residRef]; blk_point [iblk, V, idx t])

end Cert.ResidNormKernelIdeal.Value

end
-- ==== Proof.NormValue.lean ====
/- The value of the first normalisation: each grid point normalises 512 rows. -/
module

public import proofs.«01_k».proof.Proof.Gen.NormKernelIdeal.Value
public import proofs.«01_k».proof.Proof.Gen.NormReferenceIdeal
public import Idealize.ShloMosaic.Lib.Pipeline.ValueKit
public import Idealize.ShloMosaic.Lib.Pointwise

@[expose] public section

set_option maxRecDepth 16384

noncomputable section

namespace Cert.NormKernelIdeal.Value

open Cert.NormKernelIdeal Cert.NormKernelIdeal.Gen Idealize.ShloMosaic Idealize.ShloMosaic.TcCoe Idealize.SL.Sem
open Idealize.ShloMosaic.Pipeline (Dat)

/-- The reference's result as a function of its two arguments. -/
def normRef (x : FVec Ideal Cert.NormReferenceIdeal.S2x8192x4096 .f32) (w : FVec Ideal Cert.NormReferenceIdeal.S1x4096 .f32) : FVec Ideal Cert.NormReferenceIdeal.S16384x4096 .bf16 :=
  truncf .bf16 (shapeCast _ (mulf (mulf x (broadcastInDim Cert.NormReferenceIdeal.S2x8192x4096 ![0, 1, 2] Cert.NormReferenceIdeal.Gen.bcast_S2x8192x1_S2x8192x4096_0_1_2 (Host.rsqrt (addf (Host.divf (broadcastInDim Cert.NormReferenceIdeal.S2x8192x1 ![0, 1] Cert.NormReferenceIdeal.Gen.bcast_S2x8192_S2x8192x1_0_1 (Host.reduceAdd (mulf x x) (constant Cert.NormReferenceIdeal.S_ .f32 0x00000000#32) Cert.NormReferenceIdeal.Gen.reducesTo_S2x8192x4096_S2x8192_d2 Cert.NormReferenceIdeal.Gen.h_S_)) (broadcastInDim Cert.NormReferenceIdeal.S2x8192x1 ![] Cert.NormReferenceIdeal.Gen.bcast_S_S2x8192x1 (constant Cert.NormReferenceIdeal.S_ .f32 0x45800000#32))) (broadcastInDim Cert.NormReferenceIdeal.S2x8192x1 ![] Cert.NormReferenceIdeal.Gen.bcast_S_S2x8192x1 (constant Cert.NormReferenceIdeal.S_ .f32 0x358637BD#32)))))) (broadcastInDim Cert.NormReferenceIdeal.S2x8192x4096 ![0, 1, 2] Cert.NormReferenceIdeal.Gen.bcast_S1x1x4096_S2x8192x4096_0_1_2 (broadcastInDim Cert.NormReferenceIdeal.S1x1x4096 ![2] Cert.NormReferenceIdeal.Gen.bcast_S4096_S1x1x4096_2 (shapeCast _ w Cert.NormReferenceIdeal.Gen.shapeCasts_S1x4096_S4096)))) Cert.NormReferenceIdeal.Gen.shapeCasts_S2x8192x4096_S16384x4096) Cert.NormReferenceIdeal.Gen.bitsLt_bf16_f32

theorem ref_at (x w) (a : Fin 16384) (b : Fin 4096) : normRef x w (ix2 a b)
    = x (ix3 ⟨a.val / 8192, by omega⟩ ⟨a.val % 8192, by omega⟩ b) * Ideal.rsqrt (Ideal.div
        (∑ d : Fin 4096, x (ix3 ⟨a.val / 8192, by omega⟩ ⟨a.val % 8192, by omega⟩ d) * x (ix3 ⟨a.val / 8192, by omega⟩ ⟨a.val % 8192, by omega⟩ d))
        (Ideal.ofBits .f32 1166016512#32) + Ideal.ofBits .f32 897988541#32) * w (ix2 0 b) := by
  pointwise [normRef]

theorem out_at (x : Vec Ideal S512x4096 .f32) (w : Vec Ideal S1x4096 .f32) (a : Fin 512) (b : Fin 4096) : out0_2 x w (ix2 a b)
    = x (ix2 a b) * Ideal.rsqrt (Ideal.div (∑ d : Fin 4096, x (ix2 a d) * x (ix2 a d))
        (Ideal.ofBits .f32 1166016512#32) + Ideal.ofBits .f32 897988541#32) * w (ix2 0 b) := by
  unfold out0_2
  canon_tiles i h
  have h0' : a.val = (i 0).val := h0
  have h1' : b.val = (i 1).val := h1
  pointwise [k0_pay1]
  blk_point []

theorem idx : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ)

theorem value (c : Dev nD) : (dats m 0 c).arrAt 2 (cfgs 0).N = normRef (m ((c : Thread nD τ).loc main_arg0)) (m ((c : Thread nD τ).loc main_arg1)) := by
  refine (dats m 0 c).arrAt_eq_of_covers 2 _ (by decide +kernel) fun t hf y => ?_
  idx_vars y
  blk_simp
  rw [after0_2]
  have ht : t.val < 32 := lt_of_lt_of_eq t.isLt N_0
  have e : (win0_2.blk t).view.emb (ix2 y0 y1) = ix2 (⟨t.val * 512 + y0.val, by omega⟩ : Fin 16384) y1 := by
    blk_ext [idx t]
  refine Eq.trans ?_ (congrArg _ e).symm
  refine Eq.trans ?_ (ref_at _ _ _ _).symm
  refine (out_at _ _ _ _).trans ?_
  blk_point [iblk, V, idx t]

end Cert.NormKernelIdeal.Value

end
-- ==== Proof.AttnRes.lean ====
/- The named result of the attention reference's run is the function of its arguments named here. -/
module

public import proofs.«01_k».proof.Proof.AttnDefs
public import proofs.«01_k».proof.Proof.Gen.AttnReferenceIdeal.Run
public import Idealize.ShloMosaic.Lib.Pipeline.ValueKit
public import Idealize.ShloMosaic.Lib.Pointwise

@[expose] public section

set_option maxRecDepth 16384

noncomputable section

namespace Cert.AttnReferenceIdeal.Value

open Cert.AttnReferenceIdeal Cert.AttnReferenceIdeal.Gen Idealize.ShloMosaic Idealize.ShloMosaic.TcCoe Idealize.SL.Sem
open Idealize.ShloMosaic.Pipeline (Dat)

variable {F : FTy → Type} [FloatOps F]

theorem res_eq (m : (ℓ : Loc nD τ sig) → Buf (Elt F) ℓ) (c : Dev nD) :
    res_main_v77 m c = attnRef (m ((c.tc : Thread nD τ).loc main_arg0)) (m ((c.tc : Thread nD τ).loc main_arg1)) := rfl

end Cert.AttnReferenceIdeal.Value

end
-- ==== Proof.PleCond.lean ====
/- The conditions of the per-layer embedding's body at a point. -/
module

public import proofs.«01_k».proof.Proof.Gen.PleKernelIdeal.Frame
public import proofs.«01_k».proof.Proof.Gen.PleKernelIdeal.Loops
public import Idealize.ShloMosaic.Lib.Claim

@[expose] public section

set_option maxRecDepth 16384

noncomputable section

namespace Cert.PleKernelIdeal.Hand

open Cert.PleKernelIdeal Cert.PleKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-- The point is the first of its row of blocks. -/
abbrev isFirst (i : grid0.Coords) : Prop := (Scalar.cmpi .ne (Scalar.extui (Scalar.cmpi .eq (BitVec.ofNat 32 (i 1).val) 0#32)) 0#32) = 1#1
/-- The point is the last of its row of blocks. -/
abbrev isLast (i : grid0.Coords) : Prop := k0_cond2 i = 1#1

theorem isFirst_iff : ∀ t : Fin cfg0.N, isFirst (grid0.coords t) ↔ t.val % 4 = 0 :=
  (fun t => by
    have ht : t.val < 128 := Nat.lt_of_lt_of_eq t.isLt N_0
    have e1 : (grid0.coords t 1).val = t.val / 1 % 4 := Pipeline.Grid.coords_val t 1 (by decide) rfl
    simp only [isFirst, e1]
    word_cmp
   : ∀ t : Fin grid0.N, isFirst (grid0.coords t) ↔ t.val % 4 = 0)

theorem isLast_iff : ∀ t : Fin cfg0.N, isLast (grid0.coords t) ↔ t.val % 4 = 3 :=
  (fun t => by
    have ht : t.val < 128 := Nat.lt_of_lt_of_eq t.isLt N_0
    have e1 : (grid0.coords t 1).val = t.val / 1 % 4 := Pipeline.Grid.coords_val t 1 (by decide) rfl
    simp only [isLast, k0_cond2, e1]
    word_cmp
   : ∀ t : Fin grid0.N, isLast (grid0.coords t) ↔ t.val % 4 = 3)

end Cert.PleKernelIdeal.Hand

end
-- ==== Proof.PleRunFirst.lean ====
/- A run of the per-layer embedding's body. -/
module

public import proofs.«01_k».proof.Proof.PleCond
public import Idealize.ShloMosaic.Lib.Claim

@[expose] public section

set_option maxRecDepth 16384

noncomputable section

namespace Cert.PleKernelIdeal.Hand

open Cert.PleKernelIdeal Cert.PleKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

set_option maxHeartbeats 4000000 in
/-- The body at the first point of a row of blocks: the row is cast into the scratch, and the first columns of the products are stored. -/
noncomputable def runFirst (c : Dev nD) (i : grid0.Coords) (arg2 : Memref sig .tc .vmem S512x4096 .f32) (harg2 : arg2.IsWhole) (arg3 : Memref sig .tc .vmem S512x256 .f32) (harg3 : arg3.IsWhole) (arg4 : Memref sig .tc .vmem S4096x1024 .bf16) (harg4 : arg4.IsWhole) (arg5 : Memref sig .tc .vmem S256x1024 .bf16) (harg5 : arg5.IsWhole) (arg6 : Memref sig .tc .vmem S1x4096 .f32) (harg6 : arg6.IsWhole) (arg7 : Memref sig .tc .vmem S512x4096 .f32) (harg7 : arg7.IsWhole) (arg8 : Memref sig .tc .vmem S512x4096 .bf16) (harg8 : arg8.IsWhole) (h1 : isFirst i) (h2 : ¬isLast i)
    (x0 : Vec F S512x4096 .f32) (x1 : Vec F S512x256 .f32) (x2 : Vec F S4096x1024 .bf16) (x3 : Vec F S256x1024 .bf16) (x4 : Vec F S1x4096 .f32) (xo : Vec F S512x4096 .f32) (xs : Vec F S512x4096 .bf16) :
    { g : arg7.view.ty.Contents (Elt F) × arg8.view.ty.Contents (Elt F) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (arg7.view.loc (c : Thread nD τ) ↦[arg7.view.set]{fullShare} g.1) ∗ (arg8.view.loc (c : Thread nD τ) ↦[arg8.view.set]{fullShare} g.2)) -∗ K ⟨⟩))
          ⊢ wp frame (wpE (defs₀ (F := F)) Variants.none c none) E (cc0_ple_gate i arg2 harg2 arg3 harg3 arg4 harg4 arg5 harg5 arg6 harg6 arg7 harg7 arg8 harg8) K } := by
  refine ⟨⟨?_, ?_⟩, fun E K => ?run⟩
  case run =>
    simp only [cc0_ple_gate_eq_skeleton]; unfold cc0_ple_gate_skel
    simp only [k0_part1_eq_skeleton, k0_part2_eq_skeleton]; unfold k0_part1_skel k0_part2_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact h1 | sl_exact h2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexact H5
    iexact H6

end Cert.PleKernelIdeal.Hand

end
-- ==== Proof.PleRunMid.lean ====
/- A run of the per-layer embedding's body. -/
module

public import proofs.«01_k».proof.Proof.PleCond
public import Idealize.ShloMosaic.Lib.Claim

@[expose] public section

set_option maxRecDepth 16384

noncomputable section

namespace Cert.PleKernelIdeal.Hand

open Cert.PleKernelIdeal Cert.PleKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

set_option maxHeartbeats 4000000 in
/-- The body at a point inside a row of blocks: its columns of the products are stored. -/
noncomputable def runMid (c : Dev nD) (i : grid0.Coords) (arg2 : Memref sig .tc .vmem S512x4096 .f32) (harg2 : arg2.IsWhole) (arg3 : Memref sig .tc .vmem S512x256 .f32) (harg3 : arg3.IsWhole) (arg4 : Memref sig .tc .vmem S4096x1024 .bf16) (harg4 : arg4.IsWhole) (arg5 : Memref sig .tc .vmem S256x1024 .bf16) (harg5 : arg5.IsWhole) (arg6 : Memref sig .tc .vmem S1x4096 .f32) (harg6 : arg6.IsWhole) (arg7 : Memref sig .tc .vmem S512x4096 .f32) (harg7 : arg7.IsWhole) (arg8 : Memref sig .tc .vmem S512x4096 .bf16) (harg8 : arg8.IsWhole) (h1 : ¬isFirst i) (h2 : ¬isLast i)
    (x0 : Vec F S512x4096 .f32) (x1 : Vec F S512x256 .f32) (x2 : Vec F S4096x1024 .bf16) (x3 : Vec F S256x1024 .bf16) (x4 : Vec F S1x4096 .f32) (xo : Vec F S512x4096 .f32) (xs : Vec F S512x4096 .bf16) :
    { g : arg7.view.ty.Contents (Elt F) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (arg7.view.loc (c : Thread nD τ) ↦[arg7.view.set]{fullShare} g) ∗ (owns (c : Thread nD τ) arg8 fullShare xs)) -∗ K ⟨⟩))
          ⊢ wp frame (wpE (defs₀ (F := F)) Variants.none c none) E (cc0_ple_gate i arg2 harg2 arg3 harg3 arg4 harg4 arg5 harg5 arg6 harg6 arg7 harg7 arg8 harg8) K } := by
  refine ⟨?_, fun E K => ?run⟩
  case run =>
    simp only [cc0_ple_gate_eq_skeleton]; unfold cc0_ple_gate_skel
    simp only [k0_part1_eq_skeleton, k0_part2_eq_skeleton]; unfold k0_part1_skel k0_part2_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact h1 | sl_exact h2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexact H5
    iexists _; isplitr; · ipureintro; exact harg8.read_unread _
    iexact H6

end Cert.PleKernelIdeal.Hand

end
-- ==== Proof.PleRunLast.lean ====
/- A run of the per-layer embedding's body. -/
module

public import proofs.«01_k».proof.Proof.PleCond
public import Idealize.ShloMosaic.Lib.Claim

@[expose] public section

set_option maxRecDepth 16384

noncomputable section

namespace Cert.PleKernelIdeal.Hand

open Cert.PleKernelIdeal Cert.PleKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

set_option maxHeartbeats 4000000 in
/-- The body at the last point of a row of blocks: the last columns are stored, then the rows are normed, sixty-four at a time. -/
noncomputable def runLast (c : Dev nD) (i : grid0.Coords) (arg2 : Memref sig .tc .vmem S512x4096 .f32) (harg2 : arg2.IsWhole) (arg3 : Memref sig .tc .vmem S512x256 .f32) (harg3 : arg3.IsWhole) (arg4 : Memref sig .tc .vmem S4096x1024 .bf16) (harg4 : arg4.IsWhole) (arg5 : Memref sig .tc .vmem S256x1024 .bf16) (harg5 : arg5.IsWhole) (arg6 : Memref sig .tc .vmem S1x4096 .f32) (harg6 : arg6.IsWhole) (arg7 : Memref sig .tc .vmem S512x4096 .f32) (harg7 : arg7.IsWhole) (arg8 : Memref sig .tc .vmem S512x4096 .bf16) (harg8 : arg8.IsWhole) (h1 : ¬isFirst i) (h2 : isLast i)
    (x0 : Vec F S512x4096 .f32) (x1 : Vec F S512x256 .f32) (x2 : Vec F S4096x1024 .bf16) (x3 : Vec F S256x1024 .bf16) (x4 : Vec F S1x4096 .f32) (xo : Vec F S512x4096 .f32) (xs : Vec F S512x4096 .bf16) :
    { g : arg7.view.ty.Contents (Elt F) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (arg7.view.loc (c : Thread nD τ) ↦[arg7.view.set]{fullShare} g) ∗ (owns (c : Thread nD τ) arg8 fullShare xs)) -∗ K ⟨⟩))
          ⊢ wp frame (wpE (defs₀ (F := F)) Variants.none c none) E (cc0_ple_gate i arg2 harg2 arg3 harg3 arg4 harg4 arg5 harg5 arg6 harg6 arg7 harg7 arg8 harg8) K } := by
  refine ⟨?_, fun E K => ?run⟩
  case run =>
    simp only [cc0_ple_gate_eq_skeleton]; unfold cc0_ple_gate_skel
    simp only [k0_part1_eq_skeleton, k0_part2_eq_skeleton]; unfold k0_part1_skel k0_part2_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact h1 | sl_exact h2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexact H5
    iexists _; isplitr; · ipureintro; exact harg8.read_unread _
    iexact H6

end Cert.PleKernelIdeal.Hand

end
-- ==== Proof.PleFrame.lean ====
/- The frame of the per-layer embedding: its output block is revisited at the four points of a row of blocks, and the
   row lies in a scratch between them; so the proof data relate what a point leaves to what it finds. -/
module

public import proofs.«01_k».proof.Proof.PleRunFirst
public import proofs.«01_k».proof.Proof.PleRunMid
public import proofs.«01_k».proof.Proof.PleRunLast
public import Idealize.ShloMosaic.Lib.WritesUnit
public import Idealize.ShloMosaic.Lib.VecWindow
public import Idealize.ShloMosaic.Lib.Claim

@[expose] public section

set_option maxRecDepth 16384

noncomputable section

namespace Cert.PleKernelIdeal.Hand

open Cert.PleKernelIdeal Cert.PleKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the scratch holds before point `k`: inside a row of blocks, the row as cast at the row's first point. -/
def Cast (c : Dev nD) (k : ℕ) (xs : Vec F S512x4096 .bf16) : Prop :=
  k % 4 ≠ 0 → ∀ b : Fin cfg0.N, b.val = 4 * ((k - 1) / 4) → xs = k0_pay3 (iblk m c 0 b)

/-- What the body leaves in the output's buffer at point `t`, finding `Y` there and `xs` in the scratch. -/
def stepOut (c : Dev nD) (t : Fin cfg0.N) (xs : Vec F S512x4096 .bf16) (Y : Vec F S512x4096 .f32) : Vec F S512x4096 .f32 :=
  if h0 : t.val % 4 = 0 then
    (win0_5.stage (cfg0.slots t 5)).view.read (Elt F) (runFirst c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (Memref.whole cc0_scratch0) (Memref.isWhole_whole _) ((isFirst_iff t).mpr h0) (fun h => by have := (isLast_iff t).mp h; omega) (iblk m c 0 t) (iblk m c 1 t) (iblk m c 2 t) (iblk m c 3 t) (iblk m c 4 t) Y xs).1.1
  else if h3 : t.val % 4 = 3 then
    (win0_5.stage (cfg0.slots t 5)).view.read (Elt F) (runLast c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (Memref.whole cc0_scratch0) (Memref.isWhole_whole _) (fun h => h0 ((isFirst_iff t).mp h)) ((isLast_iff t).mpr h3) (iblk m c 0 t) (iblk m c 1 t) (iblk m c 2 t) (iblk m c 3 t) (iblk m c 4 t) Y xs).1
  else
    (win0_5.stage (cfg0.slots t 5)).view.read (Elt F) (runMid c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (Memref.whole cc0_scratch0) (Memref.isWhole_whole _) (fun h => h0 ((isFirst_iff t).mp h)) (fun h => h3 ((isLast_iff t).mp h)) (iblk m c 0 t) (iblk m c 1 t) (iblk m c 2 t) (iblk m c 3 t) (iblk m c 4 t) Y xs).1

/-- The scratch after the first point of a row: the row, cast. -/
theorem read_cast (c : Dev nD) (i : grid0.Coords) (arg2 : Memref sig .tc .vmem S512x4096 .f32) (harg2 : arg2.IsWhole) (arg3 : Memref sig .tc .vmem S512x256 .f32) (harg3 : arg3.IsWhole) (arg4 : Memref sig .tc .vmem S4096x1024 .bf16) (harg4 : arg4.IsWhole) (arg5 : Memref sig .tc .vmem S256x1024 .bf16) (harg5 : arg5.IsWhole) (arg6 : Memref sig .tc .vmem S1x4096 .f32) (harg6 : arg6.IsWhole) (arg7 : Memref sig .tc .vmem S512x4096 .f32) (harg7 : arg7.IsWhole) (arg8 : Memref sig .tc .vmem S512x4096 .bf16) (harg8 : arg8.IsWhole) (h1 : isFirst i) (h2 : ¬isLast i)
    (x0 : Vec F S512x4096 .f32) (x1 : Vec F S512x256 .f32) (x2 : Vec F S4096x1024 .bf16) (x3 : Vec F S256x1024 .bf16) (x4 : Vec F S1x4096 .f32) (xo : Vec F S512x4096 .f32) (xs : Vec F S512x4096 .bf16) : arg8.view.read (Elt F) (runFirst c i arg2 harg2 arg3 harg3 arg4 harg4 arg5 harg5 arg6 harg6 arg7 harg7 arg8 harg8 h1 h2 x0 x1 x2 x3 x4 xo xs).1.2 = k0_pay3 x0 := by
  unfold runFirst
  dsimp only
  unfold runFirst.sl.H6_1
  exact (View.read_writes_full _ _ _ _ _).trans (congrArg k0_pay3 ((View.readAt_full _ _ _).trans (harg2.read_unread _)))

/-- The proof data: an input's buffer is left as found; the output's as `stepOut` leaves it. -/
def rdats (c : Dev nD) : RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => ∃ xs, Cast m c t.val xs ∧ X = stepOut m c t xs Y
  Φ k := iprop((∃ xs, ⌜Cast m c k.val xs⌝ ∗ owns (c : Thread nD τ) (Memref.whole cc0_scratch0) fullShare xs) ∗ ∃ r, prngReg c r)
  q _ := fullShare
  owed _ := 0

theorem A_eq (c : Dev nD) (w : Fin cfg0.W) : (rdats m c).A w = V m c (Pipeline.arrRef spec0 w) := by
  dsimp only [rdats]

theorem finds_0 (c : Dev nD) (t : Fin cfg0.N) (Y) (h : (rdats m c).Finds 0 t Y) : Y = iblk m c 0 t := by
  obtain ⟨d, rfl⟩ := (rdats m c).finds_in_eq_fetched 0 rfl (fun _ _ _ => rfl) (fun t Y X h => by dsimp only [rdats] at h; exact h) t Y h
  unfold RDat.fetched RDat.blockOf iblk; rw [A_eq]; rfl

theorem finds_1 (c : Dev nD) (t : Fin cfg0.N) (Y) (h : (rdats m c).Finds 1 t Y) : Y = iblk m c 1 t := by
  obtain ⟨d, rfl⟩ := (rdats m c).finds_in_eq_fetched 1 rfl (fun _ _ _ => rfl) (fun t Y X h => by dsimp only [rdats] at h; exact h) t Y h
  unfold RDat.fetched RDat.blockOf iblk; rw [A_eq]; rfl

theorem finds_2 (c : Dev nD) (t : Fin cfg0.N) (Y) (h : (rdats m c).Finds 2 t Y) : Y = iblk m c 2 t := by
  obtain ⟨d, rfl⟩ := (rdats m c).finds_in_eq_fetched 2 rfl (fun _ _ _ => rfl) (fun t Y X h => by dsimp only [rdats] at h; exact h) t Y h
  unfold RDat.fetched RDat.blockOf iblk; rw [A_eq]; rfl

theorem finds_3 (c : Dev nD) (t : Fin cfg0.N) (Y) (h : (rdats m c).Finds 3 t Y) : Y = iblk m c 3 t := by
  obtain ⟨d, rfl⟩ := (rdats m c).finds_in_eq_fetched 3 rfl (fun _ _ _ => rfl) (fun t Y X h => by dsimp only [rdats] at h; exact h) t Y h
  unfold RDat.fetched RDat.blockOf iblk; rw [A_eq]; rfl

theorem finds_4 (c : Dev nD) (t : Fin cfg0.N) (Y) (h : (rdats m c).Finds 4 t Y) : Y = iblk m c 4 t := by
  obtain ⟨d, rfl⟩ := (rdats m c).finds_in_eq_fetched 4 rfl (fun _ _ _ => rfl) (fun t Y X h => by dsimp only [rdats] at h; exact h) t Y h
  unfold RDat.fetched RDat.blockOf iblk; rw [A_eq]; rfl

def bodyPre (c : Dev nD) (t : Fin cfg0.N) (Y5 : Vec F S512x4096 .f32) : sProp 𝕄 :=
  iprop((rdats m c).Φ t.castSucc ∗ (rdats m c).owesAt () t.castSucc
    ∗ owns (c : Thread nD τ) (win0_0.stage (cfg0.slots t 0)) fullShare (iblk m c 0 t)
    ∗ owns (c : Thread nD τ) (win0_1.stage (cfg0.slots t 1)) fullShare (iblk m c 1 t)
    ∗ owns (c : Thread nD τ) (win0_2.stage (cfg0.slots t 2)) fullShare (iblk m c 2 t)
    ∗ owns (c : Thread nD τ) (win0_3.stage (cfg0.slots t 3)) fullShare (iblk m c 3 t)
    ∗ owns (c : Thread nD τ) (win0_4.stage (cfg0.slots t 4)) fullShare (iblk m c 4 t)
    ∗ owns (c : Thread nD τ) (win0_5.stage (cfg0.slots t 5)) fullShare Y5)

def bodyPost (c : Dev nD) (t : Fin cfg0.N) (Y5 : Vec F S512x4096 .f32) : sProp 𝕄 :=
  iprop((rdats m c).Φ t.succ ∗ (rdats m c).owesAt () t.succ
    ∗ owns (c : Thread nD τ) (win0_0.stage (cfg0.slots t 0)) fullShare (iblk m c 0 t)
    ∗ owns (c : Thread nD τ) (win0_1.stage (cfg0.slots t 1)) fullShare (iblk m c 1 t)
    ∗ owns (c : Thread nD τ) (win0_2.stage (cfg0.slots t 2)) fullShare (iblk m c 2 t)
    ∗ owns (c : Thread nD τ) (win0_3.stage (cfg0.slots t 3)) fullShare (iblk m c 3 t)
    ∗ owns (c : Thread nD τ) (win0_4.stage (cfg0.slots t 4)) fullShare (iblk m c 4 t)
    ∗ ∃ X, ⌜∃ xs, Cast m c t.val xs ∧ X = stepOut m c t xs Y5⌝ ∗ owns (c : Thread nD τ) (win0_5.stage (cfg0.slots t 5)) fullShare X)

theorem cast_succ (c : Dev nD) (t : Fin cfg0.N) (h0 : ¬t.val % 4 = 0) (xs : Vec F S512x4096 .bf16) (h : Cast m c t.val xs) : Cast m c (t.val + 1) xs :=
  fun _ b hb => h h0 b (by omega)

theorem cast_first (c : Dev nD) (t : Fin cfg0.N) (h0 : t.val % 4 = 0) : Cast m c (t.val + 1) (k0_pay3 (iblk m c 0 t)) :=
  fun _ b hb => by
    have : b = t := Fin.ext (by omega)
    rw [this]

set_option maxHeartbeats 1600000 in
theorem sound_body (c : Dev nD) (t : Fin cfg0.N) (Y5 : Vec F S512x4096 .f32) :
    bodyPre m c t Y5 ⊢ wp frame (wpE (defs₀ (F := F)) Variants.none c none) Set.univ (bodyAt0 t) (fun _ => bodyPost m c t Y5) := by
  unfold bodyPre bodyPost bodyAt0
  rw [show (rdats m c).owesAt () t.succ = (rdats m c).owesAt () t.castSucc from rfl]
  dsimp only [rdats]
  by_cases h0 : t.val % 4 = 0
  · iintro ⟨⟨⟨%xs, %hxs, Hs⟩, Hp⟩, Ho, H0, H1, H2, H3, H4, H5⟩
    iapply ((runFirst c (grid0.coords t) _ _ _ _ _ _ _ _ _ _ _ _ _ _ ((isFirst_iff t).mpr h0) (fun h => by have := (isLast_iff t).mp h; omega) (iblk m c 0 t) (iblk m c 1 t) (iblk m c 2 t) (iblk m c 3 t) (iblk m c 4 t) Y5 xs).2 Set.univ _)
    isplitl [H0]; · iexact H0
    isplitl [H1]; · iexact H1
    isplitl [H2]; · iexact H2
    isplitl [H3]; · iexact H3
    isplitl [H4]; · iexact H4
    isplitl [H5]; · iexact H5
    isplitl [Hs]; · iexact Hs
    iintro ⟨H0, H1, H2, H3, H4, H5, Hs⟩
    isplitl [Hs Hp]
    · isplitl [Hs]
      · iexists _; isplitr; · ipureintro; exact cast_first m c t h0
        unfold owns; iexists _; isplitr
        swap; · iexact Hs
        ipureintro; exact read_cast c _ _ _ _ _ _ _ _ _ _ _ _ _ _ _ _ _ _ _ _ _ _ _ _
      · iexact Hp
    isplitl [Ho]; · iexact Ho
    isplitl [H0]; · iexact H0
    isplitl [H1]; · iexact H1
    isplitl [H2]; · iexact H2
    isplitl [H3]; · iexact H3
    isplitl [H4]; · iexact H4
    iexists _; isplitr; · ipureintro; exact ⟨xs, hxs, rfl⟩
    unfold owns; iexists _; isplitr
    swap; · iexact H5
    ipureintro; unfold stepOut; rw [dif_pos h0]
  · by_cases h3 : t.val % 4 = 3
    · iintro ⟨⟨⟨%xs, %hxs, Hs⟩, Hp⟩, Ho, H0, H1, H2, H3, H4, H5⟩
      iapply ((runLast c (grid0.coords t) _ _ _ _ _ _ _ _ _ _ _ _ _ _ (fun h => h0 ((isFirst_iff t).mp h)) ((isLast_iff t).mpr h3) (iblk m c 0 t) (iblk m c 1 t) (iblk m c 2 t) (iblk m c 3 t) (iblk m c 4 t) Y5 xs).2 Set.univ _)
      isplitl [H0]; · iexact H0
      isplitl [H1]; · iexact H1
      isplitl [H2]; · iexact H2
      isplitl [H3]; · iexact H3
      isplitl [H4]; · iexact H4
      isplitl [H5]; · iexact H5
      isplitl [Hs]; · iexact Hs
      iintro ⟨H0, H1, H2, H3, H4, H5, Hs⟩
      isplitl [Hs Hp]
      · isplitl [Hs]
        · iexists _; isplitr; · ipureintro; exact cast_succ m c t h0 xs hxs
          iexact Hs
        · iexact Hp
      isplitl [Ho]; · iexact Ho
      isplitl [H0]; · iexact H0
      isplitl [H1]; · iexact H1
      isplitl [H2]; · iexact H2
      isplitl [H3]; · iexact H3
      isplitl [H4]; · iexact H4
      iexists _; isplitr; · ipureintro; exact ⟨xs, hxs, rfl⟩
      unfold owns; iexists _; isplitr
      swap; · iexact H5
      ipureintro; unfold stepOut; rw [dif_neg h0, dif_pos h3]
    · iintro ⟨⟨⟨%xs, %hxs, Hs⟩, Hp⟩, Ho, H0, H1, H2, H3, H4, H5⟩
      iapply ((runMid c (grid0.coords t) _ _ _ _ _ _ _ _ _ _ _ _ _ _ (fun h => h0 ((isFirst_iff t).mp h)) (fun h => h3 ((isLast_iff t).mp h)) (iblk m c 0 t) (iblk m c 1 t) (iblk m c 2 t) (iblk m c 3 t) (iblk m c 4 t) Y5 xs).2 Set.univ _)
      isplitl [H0]; · iexact H0
      isplitl [H1]; · iexact H1
      isplitl [H2]; · iexact H2
      isplitl [H3]; · iexact H3
      isplitl [H4]; · iexact H4
      isplitl [H5]; · iexact H5
      isplitl [Hs]; · iexact Hs
      iintro ⟨H0, H1, H2, H3, H4, H5, Hs⟩
      isplitl [Hs Hp]
      · isplitl [Hs]
        · iexists _; isplitr; · ipureintro; exact cast_succ m c t h0 xs hxs
          iexact Hs
        · iexact Hp
      isplitl [Ho]; · iexact Ho
      isplitl [H0]; · iexact H0
      isplitl [H1]; · iexact H1
      isplitl [H2]; · iexact H2
      isplitl [H3]; · iexact H3
      isplitl [H4]; · iexact H4
      iexists _; isplitr; · ipureintro; exact ⟨xs, hxs, rfl⟩
      unfold owns; iexists _; isplitr
      swap; · iexact H5
      ipureintro; unfold stepOut; rw [dif_neg h0, dif_neg h3]

theorem defs₀_row (t : Fin cfg0.N) :
    defs₀ (F := F) .tc cfg0.body (cfg0.bodyArgs t (cfg0.slots t)) = bodyAt0 t := by
  unfold defs₀; rw [Defs.onTc_tc]

/-- The body obligation at every point: each input's buffer is found at its block. -/
theorem body_obligation (c : Dev nD) : (rdats (F := F) m c).BodyObligation (defs₀ (F := F)) Variants.none () Set.univ := fun t Y hY => by
  rw [bigSep_W0, bigSep_W0, defs₀_row]
  have e0 := finds_0 m c t _ (hY 0)
  have e1 := finds_1 m c t _ (hY 1)
  have e2 := finds_2 m c t _ (hY 2)
  have e3 := finds_3 m c t _ (hY 3)
  have e4 := finds_4 m c t _ (hY 4)
  rw [e0, e1, e2, e3, e4]
  refine triple_restated (sound_body m c t (Y 5)) rfl .rfl fun _ => ?_
  unfold bodyPost
  iintro ⟨HΦ, Ho, H0, H1, H2, H3, H4, H5⟩
  isplitl [HΦ]; · iexact HΦ
  isplitl [Ho]; · iexact Ho
  isplitl [H0]
  · iexists _; isplitr
    swap; · iexact H0
    ipureintro; dsimp only [rdats]
  isplitl [H1]
  · iexists _; isplitr
    swap; · iexact H1
    ipureintro; dsimp only [rdats]
  isplitl [H2]
  · iexists _; isplitr
    swap; · iexact H2
    ipureintro; dsimp only [rdats]
  isplitl [H3]
  · iexists _; isplitr
    swap; · iexact H3
    ipureintro; dsimp only [rdats]
  isplitl [H4]
  · iexists _; isplitr
    swap; · iexact H4
    ipureintro; dsimp only [rdats]
  iexact H5

theorem hin (c : Dev nD) : Pipeline.ΦA spec0 c ⊢ (rdats (F := F) m c).Φ 0 := by
  unfold Pipeline.ΦA
  rw [scopedRest0_eq]
  dsimp only [rdats]
  iintro ⟨⟨%f, H⟩, Hp⟩
  isplitl [H]
  · iexists _; isplitr
    swap
    · rw [owns_whole]
      iexact H
    ipureintro; exact fun h => absurd rfl h
  iexact Hp

theorem hout (c : Dev nD) : (rdats (F := F) m c).Φ (Fin.last cfg0.N) ⊢ Pipeline.ΦA spec0 c := by
  unfold Pipeline.ΦA
  rw [scopedRest0_eq]
  dsimp only [rdats]
  simp only [owns_whole]
  iintro ⟨⟨%xs, %hxs, H⟩, Hp⟩
  isplitl [H]
  · iexists xs
    iexact H
  iexact Hp

set_option backward.isDefEq.respectTransparency.types false in
/-- The run: every array at what the data allow, every other buffer as found, the counters at zero. -/
theorem run_main_quiescent : θ_run defs (onTc (τ := τ) (main (F := F))) (s₀ m ρ) (fun r => (RDat.FramePost cfg0 (rdats m) (V m)) r ∧ r.2.sem = fun _ => 0) :=
  RDat.θ_run_frame_track (Q' := _) cfgs (0 : Fin 1) launch0 defs₀ Variants.none (rdats m) m ρ main
    (hbody := body_obligation m) (hshare := fun c => (rdats m c).share_full fun _ => rfl)
    (howed := fun _ _ => rfl) (V := V m) (hmain := hmain m Variants.none) (hA := A_eq m) (hin := hin m) (hout := hout m)

theorem run_main : θ_run defs (onTc (τ := τ) (main (F := F))) (s₀ m ρ) (RDat.FramePost cfg0 (rdats m) (V m)) :=
  (θ_run defs _ _).mono (fun _ h => h.1) (run_main_quiescent m ρ)

/-- The arguments after the run. -/
theorem args_eq (r : PUnit × MemSt nD τ sig (Elt F)) (h : RDat.FramePost cfg0 (rdats m) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨(h.arr_in c 0 rfl).trans ((A_eq m c 0).trans (V_main_arg0 m c)),
    ((h c).2 main_arg1 (Pipeline.mem_restRefs_of main_arg1 (by decide) (by decide))).trans (V_main_arg1 m c),
    (h.arr_in c 2 rfl).trans ((A_eq m c 2).trans (V_main_arg2 m c)),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩

/-- The frame: the arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨args_eq m r h.1, h.2⟩) (run_main_quiescent m ρ)

end Cert.PleKernelIdeal.Hand

end
-- ==== Proof.PleRead.lean ====
/- What a run of the per-layer embedding's body leaves in its output block, element by element. -/
module

public import proofs.«01_k».proof.Proof.PleFrame
public import Idealize.ShloMosaic.Lib.Pipeline.ValueKit
public import Idealize.ShloMosaic.Lib.Pointwise

@[expose] public section

set_option maxRecDepth 16384

noncomputable section

namespace Cert.PleKernelIdeal.Hand

open Cert.PleKernelIdeal Cert.PleKernelIdeal.Gen Idealize.ShloMosaic Idealize.ShloMosaic.TcCoe Idealize.SL.Sem

/-- The logistic function, as the kernel spells it. -/
abbrev logistic (s : EReal) : EReal := Ideal.div 1 (1 + Ideal.exp (0 - s))

/-- A gated embedding: the product with the embedding's weights by the logistic of the product with the gate's. -/
def gated (x1 : Vec Ideal S512x256 .f32) (x2 : Vec Ideal S4096x1024 .bf16) (x3 : Vec Ideal S256x1024 .bf16) (xs : Vec Ideal S512x4096 .bf16) (a : Fin 512) (e : Fin 1024) : EReal :=
  (∑ d : Fin 256, x1 (ix2 a d) * x3 (ix2 d e)) * logistic (∑ d : Fin 4096, xs (ix2 a d) * x2 (ix2 d e))

/-- A row plus a normed row. -/
def rowOut (x y g : Fin 4096 → EReal) (b : Fin 4096) : EReal :=
  x b + y b * Ideal.rsqrt (Ideal.div (∑ d, y d * y d) (Ideal.ofBits FTy.f32 1166016512#32) + Ideal.ofBits FTy.f32 897988541#32) * g b

theorem readAt_at {R C r c : ℕ} {e : EltTy} (v : View sig .tc .vmem (⟨2, ![R, C]⟩ : Shape) e) (f : v.ty.Contents (Elt Ideal)) {off : Fin 2 → ℕ} {o p : ℕ}
    (inb : ∀ a, off a + (![r, c] : Fin 2 → ℕ) a ≤ (![R, C] : Fin 2 → ℕ) a) (ho : off = ![o, p]) (a : Fin r) (b : Fin c) (A : Fin R) (B : Fin C) (hA : A.val = o + a.val) (hB : B.val = p + b.val) :
    v.readAt (Elt Ideal) (Rect.unit (s := (⟨2, ![R, C]⟩ : Shape)) off ![r, c] inb).toLoadRect f (ix2 a b) = v.read (Elt Ideal) f (ix2 A B) := by
  subst ho
  refine congrArg (v.read (Elt Ideal) f) (funext fun k => Fin.ext ?_)
  match k with
  | ⟨0, _⟩ => exact (by show o + 1 * a.val = A.val; omega)
  | ⟨1, _⟩ => exact (by show p + 1 * b.val = B.val; omega)

theorem slab_col (x1 : Vec Ideal S512x256 .f32) (x2 : Vec Ideal S4096x1024 .bf16) (x3 : Vec Ideal S256x1024 .bf16) (xs : Vec Ideal S512x4096 .bf16)
    (p : Vec Ideal S512x256 .f32) (u : Vec Ideal S256x256 .bf16) (w : Vec Ideal S4096x256 .bf16) (k : ℕ) (hk : k + 256 ≤ 1024) (hp : p = x1)
    (hu : ∀ d (b : Fin 256), u (ix2 d b) = x3 (ix2 d ⟨k + b.val, by omega⟩)) (hw : ∀ d (b : Fin 256), w (ix2 d b) = x2 (ix2 d ⟨k + b.val, by omega⟩)) (a : Fin 512) (b : Fin 256) :
    k0_pay5 (F := Ideal) xs p u w (ix2 a b) = gated x1 x2 x3 xs a ⟨k + b.val, by omega⟩ := by
  have h : k0_pay5 (F := Ideal) xs p u w (ix2 a b) = (∑ d : Fin 256, p (ix2 a d) * u (ix2 d b)) * logistic (∑ d : Fin 4096, xs (ix2 a d) * w (ix2 d b)) := by
    pointwise [k0_pay5, k0_pay4]
  rw [h, hp]
  simp only [hu, hw]
  rfl

/-- The four stores of a point. -/
def slabs (i : grid0.Coords) (arg3 : Memref sig .tc .vmem S512x256 .f32) (harg3 : arg3.IsWhole) (arg4 : Memref sig .tc .vmem S4096x1024 .bf16) (harg4 : arg4.IsWhole) (arg5 : Memref sig .tc .vmem S256x1024 .bf16) (harg5 : arg5.IsWhole)
    (x1 : Vec Ideal S512x256 .f32) (x2 : Vec Ideal S4096x1024 .bf16) (x3 : Vec Ideal S256x1024 .bf16) (v3 : Vec Ideal S512x4096 .bf16) : List (View.Piece (Elt Ideal) S512x4096 .f32) :=
  [⟨Rect.unit (s := S512x4096) (k0_off1 i 768#32) S512x256.size (k0_off1_inb i 3), k0_pay1 (F := Ideal) v3 (k0_pay9 (k0_pay4 (arg3.view.readAt (Elt Ideal) (Rect.unit (s := S512x256) ![0, 0] S512x256.size inb_S512x256_S512x256_0_0).toLoadRect (harg3.unread x1))) (arg5.view.readAt (Elt Ideal) (Rect.unit (s := S256x1024) ![0, 768] S256x256.size inb_S256x1024_S256x256_0_768).toLoadRect (harg5.unread x3))) (arg4.view.readAt (Elt Ideal) (Rect.unit (s := S4096x1024) ![0, 768] S4096x256.size inb_S4096x1024_S4096x256_0_768).toLoadRect (harg4.unread x2))⟩,
   ⟨Rect.unit (s := S512x4096) (k0_off1 i 512#32) S512x256.size (k0_off1_inb i 2), k0_pay8 (F := Ideal) v3 (k0_pay4 (arg3.view.readAt (Elt Ideal) (Rect.unit (s := S512x256) ![0, 0] S512x256.size inb_S512x256_S512x256_0_0).toLoadRect (harg3.unread x1))) (arg5.view.readAt (Elt Ideal) (Rect.unit (s := S256x1024) ![0, 512] S256x256.size inb_S256x1024_S256x256_0_512).toLoadRect (harg5.unread x3)) (arg4.view.readAt (Elt Ideal) (Rect.unit (s := S4096x1024) ![0, 512] S4096x256.size inb_S4096x1024_S4096x256_0_512).toLoadRect (harg4.unread x2))⟩,
   ⟨Rect.unit (s := S512x4096) (k0_off1 i 256#32) S512x256.size (k0_off1_inb i 1), k0_pay7 (F := Ideal) v3 (k0_pay6 (arg3.view.readAt (Elt Ideal) (Rect.unit (s := S512x256) ![0, 0] S512x256.size inb_S512x256_S512x256_0_0).toLoadRect (harg3.unread x1)) (arg5.view.readAt (Elt Ideal) (Rect.unit (s := S256x1024) ![0, 256] S256x256.size inb_S256x1024_S256x256_0_256).toLoadRect (harg5.unread x3))) (arg4.view.readAt (Elt Ideal) (Rect.unit (s := S4096x1024) ![0, 256] S4096x256.size inb_S4096x1024_S4096x256_0_256).toLoadRect (harg4.unread x2))⟩,
   ⟨Rect.unit (s := S512x4096) (k0_off1 i 0#32) S512x256.size (k0_off1_inb i 0), k0_pay5 (F := Ideal) v3 (arg3.view.readAt (Elt Ideal) (Rect.unit (s := S512x256) ![0, 0] S512x256.size inb_S512x256_S512x256_0_0).toLoadRect (harg3.unread x1)) (arg5.view.readAt (Elt Ideal) (Rect.unit (s := S256x1024) ![0, 0] S256x256.size inb_S256x1024_S256x256_0_0).toLoadRect (harg5.unread x3)) (arg4.view.readAt (Elt Ideal) (Rect.unit (s := S4096x1024) ![0, 0] S4096x256.size inb_S4096x1024_S4096x256_0_0).toLoadRect (harg4.unread x2))⟩]

theorem read_slabs (v : View sig .tc .vmem S512x4096 .f32) (f : v.ty.Contents (Elt Ideal)) (i : grid0.Coords) (arg3 : Memref sig .tc .vmem S512x256 .f32) (harg3 : arg3.IsWhole) (arg4 : Memref sig .tc .vmem S4096x1024 .bf16) (harg4 : arg4.IsWhole) (arg5 : Memref sig .tc .vmem S256x1024 .bf16) (harg5 : arg5.IsWhole)
    (x1 : Vec Ideal S512x256 .f32) (x2 : Vec Ideal S4096x1024 .bf16) (x3 : Vec Ideal S256x1024 .bf16) (v3 : Vec Ideal S512x4096 .bf16) (a : Fin 512) (b : Fin 4096) :
    v.read (Elt Ideal) (v.writes (Elt Ideal) f (slabs i arg3 harg3 arg4 harg4 arg5 harg5 x1 x2 x3 v3)) (ix2 a b)
      = if h : 1024 * (i 1).val ≤ b.val ∧ b.val < 1024 * (i 1).val + 1024 then gated x1 x2 x3 v3 a ⟨b.val - 1024 * (i 1).val, by omega⟩ else v.read (Elt Ideal) f (ix2 a b) := by
  unfold slabs
  by_cases h3 : 1024 * (i 1).val + 768 ≤ b.val ∧ b.val < 1024 * (i 1).val + 768 + 256
  · rw [dif_pos (by omega : 1024 * (i 1).val ≤ b.val ∧ b.val < 1024 * (i 1).val + 1024)]
    refine (View.read_writes_cons_unit_of_mem v f _ _ _ _ (ix2 a (⟨b.val - (1024 * (i 1).val + 768), by omega⟩ : Fin 256)) (k0_off1_eq i 3) (fun k => ?_)).trans ?_
    · match k with
      | ⟨0, _⟩ => exact (Nat.zero_add _).symm
      | ⟨1, _⟩ => exact (by show b.val = 1024 * (i 1).val + 256 * 3 + (b.val - (1024 * (i 1).val + 768)); omega)
    refine (slab_col x1 x2 x3 v3 _ _ _ 768 (by omega) ((View.readAt_full _ _ _).trans (harg3.read_unread _)) (fun d e => ?_) (fun d e => ?_) a _).trans ?_
    · exact (readAt_at arg5.view _ _ rfl d e d _ (Nat.zero_add _).symm rfl).trans (congrFun (harg5.read_unread _) _)
    · exact (readAt_at arg4.view _ _ rfl d e d _ (Nat.zero_add _).symm rfl).trans (congrFun (harg4.read_unread _) _)
    · exact congrArg (gated x1 x2 x3 v3 a) (Fin.ext (by show 768 + (b.val - (1024 * (i 1).val + 768)) = b.val - 1024 * (i 1).val; omega))
  refine (View.read_writes_cons_unit_of_not_mem v f _ _ _ _ (k0_off1_eq i 3) (1 : Fin 2) (by show b.val < 1024 * (i 1).val + 256 * 3 ∨ 1024 * (i 1).val + 256 * 3 + 256 ≤ b.val; omega)).trans ?_
  by_cases h2 : 1024 * (i 1).val + 512 ≤ b.val ∧ b.val < 1024 * (i 1).val + 512 + 256
  · rw [dif_pos (by omega : 1024 * (i 1).val ≤ b.val ∧ b.val < 1024 * (i 1).val + 1024)]
    refine (View.read_writes_cons_unit_of_mem v f _ _ _ _ (ix2 a (⟨b.val - (1024 * (i 1).val + 512), by omega⟩ : Fin 256)) (k0_off1_eq i 2) (fun k => ?_)).trans ?_
    · match k with
      | ⟨0, _⟩ => exact (Nat.zero_add _).symm
      | ⟨1, _⟩ => exact (by show b.val = 1024 * (i 1).val + 256 * 2 + (b.val - (1024 * (i 1).val + 512)); omega)
    refine (slab_col x1 x2 x3 v3 _ _ _ 512 (by omega) ((View.readAt_full _ _ _).trans (harg3.read_unread _)) (fun d e => ?_) (fun d e => ?_) a _).trans ?_
    · exact (readAt_at arg5.view _ _ rfl d e d _ (Nat.zero_add _).symm rfl).trans (congrFun (harg5.read_unread _) _)
    · exact (readAt_at arg4.view _ _ rfl d e d _ (Nat.zero_add _).symm rfl).trans (congrFun (harg4.read_unread _) _)
    · exact congrArg (gated x1 x2 x3 v3 a) (Fin.ext (by show 512 + (b.val - (1024 * (i 1).val + 512)) = b.val - 1024 * (i 1).val; omega))
  refine (View.read_writes_cons_unit_of_not_mem v f _ _ _ _ (k0_off1_eq i 2) (1 : Fin 2) (by show b.val < 1024 * (i 1).val + 256 * 2 ∨ 1024 * (i 1).val + 256 * 2 + 256 ≤ b.val; omega)).trans ?_
  by_cases h1 : 1024 * (i 1).val + 256 ≤ b.val ∧ b.val < 1024 * (i 1).val + 256 + 256
  · rw [dif_pos (by omega : 1024 * (i 1).val ≤ b.val ∧ b.val < 1024 * (i 1).val + 1024)]
    refine (View.read_writes_cons_unit_of_mem v f _ _ _ _ (ix2 a (⟨b.val - (1024 * (i 1).val + 256), by omega⟩ : Fin 256)) (k0_off1_eq i 1) (fun k => ?_)).trans ?_
    · match k with
      | ⟨0, _⟩ => exact (Nat.zero_add _).symm
      | ⟨1, _⟩ => exact (by show b.val = 1024 * (i 1).val + 256 * 1 + (b.val - (1024 * (i 1).val + 256)); omega)
    refine (slab_col x1 x2 x3 v3 _ _ _ 256 (by omega) ((View.readAt_full _ _ _).trans (harg3.read_unread _)) (fun d e => ?_) (fun d e => ?_) a _).trans ?_
    · exact (readAt_at arg5.view _ _ rfl d e d _ (Nat.zero_add _).symm rfl).trans (congrFun (harg5.read_unread _) _)
    · exact (readAt_at arg4.view _ _ rfl d e d _ (Nat.zero_add _).symm rfl).trans (congrFun (harg4.read_unread _) _)
    · exact congrArg (gated x1 x2 x3 v3 a) (Fin.ext (by show 256 + (b.val - (1024 * (i 1).val + 256)) = b.val - 1024 * (i 1).val; omega))
  refine (View.read_writes_cons_unit_of_not_mem v f _ _ _ _ (k0_off1_eq i 1) (1 : Fin 2) (by show b.val < 1024 * (i 1).val + 256 * 1 ∨ 1024 * (i 1).val + 256 * 1 + 256 ≤ b.val; omega)).trans ?_
  by_cases h0 : 1024 * (i 1).val + 0 ≤ b.val ∧ b.val < 1024 * (i 1).val + 0 + 256
  · rw [dif_pos (by omega : 1024 * (i 1).val ≤ b.val ∧ b.val < 1024 * (i 1).val + 1024)]
    refine (View.read_writes_cons_unit_of_mem v f _ _ _ _ (ix2 a (⟨b.val - (1024 * (i 1).val + 0), by omega⟩ : Fin 256)) (k0_off1_eq i 0) (fun k => ?_)).trans ?_
    · match k with
      | ⟨0, _⟩ => exact (Nat.zero_add _).symm
      | ⟨1, _⟩ => exact (by show b.val = 1024 * (i 1).val + 256 * 0 + (b.val - (1024 * (i 1).val + 0)); omega)
    refine (slab_col x1 x2 x3 v3 _ _ _ 0 (by omega) ((View.readAt_full _ _ _).trans (harg3.read_unread _)) (fun d e => ?_) (fun d e => ?_) a _).trans ?_
    · exact (readAt_at arg5.view _ _ rfl d e d _ (Nat.zero_add _).symm rfl).trans (congrFun (harg5.read_unread _) _)
    · exact (readAt_at arg4.view _ _ rfl d e d _ (Nat.zero_add _).symm rfl).trans (congrFun (harg4.read_unread _) _)
    · exact congrArg (gated x1 x2 x3 v3 a) (Fin.ext (by show 0 + (b.val - (1024 * (i 1).val + 0)) = b.val - 1024 * (i 1).val; omega))
  refine (View.read_writes_cons_unit_of_not_mem v f _ _ _ _ (k0_off1_eq i 0) (1 : Fin 2) (by show b.val < 1024 * (i 1).val + 256 * 0 ∨ 1024 * (i 1).val + 256 * 0 + 256 ≤ b.val; omega)).trans ?_
  rw [dif_neg (by omega), View.writes_nil]

theorem read_mid (c : Dev nD) (i : grid0.Coords) (arg2 : Memref sig .tc .vmem S512x4096 .f32) (harg2 : arg2.IsWhole) (arg3 : Memref sig .tc .vmem S512x256 .f32) (harg3 : arg3.IsWhole) (arg4 : Memref sig .tc .vmem S4096x1024 .bf16) (harg4 : arg4.IsWhole) (arg5 : Memref sig .tc .vmem S256x1024 .bf16) (harg5 : arg5.IsWhole) (arg6 : Memref sig .tc .vmem S1x4096 .f32) (harg6 : arg6.IsWhole) (arg7 : Memref sig .tc .vmem S512x4096 .f32) (harg7 : arg7.IsWhole) (arg8 : Memref sig .tc .vmem S512x4096 .bf16) (harg8 : arg8.IsWhole) (h1 : ¬isFirst i) (h2 : ¬isLast i)
    (x0 : Vec Ideal S512x4096 .f32) (x1 : Vec Ideal S512x256 .f32) (x2 : Vec Ideal S4096x1024 .bf16) (x3 : Vec Ideal S256x1024 .bf16) (x4 : Vec Ideal S1x4096 .f32) (xo : Vec Ideal S512x4096 .f32) (xs : Vec Ideal S512x4096 .bf16) (a : Fin 512) (b : Fin 4096) :
    arg7.view.read (Elt Ideal) (runMid (F := Ideal) c i arg2 harg2 arg3 harg3 arg4 harg4 arg5 harg5 arg6 harg6 arg7 harg7 arg8 harg8 h1 h2 x0 x1 x2 x3 x4 xo xs).1 (ix2 a b)
      = if h : 1024 * (i 1).val ≤ b.val ∧ b.val < 1024 * (i 1).val + 1024 then gated x1 x2 x3 xs a ⟨b.val - 1024 * (i 1).val, by omega⟩ else xo (ix2 a b) := by
  have e : (runMid (F := Ideal) c i arg2 harg2 arg3 harg3 arg4 harg4 arg5 harg5 arg6 harg6 arg7 harg7 arg8 harg8 h1 h2 x0 x1 x2 x3 x4 xo xs).1 = arg7.view.writes (Elt Ideal) (harg7.unread xo) (slabs i arg3 harg3 arg4 harg4 arg5 harg5 x1 x2 x3 (arg8.view.readAt (Elt Ideal) (Rect.unit (s := S512x4096) ![0, 0] S512x4096.size inb_S512x4096_S512x4096_0_0).toLoadRect (harg8.unread xs))) := by
    unfold runMid slabs; rfl
  rw [e, read_slabs, View.readAt_full, harg8.read_unread, harg7.read_unread]

theorem read_first (c : Dev nD) (i : grid0.Coords) (arg2 : Memref sig .tc .vmem S512x4096 .f32) (harg2 : arg2.IsWhole) (arg3 : Memref sig .tc .vmem S512x256 .f32) (harg3 : arg3.IsWhole) (arg4 : Memref sig .tc .vmem S4096x1024 .bf16) (harg4 : arg4.IsWhole) (arg5 : Memref sig .tc .vmem S256x1024 .bf16) (harg5 : arg5.IsWhole) (arg6 : Memref sig .tc .vmem S1x4096 .f32) (harg6 : arg6.IsWhole) (arg7 : Memref sig .tc .vmem S512x4096 .f32) (harg7 : arg7.IsWhole) (arg8 : Memref sig .tc .vmem S512x4096 .bf16) (harg8 : arg8.IsWhole) (h1 : isFirst i) (h2 : ¬isLast i)
    (x0 : Vec Ideal S512x4096 .f32) (x1 : Vec Ideal S512x256 .f32) (x2 : Vec Ideal S4096x1024 .bf16) (x3 : Vec Ideal S256x1024 .bf16) (x4 : Vec Ideal S1x4096 .f32) (xo : Vec Ideal S512x4096 .f32) (xs : Vec Ideal S512x4096 .bf16) (a : Fin 512) (b : Fin 4096) :
    arg7.view.read (Elt Ideal) (runFirst (F := Ideal) c i arg2 harg2 arg3 harg3 arg4 harg4 arg5 harg5 arg6 harg6 arg7 harg7 arg8 harg8 h1 h2 x0 x1 x2 x3 x4 xo xs).1.1 (ix2 a b)
      = if h : 1024 * (i 1).val ≤ b.val ∧ b.val < 1024 * (i 1).val + 1024 then gated x1 x2 x3 (k0_pay3 x0) a ⟨b.val - 1024 * (i 1).val, by omega⟩ else xo (ix2 a b) := by
  have e : (runFirst (F := Ideal) c i arg2 harg2 arg3 harg3 arg4 harg4 arg5 harg5 arg6 harg6 arg7 harg7 arg8 harg8 h1 h2 x0 x1 x2 x3 x4 xo xs).1.1 = arg7.view.writes (Elt Ideal) (harg7.unread xo) (slabs i arg3 harg3 arg4 harg4 arg5 harg5 x1 x2 x3 (runFirst.sl.v3 c arg2 harg2 arg8 x0)) := by
    unfold runFirst slabs; rfl
  have e3 : runFirst.sl.v3 (F := Ideal) c arg2 harg2 arg8 x0 = k0_pay3 x0 := by
    unfold runFirst.sl.v3 runFirst.sl.H6_1
    exact (View.readCov_full _ _ _ _ _).trans (congrArg k0_pay3 ((View.readAt_full _ _ _).trans (harg2.read_unread _)))
  rw [e, read_slabs, e3, harg7.read_unread]

theorem trip_eq (𝒱 : Variants) (c : Dev nD) (bd : Option 𝒱.V) (i : grid0.Coords) (arg2 : Memref sig .tc .vmem S512x4096 .f32) (harg2 : arg2.IsWhole) (arg3 : Memref sig .tc .vmem S512x256 .f32) (harg3 : arg3.IsWhole) (arg4 : Memref sig .tc .vmem S4096x1024 .bf16) (harg4 : arg4.IsWhole) (arg5 : Memref sig .tc .vmem S256x1024 .bf16) (harg5 : arg5.IsWhole) (arg6 : Memref sig .tc .vmem S1x4096 .f32) (harg6 : arg6.IsWhole) (arg7 : Memref sig .tc .vmem S512x4096 .f32) (harg7 : arg7.IsWhole) (arg8 : Memref sig .tc .vmem S512x4096 .bf16) (harg8 : arg8.IsWhole) (k0_h2 : k0_cond2 i = 1#1) (v82 : Vec Ideal S1x4096 .f32) (X : BufTy.Contents (Elt Ideal) arg2.view.ty) (k : Fin k0_t1_loop.trips) (G : BufTy.Contents (Elt Ideal) arg7.view.ty) :
    tripL_k0_t1 (F := Ideal) 𝒱 c bd i arg2 harg2 arg3 harg3 arg4 harg4 arg5 harg5 arg6 harg6 arg7 harg7 arg8 harg8 k0_h2 v82 X k G
      = [⟨Rect.unit (s := S512x4096) (k0_off2 k) S64x4096.size (k0_off2_inb i k k0_h2), k0_pay2 (F := Ideal) v82 (arg2.view.readAt (Elt Ideal) (Rect.unit (s := S512x4096) (k0_off2 k) S64x4096.size (k0_off2_inb i k k0_h2)).toLoadRect X) (arg7.view.readAt (Elt Ideal) (Rect.unit (s := S512x4096) (k0_off2 k) S64x4096.size (k0_off2_inb i k k0_h2)).toLoadRect G)⟩] := by
  unfold tripL_k0_t1 trip_k0_t1; rfl

theorem read_loop (𝒱 : Variants) (c : Dev nD) (bd : Option 𝒱.V) (i : grid0.Coords) (arg2 : Memref sig .tc .vmem S512x4096 .f32) (harg2 : arg2.IsWhole) (arg3 : Memref sig .tc .vmem S512x256 .f32) (harg3 : arg3.IsWhole) (arg4 : Memref sig .tc .vmem S4096x1024 .bf16) (harg4 : arg4.IsWhole) (arg5 : Memref sig .tc .vmem S256x1024 .bf16) (harg5 : arg5.IsWhole) (arg6 : Memref sig .tc .vmem S1x4096 .f32) (harg6 : arg6.IsWhole) (arg7 : Memref sig .tc .vmem S512x4096 .f32) (harg7 : arg7.IsWhole) (arg8 : Memref sig .tc .vmem S512x4096 .bf16) (harg8 : arg8.IsWhole) (k0_h2 : k0_cond2 i = 1#1) (v82 : Vec Ideal S1x4096 .f32) (X : BufTy.Contents (Elt Ideal) arg2.view.ty) (G : BufTy.Contents (Elt Ideal) arg7.view.ty) (n : ℕ) (hn : n ≤ k0_t1_loop.trips) (a : Fin 512) (b : Fin 4096) :
    arg7.view.read (Elt Ideal) (arg7.view.writes (Elt Ideal) G (pb_k0_t1 (F := Ideal) 𝒱 c bd i arg2 harg2 arg3 harg3 arg4 harg4 arg5 harg5 arg6 harg6 arg7 harg7 arg8 harg8 k0_h2 v82 X G n)) (ix2 a b)
      = if a.val < 64 * n then rowOut (fun d => arg2.view.read (Elt Ideal) X (ix2 a d)) (fun d => arg7.view.read (Elt Ideal) G (ix2 a d)) (fun d => v82 (ix2 0 d)) b
        else arg7.view.read (Elt Ideal) G (ix2 a b) := by
  induction n generalizing b with
  | zero => rw [if_neg (by omega)]; rfl
  | succ n ih =>
    have hs := pb_k0_t1_succ (F := Ideal) 𝒱 c bd i arg2 harg2 arg3 harg3 arg4 harg4 arg5 harg5 arg6 harg6 arg7 harg7 arg8 harg8 k0_h2 v82 X G ⟨n, hn⟩
    dsimp only at hs
    rw [hs, trip_eq, List.singleton_append]
    by_cases h : 64 * n ≤ a.val ∧ a.val < 64 * n + 64
    · rw [if_pos (by omega)]
      refine (View.read_writes_cons_unit_of_mem arg7.view G _ _ _ _ (ix2 (⟨a.val - 64 * n, by omega⟩ : Fin 64) b) (k0_off2_eq ⟨n, hn⟩) (fun k => ?_)).trans ?_
      · match k with
        | ⟨0, _⟩ => exact (by show a.val = 64 * n + (a.val - 64 * n); omega)
        | ⟨1, _⟩ => exact (Nat.zero_add _).symm
      have hx : ∀ d, arg2.view.readAt (Elt Ideal) (Rect.unit (s := S512x4096) (k0_off2 ⟨n, hn⟩) S64x4096.size (k0_off2_inb i ⟨n, hn⟩ k0_h2)).toLoadRect X (ix2 (⟨a.val - 64 * n, by omega⟩ : Fin 64) d) = arg2.view.read (Elt Ideal) X (ix2 a d) := fun d =>
        readAt_at arg2.view X _ (k0_off2_eq ⟨n, hn⟩) _ d a d (by show a.val = 64 * n + (a.val - 64 * n); omega) (Nat.zero_add _).symm
      have hy : ∀ d, arg7.view.readAt (Elt Ideal) (Rect.unit (s := S512x4096) (k0_off2 ⟨n, hn⟩) S64x4096.size (k0_off2_inb i ⟨n, hn⟩ k0_h2)).toLoadRect (arg7.view.writes (Elt Ideal) G (pb_k0_t1 (F := Ideal) 𝒱 c bd i arg2 harg2 arg3 harg3 arg4 harg4 arg5 harg5 arg6 harg6 arg7 harg7 arg8 harg8 k0_h2 v82 X G n)) (ix2 (⟨a.val - 64 * n, by omega⟩ : Fin 64) d) = arg7.view.read (Elt Ideal) G (ix2 a d) := fun d =>
        (readAt_at arg7.view _ _ (k0_off2_eq ⟨n, hn⟩) _ d a d (by show a.val = 64 * n + (a.val - 64 * n); omega) (Nat.zero_add _).symm).trans ((ih (by omega) d).trans (if_neg (by omega)))
      have hp : ∀ (x y : Vec Ideal S64x4096 .f32) (a' : Fin 64), k0_pay2 (F := Ideal) v82 x y (ix2 a' b) = rowOut (fun d => x (ix2 a' d)) (fun d => y (ix2 a' d)) (fun d => v82 (ix2 0 d)) b := fun x y a' => by
        pointwise [k0_pay2, rowOut]
      refine (hp _ _ _).trans ?_
      simp only [hx, hy]
    · refine (View.read_writes_cons_unit_of_not_mem arg7.view G _ _ _ _ (k0_off2_eq ⟨n, hn⟩) (0 : Fin 2) (by show a.val < 64 * n ∨ 64 * n + 64 ≤ a.val; omega)).trans ?_
      rw [ih (by omega)]
      by_cases h' : a.val < 64 * n
      · rw [if_pos h', if_pos (by omega)]
      · rw [if_neg h', if_neg (by omega)]

theorem read_last (c : Dev nD) (i : grid0.Coords) (arg2 : Memref sig .tc .vmem S512x4096 .f32) (harg2 : arg2.IsWhole) (arg3 : Memref sig .tc .vmem S512x256 .f32) (harg3 : arg3.IsWhole) (arg4 : Memref sig .tc .vmem S4096x1024 .bf16) (harg4 : arg4.IsWhole) (arg5 : Memref sig .tc .vmem S256x1024 .bf16) (harg5 : arg5.IsWhole) (arg6 : Memref sig .tc .vmem S1x4096 .f32) (harg6 : arg6.IsWhole) (arg7 : Memref sig .tc .vmem S512x4096 .f32) (harg7 : arg7.IsWhole) (arg8 : Memref sig .tc .vmem S512x4096 .bf16) (harg8 : arg8.IsWhole) (h1 : ¬isFirst i) (h2 : isLast i)
    (x0 : Vec Ideal S512x4096 .f32) (x1 : Vec Ideal S512x256 .f32) (x2 : Vec Ideal S4096x1024 .bf16) (x3 : Vec Ideal S256x1024 .bf16) (x4 : Vec Ideal S1x4096 .f32) (xo : Vec Ideal S512x4096 .f32) (xs : Vec Ideal S512x4096 .bf16) (a : Fin 512) (b : Fin 4096) :
    arg7.view.read (Elt Ideal) (runLast (F := Ideal) c i arg2 harg2 arg3 harg3 arg4 harg4 arg5 harg5 arg6 harg6 arg7 harg7 arg8 harg8 h1 h2 x0 x1 x2 x3 x4 xo xs).1 (ix2 a b)
      = rowOut (fun d => x0 (ix2 a d)) (fun d => if h : 1024 * (i 1).val ≤ d.val ∧ d.val < 1024 * (i 1).val + 1024 then gated x1 x2 x3 xs a ⟨d.val - 1024 * (i 1).val, by omega⟩ else xo (ix2 a d)) (fun d => x4 (ix2 0 d)) b := by
  have e : (runLast (F := Ideal) c i arg2 harg2 arg3 harg3 arg4 harg4 arg5 harg5 arg6 harg6 arg7 harg7 arg8 harg8 h1 h2 x0 x1 x2 x3 x4 xo xs).1
      = arg7.view.writes (Elt Ideal) (harg7.unread xo) (pb_k0_t1 (F := Ideal) Variants.none c none i arg2 harg2 arg3 harg3 arg4 harg4 arg5 harg5 arg6 harg6 arg7 harg7 arg8 harg8 h2 (arg6.view.readAt (Elt Ideal) (Rect.unit (s := S1x4096) ![0, 0] S1x4096.size inb_S1x4096_S1x4096_0_0).toLoadRect (harg6.unread x4)) (harg2.unread x0)
          (arg7.view.writes (Elt Ideal) (harg7.unread xo) (slabs i arg3 harg3 arg4 harg4 arg5 harg5 x1 x2 x3 (arg8.view.readAt (Elt Ideal) (Rect.unit (s := S512x4096) ![0, 0] S512x4096.size inb_S512x4096_S512x4096_0_0).toLoadRect (harg8.unread xs)))) k0_t1_loop.trips
        ++ slabs i arg3 harg3 arg4 harg4 arg5 harg5 x1 x2 x3 (arg8.view.readAt (Elt Ideal) (Rect.unit (s := S512x4096) ![0, 0] S512x4096.size inb_S512x4096_S512x4096_0_0).toLoadRect (harg8.unread xs))) := by
    unfold runLast slabs; rfl
  have e8 : arg8.view.readAt (Elt Ideal) (Rect.unit (s := S512x4096) ![0, 0] S512x4096.size inb_S512x4096_S512x4096_0_0).toLoadRect (harg8.unread xs) = xs := (View.readAt_full _ _ _).trans (harg8.read_unread _)
  have e6 : arg6.view.readAt (Elt Ideal) (Rect.unit (s := S1x4096) ![0, 0] S1x4096.size inb_S1x4096_S1x4096_0_0).toLoadRect (harg6.unread x4) = x4 := (View.readAt_full _ _ _).trans (harg6.read_unread _)
  rw [e, e8, e6, View.writes_append, read_loop _ _ _ _ _ _ _ _ _ _ _ _ _ _ _ _ _ _ _ _ _ _ _ le_rfl, if_pos (by show a.val < 64 * 8; omega)]
  simp only [read_slabs, harg7.read_unread, harg2.read_unread]

end Cert.PleKernelIdeal.Hand

end
-- ==== Proof.PleValue.lean ====
/- The value of the per-layer embedding: four points gate a row of blocks by columns, and the last adds the normed row. -/
module

public import proofs.«01_k».proof.Proof.PleRead
public import proofs.«01_k».proof.Proof.Gen.PleReferenceIdeal
public import proofs.«01_k».proof.Proof.Gen.PleReferenceIdeal.Run
public import Idealize.ShloMosaic.Lib.Pipeline.ArrRel

@[expose] public section

set_option maxRecDepth 16384

noncomputable section

namespace Cert.PleKernelIdeal.Hand

open Cert.PleKernelIdeal Cert.PleKernelIdeal.Gen Idealize.ShloMosaic Idealize.ShloMosaic.TcCoe Idealize.SL.Sem
open Idealize.ShloMosaic.Pipeline (RDat Dat)

/-- The reference's gated embedding. -/
def embRef (x : FVec Ideal Cert.PleReferenceIdeal.S16384x4096 .f32) (p : FVec Ideal Cert.PleReferenceIdeal.S16384x256 .f32) (wg : FVec Ideal Cert.PleReferenceIdeal.S4096x4096 .bf16) (w : FVec Ideal Cert.PleReferenceIdeal.S256x4096 .f32) : FVec Ideal Cert.PleReferenceIdeal.S16384x4096 .f32 :=
  mulf (Host.dotGeneral Cert.PleReferenceIdeal.dot_S16384x256_S256x4096_S16384x4096_1_0_0_1_n_n none p w) (Host.divf (broadcastInDim Cert.PleReferenceIdeal.S16384x4096 ![] Cert.PleReferenceIdeal.Gen.bcast_S_S16384x4096 (constant Cert.PleReferenceIdeal.S_ .f32 0x3F800000#32)) (addf (broadcastInDim Cert.PleReferenceIdeal.S16384x4096 ![] Cert.PleReferenceIdeal.Gen.bcast_S_S16384x4096 (constant Cert.PleReferenceIdeal.S_ .f32 0x3F800000#32)) (Host.exp (Host.negf (Host.dotGeneral Cert.PleReferenceIdeal.dot_S16384x4096_S4096x4096_S16384x4096_1_0_0_1_n_n none x (extf .f32 wg Cert.PleReferenceIdeal.Gen.bitsLt_bf16_f32))))))

/-- The reference's sum of `x` and a normed `e`. -/
def addNorm (x e : FVec Ideal Cert.PleReferenceIdeal.S16384x4096 .f32) (g : FVec Ideal Cert.PleReferenceIdeal.S1x4096 .f32) : FVec Ideal Cert.PleReferenceIdeal.S16384x4096 .f32 :=
  addf x (mulf (mulf e (broadcastInDim Cert.PleReferenceIdeal.S16384x4096 ![0, 1] Cert.PleReferenceIdeal.Gen.bcast_S16384x1_S16384x4096_0_1 (Host.rsqrt (addf (Host.divf (broadcastInDim Cert.PleReferenceIdeal.S16384x1 ![0] Cert.PleReferenceIdeal.Gen.bcast_S16384_S16384x1_0 (Host.reduceAdd (mulf e e) (constant Cert.PleReferenceIdeal.S_ .f32 0x00000000#32) Cert.PleReferenceIdeal.Gen.reducesTo_S16384x4096_S16384_d1 Cert.PleReferenceIdeal.Gen.h_S_)) (broadcastInDim Cert.PleReferenceIdeal.S16384x1 ![] Cert.PleReferenceIdeal.Gen.bcast_S_S16384x1 (constant Cert.PleReferenceIdeal.S_ .f32 0x45800000#32))) (broadcastInDim Cert.PleReferenceIdeal.S16384x1 ![] Cert.PleReferenceIdeal.Gen.bcast_S_S16384x1 (constant Cert.PleReferenceIdeal.S_ .f32 0x358637BD#32)))))) (broadcastInDim Cert.PleReferenceIdeal.S16384x4096 ![0, 1] Cert.PleReferenceIdeal.Gen.bcast_S1x4096_S16384x4096_0_1 (broadcastInDim Cert.PleReferenceIdeal.S1x4096 ![1] Cert.PleReferenceIdeal.Gen.bcast_S4096_S1x4096_1 (shapeCast _ g Cert.PleReferenceIdeal.Gen.shapeCasts_S1x4096_S4096))))

/-- The reference's result as a function of its five arguments. -/
def pleRef (x : FVec Ideal Cert.PleReferenceIdeal.S16384x4096 .f32) (p : FVec Ideal Cert.PleReferenceIdeal.S1x2x8192x256 .f32) (wg : FVec Ideal Cert.PleReferenceIdeal.S4096x4096 .bf16) (w : FVec Ideal Cert.PleReferenceIdeal.S1x256x4096 .f32) (g : FVec Ideal Cert.PleReferenceIdeal.S1x4096 .f32) : FVec Ideal Cert.PleReferenceIdeal.S16384x4096 .f32 :=
  addNorm x (embRef x (shapeCast _ (shapeCast _ p Cert.PleReferenceIdeal.Gen.shapeCasts_S1x2x8192x256_S2x8192x256) Cert.PleReferenceIdeal.Gen.shapeCasts_S2x8192x256_S16384x256) wg (shapeCast _ w Cert.PleReferenceIdeal.Gen.shapeCasts_S1x256x4096_S256x4096)) g

/-- An element of the gated embedding. -/
def emb (x : Fin 16384 → Fin 4096 → EReal) (p : Fin 16384 → Fin 256 → EReal) (wg : Fin 4096 → Fin 4096 → EReal) (w : Fin 256 → Fin 4096 → EReal) (A : Fin 16384) (B : Fin 4096) : EReal :=
  (∑ d, p A d * w d B) * logistic (∑ d, x A d * wg d B)

theorem embRef_at (x p wg w) (A : Fin 16384) (B : Fin 4096) :
    embRef x p wg w (ix2 A B) = emb (fun a d => x (ix2 a d)) (fun a d => p (ix2 a d)) (fun d b => wg (ix2 d b)) (fun d b => w (ix2 d b)) A B := by
  unfold emb
  rw [logistic, zero_sub]
  pointwise [embRef]

theorem addNorm_at (x e g) (A : Fin 16384) (B : Fin 4096) :
    addNorm x e g (ix2 A B) = rowOut (fun d => x (ix2 A d)) (fun d => e (ix2 A d)) (fun d => g (ix2 0 d)) B := by
  unfold rowOut
  pointwise [addNorm]

theorem idx : ∀ t : Fin cfg0.N, win0_0.index t = ![t.val / 4, 0] ∧ win0_1.index t = ![t.val / 4, 0] ∧ win0_2.index t = ![0, t.val % 4] ∧ win0_3.index t = ![0, t.val % 4] ∧ win0_4.index t = ![0, 0] ∧ win0_5.index t = ![t.val / 4, 0] :=
  (by decide +kernel : ∀ t : Fin grid0.N, _)

theorem coord (t : Fin cfg0.N) : (grid0.coords t 1).val = t.val % 4 :=
  (Pipeline.Grid.coords_val t 1 (by decide) rfl : (grid0.coords t 1).val = t.val / 1 % 4).trans (by omega)

variable (m : (ℓ : Loc nD τ sig) → Buf (Elt Ideal) ℓ)

theorem lt_N (t : Fin cfg0.N) : t.val < 128 := lt_of_lt_of_eq t.isLt N_0

/-- A row of the array, from a point and a row of its block. -/
abbrev row (t : Fin cfg0.N) (a : Fin 512) : Fin 16384 := ⟨t.val / 4 * 512 + a.val, by have := lt_N t; omega⟩

/-- A column of the array, from a point and a column of its weights' block. -/
abbrev col (t : Fin cfg0.N) (b : Fin 1024) : Fin 4096 := ⟨t.val % 4 * 1024 + b.val, by omega⟩

theorem iblk0_at (c : Dev nD) (t : Fin cfg0.N) (a : Fin 512) (d : Fin 4096) : iblk m c 0 t (ix2 a d) = m ((c : Thread nD τ).loc main_arg0) (ix2 (row t a) d) := by
  refine Eq.trans ?_ (congrFun (V_main_arg0 m c) _)
  have e : (win0_0.blk t).view.emb (ix2 a d) = ix2 (row t a) d := by blk_ext [idx t]
  exact congrArg (V m c main_arg0) e

theorem iblk1_at (c : Dev nD) (t : Fin cfg0.N) (a : Fin 512) (d : Fin 256) : iblk m c 1 t (ix2 a d) = V m c main_v1 (ix2 (row t a) d) := by
  have e : (win0_1.blk t).view.emb (ix2 a d) = ix2 (row t a) d := by blk_ext [idx t]
  exact congrArg (V m c main_v1) e

theorem iblk2_at (c : Dev nD) (t : Fin cfg0.N) (d : Fin 4096) (b : Fin 1024) : iblk m c 2 t (ix2 d b) = m ((c : Thread nD τ).loc main_arg2) (ix2 d (col t b)) := by
  refine Eq.trans ?_ (congrFun (V_main_arg2 m c) _)
  have e : (win0_2.blk t).view.emb (ix2 d b) = ix2 d (col t b) := by blk_ext [idx t]
  exact congrArg (V m c main_arg2) e

theorem iblk3_at (c : Dev nD) (t : Fin cfg0.N) (d : Fin 256) (b : Fin 1024) : iblk m c 3 t (ix2 d b) = V m c main_v3 (ix2 d (col t b)) := by
  have e : (win0_3.blk t).view.emb (ix2 d b) = ix2 d (col t b) := by blk_ext [idx t]
  exact congrArg (V m c main_v3) e

theorem iblk4_at (c : Dev nD) (t : Fin cfg0.N) (d : Fin 4096) : iblk m c 4 t (ix2 0 d) = V m c main_v5 (ix2 0 d) := by
  have e : (win0_4.blk t).view.emb (ix2 (0 : Fin 1) d) = ix2 (0 : Fin 1) d := by blk_ext [idx t]
  exact congrArg (V m c main_v5) e

theorem V1 (c : Dev nD) : V m c main_v1 = shapeCast _ (shapeCast _ (m ((c : Thread nD τ).loc main_arg1)) shapeCasts_S1x2x8192x256_S2x8192x256) shapeCasts_S2x8192x256_S16384x256 := by
  unfold V hostOps0
  after_results_simp
  all_goals rfl

theorem V3 (c : Dev nD) : V m c main_v3 = truncf (F := Ideal) .bf16 (shapeCast S256x4096 (m ((c : Thread nD τ).loc main_arg3)) shapeCasts_S1x256x4096_S256x4096) bitsLt_bf16_f32 := by
  unfold V hostOps0
  after_results_simp
  all_goals rfl

theorem V5 (c : Dev nD) : V m c main_v5 = shapeCast _ (shapeCast _ (m ((c : Thread nD τ).loc main_arg4)) shapeCasts_S1x4096_S4096) shapeCasts_S4096_S1x4096 := by
  unfold V hostOps0
  after_results_simp
  all_goals rfl

/-- The gated embedding of the program's arguments. -/
def E (c : Dev nD) : Fin 16384 → Fin 4096 → EReal :=
  emb (fun a d => m ((c : Thread nD τ).loc main_arg0) (ix2 a d)) (fun a d => V m c main_v1 (ix2 a d)) (fun d b => m ((c : Thread nD τ).loc main_arg2) (ix2 d b)) (fun d b => V m c main_v3 (ix2 d b))

theorem gated_at (c : Dev nD) (t : Fin cfg0.N) (xs : Vec Ideal S512x4096 .bf16) (hxs : ∀ a d, xs (ix2 a d) = m ((c : Thread nD τ).loc main_arg0) (ix2 (row t a) d)) (a : Fin 512) (b : Fin 1024) :
    gated (iblk m c 1 t) (iblk m c 2 t) (iblk m c 3 t) xs a b = E m c (row t a) (col t b) := by
  unfold gated E emb
  simp only [iblk1_at, iblk2_at, iblk3_at, hxs]

theorem pay3_at (x : Vec Ideal S512x4096 .f32) (a : Fin 512) (d : Fin 4096) : k0_pay3 (F := Ideal) x (ix2 a d) = x (ix2 a d) := by
  pointwise [k0_pay3]

theorem cast_at (c : Dev nD) (t : Fin cfg0.N) (xs : Vec Ideal S512x4096 .bf16) (h : Cast m c t.val xs) (h0 : t.val % 4 ≠ 0) (a : Fin 512) (d : Fin 4096) :
    xs (ix2 a d) = m ((c : Thread nD τ).loc main_arg0) (ix2 (row t a) d) := by
  have ht := t.isLt
  rw [h h0 ⟨4 * ((t.val - 1) / 4), by omega⟩ rfl, pay3_at, iblk0_at]
  exact congrArg (fun r => m ((c : Thread nD τ).loc main_arg0) (ix2 r d)) (Fin.ext (by show 4 * ((t.val - 1) / 4) / 4 * 512 + a.val = t.val / 4 * 512 + a.val; omega))

/-- What a point's stores make of the block. -/
theorem upd (c : Dev nD) (t : Fin cfg0.N) (xs : Vec Ideal S512x4096 .bf16) (hxs : ∀ a d, xs (ix2 a d) = m ((c : Thread nD τ).loc main_arg0) (ix2 (row t a) d)) (Y : Vec Ideal S512x4096 .f32) (a : Fin 512) (b : Fin 4096) :
    (if h : 1024 * (grid0.coords t 1).val ≤ b.val ∧ b.val < 1024 * (grid0.coords t 1).val + 1024 then gated (iblk m c 1 t) (iblk m c 2 t) (iblk m c 3 t) xs a ⟨b.val - 1024 * (grid0.coords t 1).val, by omega⟩ else Y (ix2 a b))
      = if 1024 * (t.val % 4) ≤ b.val ∧ b.val < 1024 * (t.val % 4) + 1024 then E m c (row t a) b else Y (ix2 a b) := by
  have hc := coord t
  by_cases h : 1024 * (t.val % 4) ≤ b.val ∧ b.val < 1024 * (t.val % 4) + 1024
  · rw [dif_pos (by omega), if_pos h, gated_at m c t xs hxs]
    exact congrArg (E m c (row t a)) (Fin.ext (by show t.val % 4 * 1024 + (b.val - 1024 * (grid0.coords t 1).val) = b.val; omega))
  · rw [dif_neg (by omega), if_neg h]

theorem step_lt (c : Dev nD) (t : Fin cfg0.N) (h3 : t.val % 4 ≠ 3) (xs : Vec Ideal S512x4096 .bf16) (h : Cast m c t.val xs) (Y : Vec Ideal S512x4096 .f32) (a : Fin 512) (b : Fin 4096) :
    stepOut m c t xs Y (ix2 a b) = if 1024 * (t.val % 4) ≤ b.val ∧ b.val < 1024 * (t.val % 4) + 1024 then E m c (row t a) b else Y (ix2 a b) := by
  unfold stepOut
  by_cases h0 : t.val % 4 = 0
  · rw [dif_pos h0]
    exact (read_first c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (Memref.whole cc0_scratch0) (Memref.isWhole_whole _) ((isFirst_iff t).mpr h0) (fun h => by have := (isLast_iff t).mp h; omega) (iblk m c 0 t) (iblk m c 1 t) (iblk m c 2 t) (iblk m c 3 t) (iblk m c 4 t) Y xs a b).trans
      (upd m c t _ (fun a d => (pay3_at _ a d).trans (iblk0_at m c t a d)) Y a b)
  · rw [dif_neg h0, dif_neg h3]
    exact (read_mid c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (Memref.whole cc0_scratch0) (Memref.isWhole_whole _) (fun h => h0 ((isFirst_iff t).mp h)) (fun h => h3 ((isLast_iff t).mp h)) (iblk m c 0 t) (iblk m c 1 t) (iblk m c 2 t) (iblk m c 3 t) (iblk m c 4 t) Y xs a b).trans
      (upd m c t xs (cast_at m c t xs h h0) Y a b)

theorem step_last (c : Dev nD) (t : Fin cfg0.N) (h3 : t.val % 4 = 3) (xs : Vec Ideal S512x4096 .bf16) (h : Cast m c t.val xs) (Y : Vec Ideal S512x4096 .f32)
    (hY : ∀ (a : Fin 512) (b : Fin 4096), b.val < 3072 → Y (ix2 a b) = E m c (row t a) b) (a : Fin 512) (b : Fin 4096) :
    stepOut m c t xs Y (ix2 a b) = rowOut (fun d => m ((c : Thread nD τ).loc main_arg0) (ix2 (row t a) d)) (E m c (row t a)) (fun d => V m c main_v5 (ix2 0 d)) b := by
  unfold stepOut
  have h0 : ¬t.val % 4 = 0 := by omega
  rw [dif_neg h0, dif_pos h3]
  refine (read_last c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (Memref.whole cc0_scratch0) (Memref.isWhole_whole _) (fun h => h0 ((isFirst_iff t).mp h)) ((isLast_iff t).mpr h3) (iblk m c 0 t) (iblk m c 1 t) (iblk m c 2 t) (iblk m c 3 t) (iblk m c 4 t) Y xs a b).trans ?_
  have e1 : (fun d => iblk m c 0 t (ix2 a d)) = fun d => m ((c : Thread nD τ).loc main_arg0) (ix2 (row t a) d) := funext fun d => iblk0_at m c t a d
  have e2 : (fun d : Fin 4096 => if h : 1024 * (grid0.coords t 1).val ≤ d.val ∧ d.val < 1024 * (grid0.coords t 1).val + 1024 then gated (iblk m c 1 t) (iblk m c 2 t) (iblk m c 3 t) xs a ⟨d.val - 1024 * (grid0.coords t 1).val, by omega⟩ else Y (ix2 a d)) = E m c (row t a) := funext fun d => by
    rw [upd m c t xs (cast_at m c t xs h h0)]
    by_cases hd : d.val < 3072
    · rw [if_neg (by omega), hY a d hd]
    · rw [if_pos (by omega)]
  have e3 : (fun d => iblk m c 4 t (ix2 0 d)) = fun d => V m c main_v5 (ix2 0 d) := funext fun d => iblk4_at m c t d
  exact congrFun (congr (congr (congrArg rowOut e1) e2) e3) b

/-- After a point that is not its row's last, the columns up to the point's are gated. -/
theorem leaves_lt (c : Dev nD) (j : ℕ) : ∀ (t : Fin cfg0.N), t.val % 4 = j → j ≠ 3 → ∀ X : Vec Ideal S512x4096 .f32, (rdats m c).Leaves 5 t X →
    ∀ (a : Fin 512) (b : Fin 4096), b.val < 1024 * (j + 1) → X (ix2 a b) = E m c (row t a) b := by
  induction j with
  | zero =>
    intro t ht hj X hX a b hb
    obtain ⟨Y, hY, hA⟩ := hX
    dsimp only [rdats] at hA
    obtain ⟨xs, hxs, rfl⟩ := hA
    rw [step_lt m c t (by omega) xs hxs Y a b, if_pos (by omega)]
  | succ j ih =>
    intro t ht hj X hX a b hb
    obtain ⟨Y, hY, hA⟩ := hX
    dsimp only [rdats] at hA
    obtain ⟨xs, hxs, rfl⟩ := hA
    rw [step_lt m c t (by omega) xs hxs Y a b]
    by_cases h : 1024 * (t.val % 4) ≤ b.val ∧ b.val < 1024 * (t.val % 4) + 1024
    · rw [if_pos h]
    · rw [if_neg h]
      rcases ((rdats m c).finds_of_pos ((cfg0.win 5).fetch_out rfl t) (by omega) Y).mp hY with hf | hl
      · have := (flush0_5 _).mp hf
        dsimp only at this
        omega
      · have ht' := t.isLt
        refine (ih ⟨t.val - 1, by omega⟩ (by show (t.val - 1) % 4 = j; omega) (by omega) Y hl a b (by omega)).trans ?_
        exact congrArg (fun r => E m c r b) (Fin.ext (by show (t.val - 1) / 4 * 512 + a.val = t.val / 4 * 512 + a.val; omega))

theorem leaves_last (c : Dev nD) (t : Fin cfg0.N) (h3 : t.val % 4 = 3) (X : Vec Ideal S512x4096 .f32) (hX : (rdats m c).Leaves 5 t X) (a : Fin 512) (b : Fin 4096) :
    X (ix2 a b) = rowOut (fun d => m ((c : Thread nD τ).loc main_arg0) (ix2 (row t a) d)) (E m c (row t a)) (fun d => V m c main_v5 (ix2 0 d)) b := by
  obtain ⟨Y, hY, hA⟩ := hX
  dsimp only [rdats] at hA
  obtain ⟨xs, hxs, rfl⟩ := hA
  refine step_last m c t h3 xs hxs Y (fun a b hb => ?_) a b
  rcases ((rdats m c).finds_of_pos ((cfg0.win 5).fetch_out rfl t) (by omega) Y).mp hY with hf | hl
  · have := (flush0_5 _).mp hf
    dsimp only at this
    omega
  · have ht' := t.isLt
    refine (leaves_lt m c 2 ⟨t.val - 1, by omega⟩ (by show (t.val - 1) % 4 = 2; omega) (by omega) Y hl a b (by omega)).trans ?_
    exact congrArg (fun r => E m c r b) (Fin.ext (by show (t.val - 1) / 4 * 512 + a.val = t.val / 4 * 512 + a.val; omega))

theorem ref_at (c : Dev nD) (A : Fin 16384) (B : Fin 4096) :
    pleRef (m ((c : Thread nD τ).loc main_arg0)) (m ((c : Thread nD τ).loc main_arg1)) (m ((c : Thread nD τ).loc main_arg2)) (m ((c : Thread nD τ).loc main_arg3)) (m ((c : Thread nD τ).loc main_arg4)) (ix2 A B)
      = rowOut (fun d => m ((c : Thread nD τ).loc main_arg0) (ix2 A d)) (E m c A) (fun d => V m c main_v5 (ix2 0 d)) B := by
  unfold pleRef
  refine (addNorm_at _ _ _ A B).trans ?_
  have e2 : (fun d => embRef (m ((c : Thread nD τ).loc main_arg0)) (shapeCast _ (shapeCast _ (m ((c : Thread nD τ).loc main_arg1)) Cert.PleReferenceIdeal.Gen.shapeCasts_S1x2x8192x256_S2x8192x256) Cert.PleReferenceIdeal.Gen.shapeCasts_S2x8192x256_S16384x256) (m ((c : Thread nD τ).loc main_arg2)) (shapeCast _ (m ((c : Thread nD τ).loc main_arg3)) Cert.PleReferenceIdeal.Gen.shapeCasts_S1x256x4096_S256x4096) (ix2 A d)) = E m c A := funext fun d => by
    rw [embRef_at]
    unfold E
    rw [V1, V3]
    rfl
  have e3 : (fun d => m ((c : Thread nD τ).loc main_arg4) (ix2 0 d)) = fun d => V m c main_v5 (ix2 0 d) := funext fun d => by
    rw [V5]
    pointwise []
  exact congrFun (congr (congrArg (rowOut _) e2) e3) B

/-- The result's array after the run. -/
theorem value (c : Dev nD) (r : PUnit × MemSt nD τ sig (Elt Ideal)) (h : RDat.FramePost cfg0 (rdats m) (V m) r) :
    r.2.mem ((c : Thread nD τ).loc main_v6) = pleRef (m ((c : Thread nD τ).loc main_arg0)) (m ((c : Thread nD τ).loc main_arg1)) (m ((c : Thread nD τ).loc main_arg2)) (m ((c : Thread nD τ).loc main_arg3)) (m ((c : Thread nD τ).loc main_arg4)) := by
  obtain ⟨after, hL, hA⟩ := RDat.FramePost.exists_exact h c
  refine (hA 5).trans ?_
  refine ((rdats m c).withAfter after).arrAt_eq_of_covers 5 _ (by decide +kernel) fun t hf y => ?_
  idx_vars y
  blk_simp
  have h3 := (flush0_5 t).mp hf
  have ht := lt_N t
  have e : (win0_5.blk t).view.emb (ix2 y0 y1) = ix2 (row t y0) y1 := by
    blk_ext [idx t]
  refine Eq.trans ?_ (congrArg _ e).symm
  refine Eq.trans ?_ (ref_at m c _ _).symm
  exact leaves_last m c t h3 _ (hL 5 t hf) y0 y1

end Cert.PleKernelIdeal.Hand

end
-- ==== Proof.lean ====
module

public import proofs.«01_k».proof.Defs
public import proofs.«01_k».proof.Proof.Gen.AttnKernel
public import proofs.«01_k».proof.Proof.Gen.AttnKernel.Skeleton
public import proofs.«01_k».proof.Proof.Gen.AttnKernel.Launch
public import proofs.«01_k».proof.Proof.Gen.AttnKernel.Points
public import proofs.«01_k».proof.Proof.Gen.AttnKernel.Frame
public import proofs.«01_k».proof.Proof.Gen.AttnKernelIdeal
public import proofs.«01_k».proof.Proof.Gen.AttnKernelIdeal.Skeleton
public import proofs.«01_k».proof.Proof.Gen.AttnKernelIdeal.Launch
public import proofs.«01_k».proof.Proof.Gen.AttnKernelIdeal.Points
public import proofs.«01_k».proof.Proof.Gen.AttnKernelIdeal.Frame
public import proofs.«01_k».proof.Proof.Gen.AttnReferenceIdeal
public import proofs.«01_k».proof.Proof.Gen.MlpKernel
public import proofs.«01_k».proof.Proof.Gen.MlpKernel.Skeleton
public import proofs.«01_k».proof.Proof.Gen.MlpKernel.Launch
public import proofs.«01_k».proof.Proof.Gen.MlpKernel.Points
public import proofs.«01_k».proof.Proof.Gen.MlpKernel.Frame
public import proofs.«01_k».proof.Proof.Gen.MlpKernelIdeal
public import proofs.«01_k».proof.Proof.Gen.MlpKernelIdeal.Skeleton
public import proofs.«01_k».proof.Proof.Gen.MlpKernelIdeal.Launch
public import proofs.«01_k».proof.Proof.Gen.MlpKernelIdeal.Points
public import proofs.«01_k».proof.Proof.Gen.MlpKernelIdeal.Frame
public import proofs.«01_k».proof.Proof.Gen.MlpReferenceIdeal
public import proofs.«01_k».proof.Proof.Gen.GatesKernel
public import proofs.«01_k».proof.Proof.Gen.GatesKernel.Skeleton
public import proofs.«01_k».proof.Proof.Gen.GatesKernel.Launch
public import proofs.«01_k».proof.Proof.Gen.GatesKernel.Points
public import proofs.«01_k».proof.Proof.Gen.GatesKernel.Frame
public import proofs.«01_k».proof.Proof.Gen.GatesKernelIdeal
public import proofs.«01_k».proof.Proof.Gen.GatesKernelIdeal.Skeleton
public import proofs.«01_k».proof.Proof.Gen.GatesKernelIdeal.Launch
public import proofs.«01_k».proof.Proof.Gen.GatesKernelIdeal.Points
public import proofs.«01_k».proof.Proof.Gen.GatesKernelIdeal.Frame
public import proofs.«01_k».proof.Proof.Gen.GatesReferenceIdeal
public import proofs.«01_k».proof.Proof.Gen.QkvKernel
public import proofs.«01_k».proof.Proof.Gen.QkvKernel.Skeleton
public import proofs.«01_k».proof.Proof.Gen.QkvKernel.Launch
public import proofs.«01_k».proof.Proof.Gen.QkvKernel.Points
public import proofs.«01_k».proof.Proof.Gen.QkvKernel.Frame
public import proofs.«01_k».proof.Proof.Gen.QkvKernelIdeal
public import proofs.«01_k».proof.Proof.Gen.QkvKernelIdeal.Skeleton
public import proofs.«01_k».proof.Proof.Gen.QkvKernelIdeal.Launch
public import proofs.«01_k».proof.Proof.Gen.QkvKernelIdeal.Points
public import proofs.«01_k».proof.Proof.Gen.QkvKernelIdeal.Frame
public import proofs.«01_k».proof.Proof.Gen.QkvReferenceIdeal
public import proofs.«01_k».proof.Proof.Gen.MergeKernel
public import proofs.«01_k».proof.Proof.Gen.MergeKernel.Skeleton
public import proofs.«01_k».proof.Proof.Gen.MergeKernel.Launch
public import proofs.«01_k».proof.Proof.Gen.MergeKernel.Points
public import proofs.«01_k».proof.Proof.Gen.MergeKernel.Frame
public import proofs.«01_k».proof.Proof.Gen.MergeKernelIdeal
public import proofs.«01_k».proof.Proof.Gen.MergeKernelIdeal.Skeleton
public import proofs.«01_k».proof.Proof.Gen.MergeKernelIdeal.Launch
public import proofs.«01_k».proof.Proof.Gen.MergeKernelIdeal.Points
public import proofs.«01_k».proof.Proof.Gen.MergeKernelIdeal.Frame
public import proofs.«01_k».proof.Proof.Gen.MergeReferenceIdeal
public import proofs.«01_k».proof.Proof.Gen.OutKernel
public import proofs.«01_k».proof.Proof.Gen.OutKernel.Skeleton
public import proofs.«01_k».proof.Proof.Gen.OutKernel.Launch
public import proofs.«01_k».proof.Proof.Gen.OutKernel.Points
public import proofs.«01_k».proof.Proof.Gen.OutKernel.Frame
public import proofs.«01_k».proof.Proof.Gen.OutKernelIdeal
public import proofs.«01_k».proof.Proof.Gen.OutKernelIdeal.Skeleton
public import proofs.«01_k».proof.Proof.Gen.OutKernelIdeal.Launch
public import proofs.«01_k».proof.Proof.Gen.OutKernelIdeal.Points
public import proofs.«01_k».proof.Proof.Gen.OutKernelIdeal.Frame
public import proofs.«01_k».proof.Proof.Gen.OutReferenceIdeal
public import proofs.«01_k».proof.Proof.Gen.ResidKernel
public import proofs.«01_k».proof.Proof.Gen.ResidKernel.Skeleton
public import proofs.«01_k».proof.Proof.Gen.ResidKernel.Launch
public import proofs.«01_k».proof.Proof.Gen.ResidKernel.Points
public import proofs.«01_k».proof.Proof.Gen.ResidKernel.Frame
public import proofs.«01_k».proof.Proof.Gen.ResidKernelIdeal
public import proofs.«01_k».proof.Proof.Gen.ResidKernelIdeal.Skeleton
public import proofs.«01_k».proof.Proof.Gen.ResidKernelIdeal.Launch
public import proofs.«01_k».proof.Proof.Gen.ResidKernelIdeal.Points
public import proofs.«01_k».proof.Proof.Gen.ResidKernelIdeal.Frame
public import proofs.«01_k».proof.Proof.Gen.ResidReferenceIdeal
public import proofs.«01_k».proof.Proof.Gen.ResidNormKernel
public import proofs.«01_k».proof.Proof.Gen.ResidNormKernel.Skeleton
public import proofs.«01_k».proof.Proof.Gen.ResidNormKernel.Launch
public import proofs.«01_k».proof.Proof.Gen.ResidNormKernel.Points
public import proofs.«01_k».proof.Proof.Gen.ResidNormKernel.Frame
public import proofs.«01_k».proof.Proof.Gen.ResidNormKernelIdeal
public import proofs.«01_k».proof.Proof.Gen.ResidNormKernelIdeal.Skeleton
public import proofs.«01_k».proof.Proof.Gen.ResidNormKernelIdeal.Launch
public import proofs.«01_k».proof.Proof.Gen.ResidNormKernelIdeal.Points
public import proofs.«01_k».proof.Proof.Gen.ResidNormKernelIdeal.Frame
public import proofs.«01_k».proof.Proof.Gen.ResidNormReferenceIdeal
public import proofs.«01_k».proof.Proof.Gen.NormKernel
public import proofs.«01_k».proof.Proof.Gen.NormKernel.Skeleton
public import proofs.«01_k».proof.Proof.Gen.NormKernel.Launch
public import proofs.«01_k».proof.Proof.Gen.NormKernel.Points
public import proofs.«01_k».proof.Proof.Gen.NormKernel.Frame
public import proofs.«01_k».proof.Proof.Gen.NormKernelIdeal
public import proofs.«01_k».proof.Proof.Gen.NormKernelIdeal.Skeleton
public import proofs.«01_k».proof.Proof.Gen.NormKernelIdeal.Launch
public import proofs.«01_k».proof.Proof.Gen.NormKernelIdeal.Points
public import proofs.«01_k».proof.Proof.Gen.NormKernelIdeal.Frame
public import proofs.«01_k».proof.Proof.Gen.NormReferenceIdeal
public import proofs.«01_k».proof.Proof.Gen.Pre_finite
public import proofs.«01_k».proof.Proof.Gen.AttnKernelIdeal.Value
public import proofs.«01_k».proof.Proof.Gen.MlpKernelIdeal.Value
public import proofs.«01_k».proof.Proof.Gen.GatesKernelIdeal.Value
public import proofs.«01_k».proof.Proof.Gen.QkvKernelIdeal.Value
public import proofs.«01_k».proof.Proof.Gen.MergeKernelIdeal.Value
public import proofs.«01_k».proof.Proof.Gen.OutKernelIdeal.Value
public import proofs.«01_k».proof.Proof.Gen.ResidKernelIdeal.Value
public import proofs.«01_k».proof.Proof.Gen.ResidNormKernelIdeal.Value
public import proofs.«01_k».proof.Proof.Gen.NormKernelIdeal.Value
public import proofs.«01_k».proof.Proof.Gen.AttnReferenceIdeal.Run
public import proofs.«01_k».proof.Proof.Gen.MlpReferenceIdeal.Run
public import proofs.«01_k».proof.Proof.Gen.GatesReferenceIdeal.Run
public import proofs.«01_k».proof.Proof.Gen.QkvReferenceIdeal.Run
public import proofs.«01_k».proof.Proof.Gen.MergeReferenceIdeal.Run
public import proofs.«01_k».proof.Proof.Gen.OutReferenceIdeal.Run
public import proofs.«01_k».proof.Proof.Gen.ResidReferenceIdeal.Run
public import proofs.«01_k».proof.Proof.Gen.ResidNormReferenceIdeal.Run
public import proofs.«01_k».proof.Proof.Gen.NormReferenceIdeal.Run
public import proofs.«01_k».proof.Proof.MlpValue
public import proofs.«01_k».proof.Proof.AttnValue
public import proofs.«01_k».proof.Proof.GatesValue
public import proofs.«01_k».proof.Proof.QkvValue
public import proofs.«01_k».proof.Proof.MergeValue
public import proofs.«01_k».proof.Proof.OutValue
public import proofs.«01_k».proof.Proof.ResidValue
public import proofs.«01_k».proof.Proof.ResidNormValue
public import proofs.«01_k».proof.Proof.NormValue
public import proofs.«01_k».proof.Proof.AttnRes
public import proofs.«01_k».proof.Proof.Gen.PleKernel
public import proofs.«01_k».proof.Proof.Gen.PleKernelIdeal
public import proofs.«01_k».proof.Proof.Gen.PleReferenceIdeal
public import proofs.«01_k».proof.Proof.Gen.PleReferenceIdeal.Run
public import proofs.«01_k».proof.Proof.PleFrame
public import proofs.«01_k».proof.Proof.PleValue
public import Idealize.ShloMosaic.Adequacy
public import Idealize.ShloMosaic.Init

@[expose] public section

set_option maxRecDepth 16384
set_option maxHeartbeats 2000000

noncomputable section

namespace Cert.Proof

open Idealize.ShloMosaic Idealize.SL.Sem Cert.AttnKernel

/-- The value of Attn: both programs run and end with equal results. -/
theorem valueAttn : Cert.algebraic_AttnKernelIdeal_AttnReferenceIdeal_pre_finite := by
  pair_intro
  · run_from Cert.AttnKernelIdeal.Gen.run_main m g
  · refine θ_run_mono (Cert.AttnReferenceIdeal.Value.run m' g') fun r hr c => ?_
    obtain ⟨e0, e1⟩ := hagree c
    have hc := hr c
    have h0 := hc.1.trans (Cert.AttnReferenceIdeal.Value.res_eq m' c)
    rw [e0, e1] at h0
    exact ⟨h0.trans (Cert.AttnKernelIdeal.Value.value m c hpre).symm, (hr c).2⟩

/-- The value of Mlp: both programs run and end with equal results. -/
theorem valueMlp : Cert.algebraic_MlpKernelIdeal_MlpReferenceIdeal := by
  pair_intro
  · run_from Cert.MlpKernelIdeal.Gen.run_main m g
  · refine θ_run_mono (Cert.MlpReferenceIdeal.Value.run m' g') fun r hr c => ?_
    obtain ⟨e0, e1, e2⟩ := hagree c
    have hc := hr c
    rw [e0, e1, e2] at hc
    exact ⟨hc.1.trans (Cert.MlpKernelIdeal.Value.value m c).symm, (hr c).2⟩

/-- The value of Gates: both programs run and end with equal results. -/
theorem valueGates : Cert.algebraic_GatesKernelIdeal_GatesReferenceIdeal := by
  pair_intro
  · run_from Cert.GatesKernelIdeal.Gen.run_main m g
  · refine θ_run_mono (Cert.GatesReferenceIdeal.Value.run m' g') fun r hr c => ?_
    obtain ⟨e0, e1, e2, e3, e4, e5, e6, e7⟩ := hagree c
    have hc := hr c
    rw [e0, e1, e2, e3, e4, e5, e6, e7] at hc
    exact ⟨hc.1.trans (Cert.GatesKernelIdeal.Value.value8 m c).symm, hc.2.1.trans (Cert.GatesKernelIdeal.Value.value9 m c).symm, hc.2.2.1.trans (Cert.GatesKernelIdeal.Value.value10 m c).symm, hc.2.2.2.1.trans (Cert.GatesKernelIdeal.Value.value11 m c).symm, hc.2.2.2.2.1.trans (Cert.GatesKernelIdeal.Value.value12 m c).symm, hc.2.2.2.2.2.1.trans (Cert.GatesKernelIdeal.Value.value13 m c).symm, hc.2.2.2.2.2.2.1.trans (Cert.GatesKernelIdeal.Value.value14 m c).symm, (hr c).2.2.2.2.2.2.2⟩

/-- The value of Qkv: both programs run and end with equal results. -/
theorem valueQkv : Cert.algebraic_QkvKernelIdeal_QkvReferenceIdeal := by
  pair_intro
  · run_from Cert.QkvKernelIdeal.Gen.run_main m g
  · refine θ_run_mono (Cert.QkvReferenceIdeal.Value.run m' g') fun r hr c => ?_
    obtain ⟨e0, e1⟩ := hagree c
    have hc := hr c
    have h0 := hc.1.trans (Cert.QkvReferenceIdeal.Value.res_eq m' c)
    rw [e0, e1] at h0
    exact ⟨h0.trans (Cert.QkvKernelIdeal.Value.value m c).symm, (hr c).2⟩

/-- The value of Merge: both programs run and end with equal results. -/
theorem valueMerge : Cert.algebraic_MergeKernelIdeal_MergeReferenceIdeal := by
  pair_intro
  · run_from Cert.MergeKernelIdeal.Gen.run_main m g
  · refine θ_run_mono (Cert.MergeReferenceIdeal.Value.run m' g') fun r hr c => ?_
    obtain ⟨e0, e1, e2, e3, e4⟩ := hagree c
    have hc := hr c
    rw [e0, e1, e2, e3, e4] at hc
    exact ⟨hc.1.trans (Cert.MergeKernelIdeal.Value.value m c).symm, (hr c).2⟩

/-- The value of Out: both programs run and end with equal results. -/
theorem valueOut : Cert.algebraic_OutKernelIdeal_OutReferenceIdeal := by
  pair_intro
  · run_from Cert.OutKernelIdeal.Gen.run_main m g
  · refine θ_run_mono (Cert.OutReferenceIdeal.Value.run m' g') fun r hr c => ?_
    obtain ⟨e0, e1⟩ := hagree c
    have hc := hr c
    rw [e0, e1] at hc
    exact ⟨hc.1.trans (Cert.OutKernelIdeal.Value.value m c).symm, (hr c).2⟩

/-- The value of Resid: both programs run and end with equal results. -/
theorem valueResid : Cert.algebraic_ResidKernelIdeal_ResidReferenceIdeal := by
  pair_intro
  · run_from Cert.ResidKernelIdeal.Gen.run_main m g
  · refine θ_run_mono (Cert.ResidReferenceIdeal.Value.run m' g') fun r hr c => ?_
    obtain ⟨e0, e1, e2⟩ := hagree c
    have hc := hr c
    rw [e0, e1, e2] at hc
    exact ⟨hc.1.trans (Cert.ResidKernelIdeal.Value.value m c).symm, (hr c).2⟩

/-- The value of ResidNorm: both programs run and end with equal results. -/
theorem valueResidNorm : Cert.algebraic_ResidNormKernelIdeal_ResidNormReferenceIdeal := by
  pair_intro
  · run_from Cert.ResidNormKernelIdeal.Gen.run_main m g
  · refine θ_run_mono (Cert.ResidNormReferenceIdeal.Value.run m' g') fun r hr c => ?_
    obtain ⟨e0, e1, e2, e3⟩ := hagree c
    have hc := hr c
    rw [e0, e1, e2, e3] at hc
    exact ⟨hc.1.trans (Cert.ResidNormKernelIdeal.Value.value4 m c).symm, hc.2.1.trans (Cert.ResidNormKernelIdeal.Value.value5 m c).symm, (hr c).2.2⟩

/-- The value of Norm: both programs run and end with equal results. -/
theorem valueNorm : Cert.algebraic_NormKernelIdeal_NormReferenceIdeal := by
  pair_intro
  · run_from Cert.NormKernelIdeal.Gen.run_main m g
  · refine θ_run_mono (Cert.NormReferenceIdeal.Value.run m' g') fun r hr c => ?_
    obtain ⟨e0, e1⟩ := hagree c
    have hc := hr c
    rw [e0, e1] at hc
    exact ⟨hc.1.trans (Cert.NormKernelIdeal.Value.value m c).symm, (hr c).2⟩

section Ple

variable {F : FTy → Type} [FloatOps F]

/-- Ple's two programs have one body. -/
theorem defs₀Ple : @Cert.PleKernel.defs₀ F _ _ = @Cert.PleKernelIdeal.defs₀ F _ _ := by
  unfold Cert.PleKernel.defs₀ Cert.PleKernelIdeal.defs₀
  refine congrArg Defs.onTc (funext fun l => funext fun x => ?_)
  match l, x with
  | 0, (t, s) => rfl

theorem defsPle : @Cert.PleKernel.defs F _ _ = @Cert.PleKernelIdeal.defs F _ _ := congrArg (Pipeline.defs _) defs₀Ple

end Ple

/-- The frame of Ple's kernel, from the run stated over any float values. -/
theorem framePle : Cert.quiescent_PleKernel := fun m ρ _ => by
  rw [defsPle]
  exact (θ_run Cert.PleKernelIdeal.defs _ _).mono (fun _ h => h) (Cert.PleKernelIdeal.Hand.frame (F := Bits) m ρ)

/-- The value of Ple: both programs run and end with equal results. -/
theorem valuePle : Cert.algebraic_PleKernelIdeal_PleReferenceIdeal := by
  intro m g m' g' _ hagree
  refine ⟨fun c => Cert.PleKernelIdeal.Hand.pleRef _ _ _ _ _, θ_run_mono (Cert.PleKernelIdeal.Hand.run_main m g) fun r hr c => ⟨Cert.PleKernelIdeal.Hand.value m c r hr, Cert.PleKernelIdeal.Hand.args_eq m r hr c⟩, ?_⟩
  refine θ_run_mono (Cert.PleReferenceIdeal.Value.run m' g') fun r hr c => ?_
  obtain ⟨e0, e1, e2, e3, e4⟩ := hagree c
  have hc := hr c
  rw [e0, e1, e2, e3, e4] at hc
  exact ⟨hc.1, (hr c).2⟩

theorem claim : Cert.Claim := ⟨Cert.AttnKernel.Gen.facts, Cert.AttnKernelIdeal.Gen.facts, Cert.AttnReferenceIdeal.Gen.facts, Cert.MlpKernel.Gen.facts, Cert.MlpKernelIdeal.Gen.facts, Cert.MlpReferenceIdeal.Gen.facts, Cert.GatesKernel.Gen.facts, Cert.GatesKernelIdeal.Gen.facts, Cert.GatesReferenceIdeal.Gen.facts, Cert.QkvKernel.Gen.facts, Cert.QkvKernelIdeal.Gen.facts, Cert.QkvReferenceIdeal.Gen.facts, Cert.MergeKernel.Gen.facts, Cert.MergeKernelIdeal.Gen.facts, Cert.MergeReferenceIdeal.Gen.facts, Cert.OutKernel.Gen.facts, Cert.OutKernelIdeal.Gen.facts, Cert.OutReferenceIdeal.Gen.facts, Cert.ResidKernel.Gen.facts, Cert.ResidKernelIdeal.Gen.facts, Cert.ResidReferenceIdeal.Gen.facts, Cert.ResidNormKernel.Gen.facts, Cert.ResidNormKernelIdeal.Gen.facts, Cert.ResidNormReferenceIdeal.Gen.facts, Cert.NormKernel.Gen.facts, Cert.NormKernelIdeal.Gen.facts, Cert.NormReferenceIdeal.Gen.facts, Cert.PleKernel.Gen.facts, Cert.PleKernelIdeal.Gen.facts, Cert.PleReferenceIdeal.Gen.facts, Cert.Pre_finite.Gen.facts,
  (fun m ρ _ => Cert.AttnKernel.Gen.frame m ρ),
  (fun m ρ _ => Cert.AttnKernelIdeal.Gen.frame m ρ),
  (fun m ρ _ => Cert.AttnKernelIdeal.Gen.frame m ρ),
  (fun m g _ => θ_run_mono (Cert.AttnReferenceIdeal.Value.run m g) fun r hr => ⟨fun c => (hr c).2, sem_eq_zero_of_no_sems rfl r.2⟩),
  (fun m g _ => θ_run_mono (Cert.AttnReferenceIdeal.Value.run m g) fun r hr => ⟨fun c => (hr c).2, sem_eq_zero_of_no_sems rfl r.2⟩),
  (fun m ρ _ => Cert.MlpKernel.Gen.frame m ρ),
  (fun m ρ _ => Cert.MlpKernelIdeal.Gen.frame m ρ),
  (fun m g _ => θ_run_mono (Cert.MlpReferenceIdeal.Value.run m g) fun r hr => ⟨fun c => (hr c).2, sem_eq_zero_of_no_sems rfl r.2⟩),
  (fun m ρ _ => Cert.GatesKernel.Gen.frame m ρ),
  (fun m ρ _ => Cert.GatesKernelIdeal.Gen.frame m ρ),
  (fun m g _ => θ_run_mono (Cert.GatesReferenceIdeal.Value.run m g) fun r hr => ⟨fun c => (hr c).2.2.2.2.2.2.2, sem_eq_zero_of_no_sems rfl r.2⟩),
  (fun m ρ _ => Cert.QkvKernel.Gen.frame m ρ),
  (fun m ρ _ => Cert.QkvKernelIdeal.Gen.frame m ρ),
  (fun m g _ => θ_run_mono (Cert.QkvReferenceIdeal.Value.run m g) fun r hr => ⟨fun c => (hr c).2, sem_eq_zero_of_no_sems rfl r.2⟩),
  (fun m ρ _ => Cert.MergeKernel.Gen.frame m ρ),
  (fun m ρ _ => Cert.MergeKernelIdeal.Gen.frame m ρ),
  (fun m g _ => θ_run_mono (Cert.MergeReferenceIdeal.Value.run m g) fun r hr => ⟨fun c => (hr c).2, sem_eq_zero_of_no_sems rfl r.2⟩),
  (fun m ρ _ => Cert.OutKernel.Gen.frame m ρ),
  (fun m ρ _ => Cert.OutKernelIdeal.Gen.frame m ρ),
  (fun m g _ => θ_run_mono (Cert.OutReferenceIdeal.Value.run m g) fun r hr => ⟨fun c => (hr c).2, sem_eq_zero_of_no_sems rfl r.2⟩),
  (fun m ρ _ => Cert.ResidKernel.Gen.frame m ρ),
  (fun m ρ _ => Cert.ResidKernelIdeal.Gen.frame m ρ),
  (fun m g _ => θ_run_mono (Cert.ResidReferenceIdeal.Value.run m g) fun r hr => ⟨fun c => (hr c).2, sem_eq_zero_of_no_sems rfl r.2⟩),
  (fun m ρ _ => Cert.ResidNormKernel.Gen.frame m ρ),
  (fun m ρ _ => Cert.ResidNormKernelIdeal.Gen.frame m ρ),
  (fun m g _ => θ_run_mono (Cert.ResidNormReferenceIdeal.Value.run m g) fun r hr => ⟨fun c => (hr c).2.2, sem_eq_zero_of_no_sems rfl r.2⟩),
  (fun m ρ _ => Cert.NormKernel.Gen.frame m ρ),
  (fun m ρ _ => Cert.NormKernelIdeal.Gen.frame m ρ),
  (fun m g _ => θ_run_mono (Cert.NormReferenceIdeal.Value.run m g) fun r hr => ⟨fun c => (hr c).2, sem_eq_zero_of_no_sems rfl r.2⟩),
  framePle,
  (fun m ρ _ => Cert.PleKernelIdeal.Hand.frame m ρ),
  (fun m g _ => θ_run_mono (Cert.PleReferenceIdeal.Value.run m g) fun r hr => ⟨fun c => (hr c).2, sem_eq_zero_of_no_sems rfl r.2⟩),
  trivial,
  valueAttn,
  trivial,
  valueMlp,
  trivial,
  valueGates,
  trivial,
  valueQkv,
  trivial,
  valueMerge,
  trivial,
  valueOut,
  trivial,
  valueResid,
  trivial,
  valueResidNorm,
  trivial,
  valueNorm,
  trivial,
  valuePle⟩

end Cert.Proof

end
